-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_finite_and_nonnegative [hPre_scales_are_finite_and_nonnegative : Cert.Pre_scales_are_finite_and_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_finite_and_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_finite_and_nonnegative [hPre_scales_are_finite_and_nonnegative : Cert.Pre_scales_are_finite_and_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_finite_and_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_are_finite_and_nonnegative [hKernelIdeal : Cert.KernelIdeal.Facts] [hPre_scales_are_finite_and_nonnegative : Cert.Pre_scales_are_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_finite_and_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_are_finite_and_nonnegative [hReferenceIdeal : Cert.ReferenceIdeal.Facts] [hPre_scales_are_finite_and_nonnegative : Cert.Pre_scales_are_finite_and_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_finite_and_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)
  ∧ IdealRules.named_const.Statement Cert.KernelIdeal.κ "no_score" .f32 0xF149F2CA#32 ⊥

def preserves_Reference_ReferenceIdeal : Prop :=
  IdealRules.named_const.Statement Cert.ReferenceIdeal.κ "sm_scale" .f32 0x3DB504F3#32 (((Real.sqrt 128)⁻¹ : ℝ) : EReal)

def algebraic_KernelIdeal_ReferenceIdeal_pre_scales_are_finite_and_nonnegative [hKernelIdeal : Cert.KernelIdeal.Facts] [hReferenceIdeal : Cert.ReferenceIdeal.Facts] [hPre_scales_are_finite_and_nonnegative : Cert.Pre_scales_are_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_finite_and_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v57)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_scales_are_finite_and_nonnegative : Cert.Pre_scales_are_finite_and_nonnegative.Facts),
    quiescent_Kernel (hKernel := hKernel)
    ∧ quiescent_KernelIdeal (hKernelIdeal := hKernelIdeal)
    ∧ quiescent_KernelIdeal_pre_scales_are_finite_and_nonnegative (hKernelIdeal := hKernelIdeal) (hPre_scales_are_finite_and_nonnegative := hPre_scales_are_finite_and_nonnegative)
    ∧ quiescent_ReferenceIdeal (hReferenceIdeal := hReferenceIdeal)
    ∧ quiescent_ReferenceIdeal_pre_scales_are_finite_and_nonnegative (hReferenceIdeal := hReferenceIdeal) (hPre_scales_are_finite_and_nonnegative := hPre_scales_are_finite_and_nonnegative)
    ∧ quiescent_Reference (hReference := hReference)
    ∧ preserves_Kernel_KernelIdeal
    ∧ preserves_Reference_ReferenceIdeal
    ∧ algebraic_KernelIdeal_ReferenceIdeal_pre_scales_are_finite_and_nonnegative (hKernelIdeal := hKernelIdeal) (hReferenceIdeal := hReferenceIdeal) (hPre_scales_are_finite_and_nonnegative := hPre_scales_are_finite_and_nonnegative)
-- ==== Pre_scales_are_finite_and_nonnegative.lean ====
abbrev S32x1x16384 : Shape := ⟨3, ![32, 1, 16384]⟩
abbrev S32x1x16x128 : Shape := ⟨4, ![32, 1, 16, 128]⟩
abbrev S32x4096x16x128 : Shape := ⟨4, ![32, 4096, 16, 128]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32x1x16384 .bf16) (main_arg1 : FVec F S32x1x16x128 .bf16) (main_arg2 : FVec F S32x1x16x128 .bf16) (main_arg3 : FVec F S32x4096x16x128 .fp8e4m3) (main_arg4 : FVec F S16 .f32) (main_arg5 : FVec F S32x4096x16x128 .fp8e4m3) (main_arg6 : FVec F S16 .f32) : IVec S_ 1 :=
  let main_cst : FVec F S_ .f32 := constant S_ .f32 0x00000000#32
  let main_v0 : FVec F S16 .f32 := broadcastInDim S16 ![] bcast_S_S16 main_cst
  let main_v1 : IVec S16 1 := cmpf .oge main_arg4 main_v0
  let main_cst_0 : FVec F S_ .f32 := constant S_ .f32 0x7F800000#32
  let main_v2 : FVec F S16 .f32 := broadcastInDim S16 ![] bcast_S_S16 main_cst_0
  let main_v3 : IVec S16 1 := cmpf .olt main_arg4 main_v2
  let main_v4 : IVec S16 1 := andi main_v1 main_v3
  let main_cst_1 : FVec F S_ .f32 := constant S_ .f32 0x00000000#32
  let main_v5 : FVec F S16 .f32 := broadcastInDim S16 ![] bcast_S_S16 main_cst_1
  let main_v6 : IVec S16 1 := cmpf .oge main_arg6 main_v5
  let main_v7 : IVec S16 1 := andi main_v4 main_v6
  let main_cst_2 : FVec F S_ .f32 := constant S_ .f32 0x7F800000#32
  let main_v8 : FVec F S16 .f32 := broadcastInDim S16 ![] bcast_S_S16 main_cst_2
  let main_v9 : IVec S16 1 := cmpf .olt main_arg6 main_v8
  let main_v10 : IVec S16 1 := andi main_v7 main_v9
  let main_c : IVec S_ 1 := constantI S_ 1 1#1
  let main_v11 : IVec S_ 1 := (fun x v => Host.reduce IntOp.andi x v reducesTo_S16_S_d0 h_S_) main_v10 main_c
  main_v11
-- ==== Kernel.lean ====
abbrev S32x1x16384 : Shape := ⟨3, ![32, 1, 16384]⟩
abbrev S32x1x16x128 : Shape := ⟨4, ![32, 1, 16, 128]⟩
abbrev S32x4096x16x128 : Shape := ⟨4, ![32, 4096, 16, 128]⟩
abbrev S16 : Shape := ⟨1, ![16]⟩
abbrev S254 : Shape := ⟨1, ![254]⟩
abbrev S4x1x4 : Shape := ⟨3, ![4, 1, 4]⟩
abbrev S1x4x1x1x1x4 : Shape := ⟨6, ![1, 4, 1, 1, 1, 4]⟩
abbrev S1x4x1x1x32x4 : Shape := ⟨6, ![1, 4, 1, 1, 32, 4]⟩
abbrev S4x1x128 : Shape := ⟨3, ![4, 1, 128]⟩
abbrev S4x8x128 : Shape := ⟨3, ![4, 8, 128]⟩
abbrev S16x8 : Shape := ⟨2, ![16, 8]⟩
abbrev S128 : Shape := ⟨1, ![128]⟩
abbrev S128x1 : Shape := ⟨2, ![128, 1]⟩
abbrev S128x128 : Shape := ⟨2, ![128, 128]⟩
abbrev S32x128x128 : Shape := ⟨3, ![32, 128, 128]⟩
abbrev S32x16x128 : Shape := ⟨3, ![32, 16, 128]⟩
abbrev S16x1 : Shape := ⟨2, ![16, 1]⟩
abbrev S1x254 : Shape := ⟨2, ![1, 254]⟩
abbrev S16x254 : Shape := ⟨2, ![16, 254]⟩
abbrev S_ : Shape := ⟨0, ![]⟩
abbrev S16x128 : Shape := ⟨2, ![16, 128]⟩
abbrev S32x65536x128 : Shape := ⟨3, ![32, 65536, 128]⟩
abbrev S1x128x128 : Shape := ⟨3, ![1, 128, 128]⟩
abbrev S1x16x128 : Shape := ⟨3, ![1, 16, 128]⟩
abbrev S1x65536x128 : Shape := ⟨3, ![1, 65536, 128]⟩
abbrev S4x8x16384 : Shape := ⟨3, ![4, 8, 16384]⟩
abbrev S8x128 : Shape := ⟨2, ![8, 128]⟩
abbrev S32x128 : Shape := ⟨2, ![32, 128]⟩
abbrev S1x32x128 : Shape := ⟨3, ![1, 32, 128]⟩
abbrev S32x256 : Shape := ⟨2, ![32, 256]⟩
abbrev S64x256 : Shape := ⟨2, ![64, 256]⟩
abbrev S1x8x128 : Shape := ⟨3, ![1, 8, 128]⟩
abbrev S1x1024x128 : Shape := ⟨3, ![1, 1024, 128]⟩
abbrev S1024x128 : Shape := ⟨2, ![1024, 128]⟩
abbrev S64x4x4x128 : Shape := ⟨4, ![64, 4, 4, 128]⟩
abbrev S64x1x4x128 : Shape := ⟨4, ![64, 1, 4, 128]⟩
abbrev S64x4x128 : Shape := ⟨3, ![64, 4, 128]⟩
abbrev S256x128 : Shape := ⟨2, ![256, 128]⟩
abbrev S256x256 : Shape := ⟨2, ![256, 256]⟩
abbrev S8 : Shape := ⟨1, ![8]⟩
abbrev S8x1 : Shape := ⟨2, ![8, 1]⟩
abbrev S32x1 : Shape := ⟨2, ![32, 1]⟩
abbrev S4x128 : Shape := ⟨2, ![4, 128]⟩
abbrev S32 : Shape := ⟨1, ![32]⟩

abbrev nBuf : Space → Nat
  | .hbm => 91
  | .vmem => 22
  | .smem => 0
  | _ => 0

abbrev bufTy : (tb : Table) → Fin (tcTables nBuf tb) → BufTy
  | .hbm, ⟨0, _⟩ => ⟨S32x1x16384, .bf16⟩
  | .hbm, ⟨1, _⟩ => ⟨S32x1x16x128, .bf16⟩
  | .hbm, ⟨2, _⟩ => ⟨S32x1x16x128, .bf16⟩
  | .hbm, ⟨3, _⟩ => ⟨S32x4096x16x128, .fp8e4m3⟩
  | .hbm, ⟨4, _⟩ => ⟨S16, .f32⟩
  | .hbm, ⟨5, _⟩ => ⟨S32x4096x16x128, .fp8e4m3⟩
  | .hbm, ⟨6, _⟩ => ⟨S16, .f32⟩
  | .hbm, ⟨7, _⟩ => ⟨S254, .f32⟩
  | .hbm, ⟨8, _⟩ => ⟨S254, .f32⟩
  | .hbm, ⟨9, _⟩ => ⟨S254, .f32⟩
  | .hbm, ⟨10, _⟩ => ⟨S254, .f32⟩
  | .hbm, ⟨11, _⟩ => ⟨S16, .bf16⟩
  | .hbm, ⟨12, _⟩ => ⟨S16, .f32⟩
  | .hbm, ⟨13, _⟩ => ⟨S16, .bf16⟩
  | .hbm, ⟨14, _⟩ => ⟨S16, .f32⟩
  | .hbm, ⟨15, _⟩ => ⟨S4x1x4, .f32⟩
  | .hbm, ⟨16, _⟩ => ⟨S1x4x1x1x1x4, .f32⟩
  | .hbm, ⟨17, _⟩ => ⟨S1x4x1x1x32x4, .f32⟩
  | .hbm, ⟨18, _⟩ => ⟨S4x1x128, .f32⟩
  | .hbm, ⟨19, _⟩ => ⟨S4x8x128, .f32⟩
  | .hbm, ⟨20, _⟩ => ⟨S16x8, .f32⟩
  | .hbm, ⟨21, _⟩ => ⟨S128, .f32⟩
  | .hbm, ⟨22, _⟩ => ⟨S128x1, .f32⟩
  | .hbm, ⟨23, _⟩ => ⟨S128x128, .f32⟩
  | .hbm, ⟨24, _⟩ => ⟨S16x8, .f32⟩
  | .hbm, ⟨25, _⟩ => ⟨S128, .f32⟩
  | .hbm, ⟨26, _⟩ => ⟨S128x1, .f32⟩
  | .hbm, ⟨27, _⟩ => ⟨S128x128, .f32⟩
  | .hbm, ⟨28, _⟩ => ⟨S32x128x128, .bf16⟩
  | .hbm, ⟨29, _⟩ => ⟨S32x16x128, .bf16⟩
  | .hbm, ⟨30, _⟩ => ⟨S32x16x128, .bf16⟩
  | .hbm, ⟨31, _⟩ => ⟨S16, .f32⟩
  | .hbm, ⟨32, _⟩ => ⟨S16x1, .f32⟩
  | .hbm, ⟨33, _⟩ => ⟨S1x254, .f32⟩
  | .hbm, ⟨34, _⟩ => ⟨S16x254, .f32⟩
  | .hbm, ⟨35, _⟩ => ⟨S16x254, .f32⟩
  | .hbm, ⟨36, _⟩ => ⟨S16x254, .i1⟩
  | .hbm, ⟨37, _⟩ => ⟨S_, .f32⟩
  | .hbm, ⟨38, _⟩ => ⟨S_, .f32⟩
  | .hbm, ⟨39, _⟩ => ⟨S16x254, .f32⟩
  | .hbm, ⟨40, _⟩ => ⟨S16x254, .f32⟩
  | .hbm, ⟨41, _⟩ => ⟨S16x254, .f32⟩
  | .hbm, ⟨42, _⟩ => ⟨S_, .f32⟩
  | .hbm, ⟨43, _⟩ => ⟨S16, .f32⟩
  | .hbm, ⟨44, _⟩ => ⟨S16, .i1⟩
  | .hbm, ⟨45, _⟩ => ⟨S_, .f32⟩
  | .hbm, ⟨46, _⟩ => ⟨S16, .f32⟩
  | .hbm, ⟨47, _⟩ => ⟨S16, .i1⟩
  | .hbm, ⟨48, _⟩ => ⟨S16, .i1⟩
  | .hbm, ⟨49, _⟩ => ⟨S_, .f32⟩
  | .hbm, ⟨50, _⟩ => ⟨S16, .f32⟩
  | .hbm, ⟨51, _⟩ => ⟨S_, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16x1, .f32⟩
  | .hbm, ⟨56, _⟩ => ⟨S16x128, .f32⟩
  | .hbm, ⟨57, _⟩ => ⟨S16, .f32⟩
  | .hbm, ⟨58, _⟩ => ⟨S16x1, .f32⟩
  | .hbm, ⟨59, _⟩ => ⟨S1x254, .f32⟩
  | .hbm, ⟨60, _⟩ => ⟨S16x254, .f32⟩
  | .hbm, ⟨61, _⟩ => ⟨S16x254, .f32⟩
  | .hbm, ⟨62, _⟩ => ⟨S16x254, .i1⟩
  | .hbm, ⟨63, _⟩ => ⟨S_, .f32⟩
  | .hbm, ⟨64, _⟩ => ⟨S_, .f32⟩
  | .hbm, ⟨65, _⟩ => ⟨S16x254, .f32⟩
  | .hbm, ⟨66, _⟩ => ⟨S16x254, .f32⟩
  | .hbm, ⟨67, _⟩ => ⟨S16x254, .f32⟩
  | .hbm, ⟨68, _⟩ => ⟨S_, .f32⟩
  | .hbm, ⟨69, _⟩ => ⟨S16, .f32⟩
  | .hbm, ⟨70, _⟩ => ⟨S16, .i1⟩
  | .hbm, ⟨71, _⟩ => ⟨S_, .f32⟩
  | .hbm, ⟨72, _⟩ => ⟨S16, .f32⟩
  | .hbm, ⟨73, _⟩ => ⟨S16, .i1⟩
  | .hbm, ⟨74, _⟩ => ⟨S16, .i1⟩
  | .hbm, ⟨75, _⟩ => ⟨S_, .f32⟩
  | .hbm, ⟨76, _⟩ => ⟨S16, .f32⟩
  | .hbm, ⟨77, _⟩ => ⟨S_, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16x1, .f32⟩
  | .hbm, ⟨82, _⟩ => ⟨S16x128, .f32⟩
  | .hbm, ⟨83, _⟩ => ⟨S32x65536x128, .fp8e4m3⟩
  | .hbm, ⟨84, _⟩ => ⟨S32x65536x128, .fp8e4m3⟩
  | .hbm, ⟨85, _⟩ => ⟨S32x128x128, .bf16⟩
  | .hbm, ⟨86, _⟩ => ⟨S32x16x128, .fp8e4m3⟩
  | .hbm, ⟨87, _⟩ => ⟨S32x16x128, .fp8e4m3⟩
  | .hbm, ⟨88, _⟩ => ⟨S32x1x16384, .bf16⟩
  | .hbm, ⟨89, _⟩ => ⟨S32x1x16x128, .fp8e4m3⟩
  | .hbm, ⟨90, _⟩ => ⟨S32x1x16x128, .fp8e4m3⟩
  | .local _ .vmem, ⟨0, _⟩ => ⟨S1x128x128, .bf16⟩
  | .local _ .vmem, ⟨1, _⟩ => ⟨S1x128x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x16x128, .bf16⟩
  | .local _ .vmem, ⟨6, _⟩ => ⟨S16x128, .f32⟩
  | .local _ .vmem, ⟨7, _⟩ => ⟨S16x128, .f32⟩
  | .local _ .vmem, ⟨8, _⟩ => ⟨S4x8x128, .f32⟩
  | .local _ .vmem, ⟨9, _⟩ => ⟨S128x128, .f32⟩
  | .local _ .vmem, ⟨10, _⟩ => ⟨S128x128, .f32⟩
  | .local _ .vmem, ⟨11, _⟩ => ⟨S1x65536x128, .fp8e4m3⟩
  | .local _ .vmem, ⟨12, _⟩ => ⟨S1x65536x128, .fp8e4m3⟩
  | .local _ .vmem, ⟨13, _⟩ => ⟨S1x65536x128, .fp8e4m3⟩
  | .local _ .vmem, ⟨14, _⟩ => ⟨S1x65536x128, .fp8e4m3⟩
  | .local _ .vmem, ⟨15, _⟩ => ⟨S1x128x128, .bf16⟩
  | .local _ .vmem, ⟨16, _⟩ => ⟨S1x128x128, .bf16⟩
  | .local _ .vmem, ⟨17, _⟩ => ⟨S1x16x128, .fp8e4m3⟩
  | .local _ .vmem, ⟨18, _⟩ => ⟨S1x16x128, .fp8e4m3⟩
  | .local _ .vmem, ⟨19, _⟩ => ⟨S1x16x128, .fp8e4m3⟩
  | .local _ .vmem, ⟨20, _⟩ => ⟨S1x16x128, .fp8e4m3⟩
  | .local _ .vmem, ⟨21, _⟩ => ⟨S4x8x16384, .f32⟩
  | _, _ => ⟨S32x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_call3_v0 : Ref sig .tc := ⟨.hbm, 78, rfl⟩
abbrev main_call3_v1 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54_0 : Ref sig .tc := ⟨.hbm, 85, rfl⟩
abbrev main_v54_1 : Ref sig .tc := ⟨.hbm, 86, rfl⟩
abbrev main_v54_2 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_32 : BitVec 32 := 0#32
  let c8_i32 : BitVec 32 := 8#32
  let v64 : BitVec 32 := Scalar.addi c0_i32_32 c8_i32
  let c1_i32_33 : BitVec 32 := 1#32
  ⟨c0_i32_32, v64, c1_i32_33⟩
def k0_mult1 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off1 (k0_t1 : Fin k0_t1_loop.trips) (c0_i32_190 : BitVec 32) (c0_i32_191 : BitVec 32) : Fin 3 → Nat :=
  let c0_192 : Index := 0#32
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult2 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult3 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v512 : BitVec 32 := Scalar.muli v479 c512_i32
  v512
def k0_off2 (k0_t1 : Fin k0_t1_loop.trips) (c0_i32_190 : BitVec 32) (c0_i32_198 : BitVec 32) : Fin 3 → Nat :=
  let c0_199 : Index := 0#32
  let c0_200 : Index := 0#32
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let v479 : BitVec 32 := Scalar.addi v478 c0_i32_190
  let c512_i32 : BitVec 32 := 512#32
  let v512 : BitVec 32 := Scalar.muli v479 c512_i32
  let v513 : BitVec 32 := v512
  let v514 : BitVec 32 := Scalar.addi v513 c0_i32_198
  let v515 : Index := Scalar.indexCast v514
  ![0, 0, v515.toNat]
def k0_mult4 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c512_i32_201 : BitVec 32 := 512#32
  let v529 : BitVec 32 := Scalar.muli v479 c512_i32_201
  v529
def k0_mult5 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c512_i32_205 : BitVec 32 := 512#32
  let v546 : BitVec 32 := Scalar.muli v479 c512_i32_205
  v546
def k0_mult6 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_189 : BitVec 32 := 4#32
  let v478 : BitVec 32 := Scalar.muli arg15 c4_i32_189
  let c0_i32_190 : BitVec 32 := 0#32
  let v479 : BitVec 32 := Scalar.addi v478 c0_i32_190
  let c512_i32_208 : BitVec 32 := 512#32
  let v563 : BitVec 32 := Scalar.muli v479 c512_i32_208
  v563
def k0_mult7 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c0_i32_214 : BitVec 32 := 0#32
  let v574 : BitVec 32 := Scalar.addi v573 c0_i32_214
  let c16_i32_215 : BitVec 32 := 16#32
  let v575 : BitVec 32 := Scalar.muli v574 c16_i32_215
  v575
def k0_mult8 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c64_i32_218 : BitVec 32 := 64#32
  let v584 : BitVec 32 := Scalar.addi v573 c64_i32_218
  let c16_i32_219 : BitVec 32 := 16#32
  let v585 : BitVec 32 := Scalar.muli v584 c16_i32_219
  v585
def k0_mult9 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c512_i32_223 : BitVec 32 := 512#32
  let v605 : BitVec 32 := Scalar.muli v572 c512_i32_223
  v605
def k0_mult10 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c512_i32_227 : BitVec 32 := 512#32
  let v622 : BitVec 32 := Scalar.muli v572 c512_i32_227
  v622
def k0_mult11 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c512_i32_231 : BitVec 32 := 512#32
  let v639 : BitVec 32 := Scalar.muli v572 c512_i32_231
  v639
def k0_mult12 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_211 : BitVec 32 := 4#32
  let v571 : BitVec 32 := Scalar.muli arg15 c4_i32_211
  let c1_i32_212 : BitVec 32 := 1#32
  let v572 : BitVec 32 := Scalar.addi v571 c1_i32_212
  let c512_i32_235 : BitVec 32 := 512#32
  let v656 : BitVec 32 := Scalar.muli v572 c512_i32_235
  v656
def k0_mult13 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c0_i32_242 : BitVec 32 := 0#32
  let v667 : BitVec 32 := Scalar.addi v666 c0_i32_242
  let c16_i32_243 : BitVec 32 := 16#32
  let v668 : BitVec 32 := Scalar.muli v667 c16_i32_243
  v668
def k0_mult14 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c64_i32_246 : BitVec 32 := 64#32
  let v677 : BitVec 32 := Scalar.addi v666 c64_i32_246
  let c16_i32_247 : BitVec 32 := 16#32
  let v678 : BitVec 32 := Scalar.muli v677 c16_i32_247
  v678
def k0_mult15 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c512_i32_251 : BitVec 32 := 512#32
  let v698 : BitVec 32 := Scalar.muli v665 c512_i32_251
  v698
def k0_mult16 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c512_i32_255 : BitVec 32 := 512#32
  let v715 : BitVec 32 := Scalar.muli v665 c512_i32_255
  v715
def k0_mult17 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c512_i32_259 : BitVec 32 := 512#32
  let v732 : BitVec 32 := Scalar.muli v665 c512_i32_259
  v732
def k0_mult18 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_239 : BitVec 32 := 4#32
  let v664 : BitVec 32 := Scalar.muli arg15 c4_i32_239
  let c2_i32_240 : BitVec 32 := 2#32
  let v665 : BitVec 32 := Scalar.addi v664 c2_i32_240
  let c512_i32_263 : BitVec 32 := 512#32
  let v749 : BitVec 32 := Scalar.muli v665 c512_i32_263
  v749
def k0_mult19 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c0_i32_270 : BitVec 32 := 0#32
  let v760 : BitVec 32 := Scalar.addi v759 c0_i32_270
  let c16_i32_271 : BitVec 32 := 16#32
  let v761 : BitVec 32 := Scalar.muli v760 c16_i32_271
  v761
def k0_mult20 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c64_i32_274 : BitVec 32 := 64#32
  let v770 : BitVec 32 := Scalar.addi v759 c64_i32_274
  let c16_i32_275 : BitVec 32 := 16#32
  let v771 : BitVec 32 := Scalar.muli v770 c16_i32_275
  v771
def k0_mult21 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c512_i32_279 : BitVec 32 := 512#32
  let v791 : BitVec 32 := Scalar.muli v758 c512_i32_279
  v791
def k0_mult22 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c512_i32_283 : BitVec 32 := 512#32
  let v808 : BitVec 32 := Scalar.muli v758 c512_i32_283
  v808
def k0_mult23 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c512_i32_287 : BitVec 32 := 512#32
  let v825 : BitVec 32 := Scalar.muli v758 c512_i32_287
  v825
def k0_mult24 (k0_t1 : Fin k0_t1_loop.trips) : BitVec 32 :=
  let c0_i32_32 : BitVec 32 := 0#32
  let c1_i32_33 : BitVec 32 := 1#32
  let arg15 : BitVec 32 := Scf.iv c0_i32_32 c1_i32_33 k0_t1
  let c4_i32_267 : BitVec 32 := 4#32
  let v757 : BitVec 32 := Scalar.muli arg15 c4_i32_267
  let c3_i32_268 : BitVec 32 := 3#32
  let v758 : BitVec 32 := Scalar.addi v757 c3_i32_268
  let c512_i32_291 : BitVec 32 := 512#32
  let v842 : BitVec 32 := Scalar.muli v758 c512_i32_291
  v842
@[reducible] def k0_t2_loop : Scf.Loop 32 :=
  let c0_i32_45 : BitVec 32 := 0#32
  let c8_i32_46 : BitVec 32 := 8#32
  let v95 : BitVec 32 := Scalar.addi c0_i32_45 c8_i32_46
  let c1_i32_47 : BitVec 32 := 1#32
  ⟨c0_i32_45, v95, c1_i32_47⟩
def k0_mult25 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off3 (k0_t2 : Fin k0_t2_loop.trips) (c0_i32_190 : BitVec 32) (c0_i32_191 : BitVec 32) : Fin 3 → Nat :=
  let c0_192 : Index := 0#32
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult26 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult27 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v502 : BitVec 32 := Scalar.muli v479 c512_i32
  v502
def k0_off4 (k0_t2 : Fin k0_t2_loop.trips) (c0_i32_190 : BitVec 32) (c0_i32_197 : BitVec 32) : Fin 3 → Nat :=
  let c0_198 : Index := 0#32
  let c0_199 : Index := 0#32
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let v479 : BitVec 32 := Scalar.addi v478 c0_i32_190
  let c512_i32 : BitVec 32 := 512#32
  let v502 : BitVec 32 := Scalar.muli v479 c512_i32
  let v503 : BitVec 32 := v502
  let v504 : BitVec 32 := Scalar.addi v503 c0_i32_197
  let v505 : Index := Scalar.indexCast v504
  ![0, 0, v505.toNat]
def k0_mult28 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c512_i32_204 : BitVec 32 := 512#32
  let v520 : BitVec 32 := Scalar.muli v479 c512_i32_204
  v520
def k0_mult29 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c512_i32_212 : BitVec 32 := 512#32
  let v539 : BitVec 32 := Scalar.muli v479 c512_i32_212
  v539
def k0_mult30 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_189 : BitVec 32 := 4#32
  let v478 : BitVec 32 := Scalar.muli arg15 c4_i32_189
  let c0_i32_190 : BitVec 32 := 0#32
  let v479 : BitVec 32 := Scalar.addi v478 c0_i32_190
  let c512_i32_219 : BitVec 32 := 512#32
  let v557 : BitVec 32 := Scalar.muli v479 c512_i32_219
  v557
def k0_mult31 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c0_i32_230 : BitVec 32 := 0#32
  let v583 : BitVec 32 := Scalar.addi v582 c0_i32_230
  let c16_i32_231 : BitVec 32 := 16#32
  let v584 : BitVec 32 := Scalar.muli v583 c16_i32_231
  v584
def k0_mult32 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c64_i32_234 : BitVec 32 := 64#32
  let v593 : BitVec 32 := Scalar.addi v582 c64_i32_234
  let c16_i32_235 : BitVec 32 := 16#32
  let v594 : BitVec 32 := Scalar.muli v593 c16_i32_235
  v594
def k0_mult33 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c512_i32_238 : BitVec 32 := 512#32
  let v604 : BitVec 32 := Scalar.muli v581 c512_i32_238
  v604
def k0_mult34 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c512_i32_246 : BitVec 32 := 512#32
  let v622 : BitVec 32 := Scalar.muli v581 c512_i32_246
  v622
def k0_mult35 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c512_i32_254 : BitVec 32 := 512#32
  let v641 : BitVec 32 := Scalar.muli v581 c512_i32_254
  v641
def k0_mult36 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_227 : BitVec 32 := 4#32
  let v580 : BitVec 32 := Scalar.muli arg15 c4_i32_227
  let c1_i32_228 : BitVec 32 := 1#32
  let v581 : BitVec 32 := Scalar.addi v580 c1_i32_228
  let c512_i32_262 : BitVec 32 := 512#32
  let v659 : BitVec 32 := Scalar.muli v581 c512_i32_262
  v659
def k0_mult37 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c0_i32_274 : BitVec 32 := 0#32
  let v685 : BitVec 32 := Scalar.addi v684 c0_i32_274
  let c16_i32_275 : BitVec 32 := 16#32
  let v686 : BitVec 32 := Scalar.muli v685 c16_i32_275
  v686
def k0_mult38 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c64_i32_278 : BitVec 32 := 64#32
  let v695 : BitVec 32 := Scalar.addi v684 c64_i32_278
  let c16_i32_279 : BitVec 32 := 16#32
  let v696 : BitVec 32 := Scalar.muli v695 c16_i32_279
  v696
def k0_mult39 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c512_i32_282 : BitVec 32 := 512#32
  let v706 : BitVec 32 := Scalar.muli v683 c512_i32_282
  v706
def k0_mult40 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c512_i32_290 : BitVec 32 := 512#32
  let v724 : BitVec 32 := Scalar.muli v683 c512_i32_290
  v724
def k0_mult41 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c512_i32_298 : BitVec 32 := 512#32
  let v743 : BitVec 32 := Scalar.muli v683 c512_i32_298
  v743
def k0_mult42 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_271 : BitVec 32 := 4#32
  let v682 : BitVec 32 := Scalar.muli arg15 c4_i32_271
  let c2_i32_272 : BitVec 32 := 2#32
  let v683 : BitVec 32 := Scalar.addi v682 c2_i32_272
  let c512_i32_306 : BitVec 32 := 512#32
  let v761 : BitVec 32 := Scalar.muli v683 c512_i32_306
  v761
def k0_mult43 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c0_i32_318 : BitVec 32 := 0#32
  let v787 : BitVec 32 := Scalar.addi v786 c0_i32_318
  let c16_i32_319 : BitVec 32 := 16#32
  let v788 : BitVec 32 := Scalar.muli v787 c16_i32_319
  v788
def k0_mult44 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c64_i32_322 : BitVec 32 := 64#32
  let v797 : BitVec 32 := Scalar.addi v786 c64_i32_322
  let c16_i32_323 : BitVec 32 := 16#32
  let v798 : BitVec 32 := Scalar.muli v797 c16_i32_323
  v798
def k0_mult45 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c512_i32_326 : BitVec 32 := 512#32
  let v808 : BitVec 32 := Scalar.muli v785 c512_i32_326
  v808
def k0_mult46 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c512_i32_334 : BitVec 32 := 512#32
  let v826 : BitVec 32 := Scalar.muli v785 c512_i32_334
  v826
def k0_mult47 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c512_i32_342 : BitVec 32 := 512#32
  let v845 : BitVec 32 := Scalar.muli v785 c512_i32_342
  v845
def k0_mult48 (k0_t2 : Fin k0_t2_loop.trips) : BitVec 32 :=
  let c0_i32_45 : BitVec 32 := 0#32
  let c1_i32_47 : BitVec 32 := 1#32
  let arg15 : BitVec 32 := Scf.iv c0_i32_45 c1_i32_47 k0_t2
  let c4_i32_315 : BitVec 32 := 4#32
  let v784 : BitVec 32 := Scalar.muli arg15 c4_i32_315
  let c3_i32_316 : BitVec 32 := 3#32
  let v785 : BitVec 32 := Scalar.addi v784 c3_i32_316
  let c512_i32_350 : BitVec 32 := 512#32
  let v863 : BitVec 32 := Scalar.muli v785 c512_i32_350
  v863
@[reducible] def k0_t3_loop : Scf.Loop 32 :=
  let c0_i32_72 : BitVec 32 := 0#32
  let c8_i32_73 : BitVec 32 := 8#32
  let v170 : BitVec 32 := Scalar.addi c0_i32_72 c8_i32_73
  let c1_i32_74 : BitVec 32 := 1#32
  ⟨c0_i32_72, v170, c1_i32_74⟩
def k0_mult49 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off5 (k0_t3 : Fin k0_t3_loop.trips) (c0_i32_190 : BitVec 32) (c0_i32_191 : BitVec 32) : Fin 3 → Nat :=
  let c0_192 : Index := 0#32
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult50 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult51 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v512 : BitVec 32 := Scalar.muli v479 c512_i32
  v512
def k0_off6 (k0_t3 : Fin k0_t3_loop.trips) (c0_i32_190 : BitVec 32) (c0_i32_198 : BitVec 32) : Fin 3 → Nat :=
  let c1_199 : Index := 1#32
  let c0_200 : Index := 0#32
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let v479 : BitVec 32 := Scalar.addi v478 c0_i32_190
  let c512_i32 : BitVec 32 := 512#32
  let v512 : BitVec 32 := Scalar.muli v479 c512_i32
  let v513 : BitVec 32 := v512
  let v514 : BitVec 32 := Scalar.addi v513 c0_i32_198
  let v515 : Index := Scalar.indexCast v514
  ![1, 0, v515.toNat]
def k0_mult52 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c512_i32_201 : BitVec 32 := 512#32
  let v529 : BitVec 32 := Scalar.muli v479 c512_i32_201
  v529
def k0_mult53 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c512_i32_205 : BitVec 32 := 512#32
  let v546 : BitVec 32 := Scalar.muli v479 c512_i32_205
  v546
def k0_mult54 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_189 : BitVec 32 := 4#32
  let v478 : BitVec 32 := Scalar.muli arg15 c4_i32_189
  let c0_i32_190 : BitVec 32 := 0#32
  let v479 : BitVec 32 := Scalar.addi v478 c0_i32_190
  let c512_i32_208 : BitVec 32 := 512#32
  let v563 : BitVec 32 := Scalar.muli v479 c512_i32_208
  v563
def k0_mult55 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c0_i32_214 : BitVec 32 := 0#32
  let v574 : BitVec 32 := Scalar.addi v573 c0_i32_214
  let c16_i32_215 : BitVec 32 := 16#32
  let v575 : BitVec 32 := Scalar.muli v574 c16_i32_215
  v575
def k0_mult56 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c64_i32_218 : BitVec 32 := 64#32
  let v584 : BitVec 32 := Scalar.addi v573 c64_i32_218
  let c16_i32_219 : BitVec 32 := 16#32
  let v585 : BitVec 32 := Scalar.muli v584 c16_i32_219
  v585
def k0_mult57 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c512_i32_223 : BitVec 32 := 512#32
  let v605 : BitVec 32 := Scalar.muli v572 c512_i32_223
  v605
def k0_mult58 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c512_i32_227 : BitVec 32 := 512#32
  let v622 : BitVec 32 := Scalar.muli v572 c512_i32_227
  v622
def k0_mult59 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c512_i32_231 : BitVec 32 := 512#32
  let v639 : BitVec 32 := Scalar.muli v572 c512_i32_231
  v639
def k0_mult60 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_211 : BitVec 32 := 4#32
  let v571 : BitVec 32 := Scalar.muli arg15 c4_i32_211
  let c1_i32_212 : BitVec 32 := 1#32
  let v572 : BitVec 32 := Scalar.addi v571 c1_i32_212
  let c512_i32_235 : BitVec 32 := 512#32
  let v656 : BitVec 32 := Scalar.muli v572 c512_i32_235
  v656
def k0_mult61 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c0_i32_242 : BitVec 32 := 0#32
  let v667 : BitVec 32 := Scalar.addi v666 c0_i32_242
  let c16_i32_243 : BitVec 32 := 16#32
  let v668 : BitVec 32 := Scalar.muli v667 c16_i32_243
  v668
def k0_mult62 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c64_i32_246 : BitVec 32 := 64#32
  let v677 : BitVec 32 := Scalar.addi v666 c64_i32_246
  let c16_i32_247 : BitVec 32 := 16#32
  let v678 : BitVec 32 := Scalar.muli v677 c16_i32_247
  v678
def k0_mult63 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c512_i32_251 : BitVec 32 := 512#32
  let v698 : BitVec 32 := Scalar.muli v665 c512_i32_251
  v698
def k0_mult64 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c512_i32_255 : BitVec 32 := 512#32
  let v715 : BitVec 32 := Scalar.muli v665 c512_i32_255
  v715
def k0_mult65 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c512_i32_259 : BitVec 32 := 512#32
  let v732 : BitVec 32 := Scalar.muli v665 c512_i32_259
  v732
def k0_mult66 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_239 : BitVec 32 := 4#32
  let v664 : BitVec 32 := Scalar.muli arg15 c4_i32_239
  let c2_i32_240 : BitVec 32 := 2#32
  let v665 : BitVec 32 := Scalar.addi v664 c2_i32_240
  let c512_i32_263 : BitVec 32 := 512#32
  let v749 : BitVec 32 := Scalar.muli v665 c512_i32_263
  v749
def k0_mult67 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c0_i32_270 : BitVec 32 := 0#32
  let v760 : BitVec 32 := Scalar.addi v759 c0_i32_270
  let c16_i32_271 : BitVec 32 := 16#32
  let v761 : BitVec 32 := Scalar.muli v760 c16_i32_271
  v761
def k0_mult68 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c64_i32_274 : BitVec 32 := 64#32
  let v770 : BitVec 32 := Scalar.addi v759 c64_i32_274
  let c16_i32_275 : BitVec 32 := 16#32
  let v771 : BitVec 32 := Scalar.muli v770 c16_i32_275
  v771
def k0_mult69 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c512_i32_279 : BitVec 32 := 512#32
  let v791 : BitVec 32 := Scalar.muli v758 c512_i32_279
  v791
def k0_mult70 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c512_i32_283 : BitVec 32 := 512#32
  let v808 : BitVec 32 := Scalar.muli v758 c512_i32_283
  v808
def k0_mult71 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c512_i32_287 : BitVec 32 := 512#32
  let v825 : BitVec 32 := Scalar.muli v758 c512_i32_287
  v825
def k0_mult72 (k0_t3 : Fin k0_t3_loop.trips) : BitVec 32 :=
  let c0_i32_72 : BitVec 32 := 0#32
  let c1_i32_74 : BitVec 32 := 1#32
  let arg15 : BitVec 32 := Scf.iv c0_i32_72 c1_i32_74 k0_t3
  let c4_i32_267 : BitVec 32 := 4#32
  let v757 : BitVec 32 := Scalar.muli arg15 c4_i32_267
  let c3_i32_268 : BitVec 32 := 3#32
  let v758 : BitVec 32 := Scalar.addi v757 c3_i32_268
  let c512_i32_291 : BitVec 32 := 512#32
  let v842 : BitVec 32 := Scalar.muli v758 c512_i32_291
  v842
@[reducible] def k0_t4_loop : Scf.Loop 32 :=
  let c0_i32_86 : BitVec 32 := 0#32
  let c8_i32_87 : BitVec 32 := 8#32
  let v201 : BitVec 32 := Scalar.addi c0_i32_86 c8_i32_87
  let c1_i32_88 : BitVec 32 := 1#32
  ⟨c0_i32_86, v201, c1_i32_88⟩
def k0_mult73 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off7 (k0_t4 : Fin k0_t4_loop.trips) (c0_i32_190 : BitVec 32) (c0_i32_191 : BitVec 32) : Fin 3 → Nat :=
  let c0_192 : Index := 0#32
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult74 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult75 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v502 : BitVec 32 := Scalar.muli v479 c512_i32
  v502
def k0_off8 (k0_t4 : Fin k0_t4_loop.trips) (c0_i32_190 : BitVec 32) (c0_i32_197 : BitVec 32) : Fin 3 → Nat :=
  let c1_198 : Index := 1#32
  let c0_199 : Index := 0#32
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let v479 : BitVec 32 := Scalar.addi v478 c0_i32_190
  let c512_i32 : BitVec 32 := 512#32
  let v502 : BitVec 32 := Scalar.muli v479 c512_i32
  let v503 : BitVec 32 := v502
  let v504 : BitVec 32 := Scalar.addi v503 c0_i32_197
  let v505 : Index := Scalar.indexCast v504
  ![1, 0, v505.toNat]
def k0_mult76 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c512_i32_204 : BitVec 32 := 512#32
  let v520 : BitVec 32 := Scalar.muli v479 c512_i32_204
  v520
def k0_mult77 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c512_i32_212 : BitVec 32 := 512#32
  let v539 : BitVec 32 := Scalar.muli v479 c512_i32_212
  v539
def k0_mult78 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_189 : BitVec 32 := 4#32
  let v478 : BitVec 32 := Scalar.muli arg15 c4_i32_189
  let c0_i32_190 : BitVec 32 := 0#32
  let v479 : BitVec 32 := Scalar.addi v478 c0_i32_190
  let c512_i32_219 : BitVec 32 := 512#32
  let v557 : BitVec 32 := Scalar.muli v479 c512_i32_219
  v557
def k0_mult79 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c0_i32_230 : BitVec 32 := 0#32
  let v583 : BitVec 32 := Scalar.addi v582 c0_i32_230
  let c16_i32_231 : BitVec 32 := 16#32
  let v584 : BitVec 32 := Scalar.muli v583 c16_i32_231
  v584
def k0_mult80 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c64_i32_234 : BitVec 32 := 64#32
  let v593 : BitVec 32 := Scalar.addi v582 c64_i32_234
  let c16_i32_235 : BitVec 32 := 16#32
  let v594 : BitVec 32 := Scalar.muli v593 c16_i32_235
  v594
def k0_mult81 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c512_i32_238 : BitVec 32 := 512#32
  let v604 : BitVec 32 := Scalar.muli v581 c512_i32_238
  v604
def k0_mult82 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c512_i32_246 : BitVec 32 := 512#32
  let v622 : BitVec 32 := Scalar.muli v581 c512_i32_246
  v622
def k0_mult83 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c512_i32_254 : BitVec 32 := 512#32
  let v641 : BitVec 32 := Scalar.muli v581 c512_i32_254
  v641
def k0_mult84 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_227 : BitVec 32 := 4#32
  let v580 : BitVec 32 := Scalar.muli arg15 c4_i32_227
  let c1_i32_228 : BitVec 32 := 1#32
  let v581 : BitVec 32 := Scalar.addi v580 c1_i32_228
  let c512_i32_262 : BitVec 32 := 512#32
  let v659 : BitVec 32 := Scalar.muli v581 c512_i32_262
  v659
def k0_mult85 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c0_i32_274 : BitVec 32 := 0#32
  let v685 : BitVec 32 := Scalar.addi v684 c0_i32_274
  let c16_i32_275 : BitVec 32 := 16#32
  let v686 : BitVec 32 := Scalar.muli v685 c16_i32_275
  v686
def k0_mult86 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c64_i32_278 : BitVec 32 := 64#32
  let v695 : BitVec 32 := Scalar.addi v684 c64_i32_278
  let c16_i32_279 : BitVec 32 := 16#32
  let v696 : BitVec 32 := Scalar.muli v695 c16_i32_279
  v696
def k0_mult87 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c512_i32_282 : BitVec 32 := 512#32
  let v706 : BitVec 32 := Scalar.muli v683 c512_i32_282
  v706
def k0_mult88 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c512_i32_290 : BitVec 32 := 512#32
  let v724 : BitVec 32 := Scalar.muli v683 c512_i32_290
  v724
def k0_mult89 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c512_i32_298 : BitVec 32 := 512#32
  let v743 : BitVec 32 := Scalar.muli v683 c512_i32_298
  v743
def k0_mult90 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_271 : BitVec 32 := 4#32
  let v682 : BitVec 32 := Scalar.muli arg15 c4_i32_271
  let c2_i32_272 : BitVec 32 := 2#32
  let v683 : BitVec 32 := Scalar.addi v682 c2_i32_272
  let c512_i32_306 : BitVec 32 := 512#32
  let v761 : BitVec 32 := Scalar.muli v683 c512_i32_306
  v761
def k0_mult91 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c0_i32_318 : BitVec 32 := 0#32
  let v787 : BitVec 32 := Scalar.addi v786 c0_i32_318
  let c16_i32_319 : BitVec 32 := 16#32
  let v788 : BitVec 32 := Scalar.muli v787 c16_i32_319
  v788
def k0_mult92 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c64_i32_322 : BitVec 32 := 64#32
  let v797 : BitVec 32 := Scalar.addi v786 c64_i32_322
  let c16_i32_323 : BitVec 32 := 16#32
  let v798 : BitVec 32 := Scalar.muli v797 c16_i32_323
  v798
def k0_mult93 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c512_i32_326 : BitVec 32 := 512#32
  let v808 : BitVec 32 := Scalar.muli v785 c512_i32_326
  v808
def k0_mult94 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c512_i32_334 : BitVec 32 := 512#32
  let v826 : BitVec 32 := Scalar.muli v785 c512_i32_334
  v826
def k0_mult95 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c512_i32_342 : BitVec 32 := 512#32
  let v845 : BitVec 32 := Scalar.muli v785 c512_i32_342
  v845
def k0_mult96 (k0_t4 : Fin k0_t4_loop.trips) : BitVec 32 :=
  let c0_i32_86 : BitVec 32 := 0#32
  let c1_i32_88 : BitVec 32 := 1#32
  let arg15 : BitVec 32 := Scf.iv c0_i32_86 c1_i32_88 k0_t4
  let c4_i32_315 : BitVec 32 := 4#32
  let v784 : BitVec 32 := Scalar.muli arg15 c4_i32_315
  let c3_i32_316 : BitVec 32 := 3#32
  let v785 : BitVec 32 := Scalar.addi v784 c3_i32_316
  let c512_i32_350 : BitVec 32 := 512#32
  let v863 : BitVec 32 := Scalar.muli v785 c512_i32_350
  v863
@[reducible] def k0_t5_loop : Scf.Loop 32 :=
  let c0_i32_113 : BitVec 32 := 0#32
  let c8_i32_114 : BitVec 32 := 8#32
  let v276 : BitVec 32 := Scalar.addi c0_i32_113 c8_i32_114
  let c1_i32_115 : BitVec 32 := 1#32
  ⟨c0_i32_113, v276, c1_i32_115⟩
def k0_mult97 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off9 (k0_t5 : Fin k0_t5_loop.trips) (c0_i32_190 : BitVec 32) (c0_i32_191 : BitVec 32) : Fin 3 → Nat :=
  let c0_192 : Index := 0#32
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult98 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult99 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v512 : BitVec 32 := Scalar.muli v479 c512_i32
  v512
def k0_off10 (k0_t5 : Fin k0_t5_loop.trips) (c0_i32_190 : BitVec 32) (c0_i32_198 : BitVec 32) : Fin 3 → Nat :=
  let c2_199 : Index := 2#32
  let c0_200 : Index := 0#32
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let v479 : BitVec 32 := Scalar.addi v478 c0_i32_190
  let c512_i32 : BitVec 32 := 512#32
  let v512 : BitVec 32 := Scalar.muli v479 c512_i32
  let v513 : BitVec 32 := v512
  let v514 : BitVec 32 := Scalar.addi v513 c0_i32_198
  let v515 : Index := Scalar.indexCast v514
  ![2, 0, v515.toNat]
def k0_mult100 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c512_i32_201 : BitVec 32 := 512#32
  let v529 : BitVec 32 := Scalar.muli v479 c512_i32_201
  v529
def k0_mult101 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c512_i32_205 : BitVec 32 := 512#32
  let v546 : BitVec 32 := Scalar.muli v479 c512_i32_205
  v546
def k0_mult102 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_189 : BitVec 32 := 4#32
  let v478 : BitVec 32 := Scalar.muli arg15 c4_i32_189
  let c0_i32_190 : BitVec 32 := 0#32
  let v479 : BitVec 32 := Scalar.addi v478 c0_i32_190
  let c512_i32_208 : BitVec 32 := 512#32
  let v563 : BitVec 32 := Scalar.muli v479 c512_i32_208
  v563
def k0_mult103 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c0_i32_214 : BitVec 32 := 0#32
  let v574 : BitVec 32 := Scalar.addi v573 c0_i32_214
  let c16_i32_215 : BitVec 32 := 16#32
  let v575 : BitVec 32 := Scalar.muli v574 c16_i32_215
  v575
def k0_mult104 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c64_i32_218 : BitVec 32 := 64#32
  let v584 : BitVec 32 := Scalar.addi v573 c64_i32_218
  let c16_i32_219 : BitVec 32 := 16#32
  let v585 : BitVec 32 := Scalar.muli v584 c16_i32_219
  v585
def k0_mult105 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c512_i32_223 : BitVec 32 := 512#32
  let v605 : BitVec 32 := Scalar.muli v572 c512_i32_223
  v605
def k0_mult106 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c512_i32_227 : BitVec 32 := 512#32
  let v622 : BitVec 32 := Scalar.muli v572 c512_i32_227
  v622
def k0_mult107 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c512_i32_231 : BitVec 32 := 512#32
  let v639 : BitVec 32 := Scalar.muli v572 c512_i32_231
  v639
def k0_mult108 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_211 : BitVec 32 := 4#32
  let v571 : BitVec 32 := Scalar.muli arg15 c4_i32_211
  let c1_i32_212 : BitVec 32 := 1#32
  let v572 : BitVec 32 := Scalar.addi v571 c1_i32_212
  let c512_i32_235 : BitVec 32 := 512#32
  let v656 : BitVec 32 := Scalar.muli v572 c512_i32_235
  v656
def k0_mult109 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c0_i32_242 : BitVec 32 := 0#32
  let v667 : BitVec 32 := Scalar.addi v666 c0_i32_242
  let c16_i32_243 : BitVec 32 := 16#32
  let v668 : BitVec 32 := Scalar.muli v667 c16_i32_243
  v668
def k0_mult110 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c64_i32_246 : BitVec 32 := 64#32
  let v677 : BitVec 32 := Scalar.addi v666 c64_i32_246
  let c16_i32_247 : BitVec 32 := 16#32
  let v678 : BitVec 32 := Scalar.muli v677 c16_i32_247
  v678
def k0_mult111 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c512_i32_251 : BitVec 32 := 512#32
  let v698 : BitVec 32 := Scalar.muli v665 c512_i32_251
  v698
def k0_mult112 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c512_i32_255 : BitVec 32 := 512#32
  let v715 : BitVec 32 := Scalar.muli v665 c512_i32_255
  v715
def k0_mult113 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c512_i32_259 : BitVec 32 := 512#32
  let v732 : BitVec 32 := Scalar.muli v665 c512_i32_259
  v732
def k0_mult114 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_239 : BitVec 32 := 4#32
  let v664 : BitVec 32 := Scalar.muli arg15 c4_i32_239
  let c2_i32_240 : BitVec 32 := 2#32
  let v665 : BitVec 32 := Scalar.addi v664 c2_i32_240
  let c512_i32_263 : BitVec 32 := 512#32
  let v749 : BitVec 32 := Scalar.muli v665 c512_i32_263
  v749
def k0_mult115 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c0_i32_270 : BitVec 32 := 0#32
  let v760 : BitVec 32 := Scalar.addi v759 c0_i32_270
  let c16_i32_271 : BitVec 32 := 16#32
  let v761 : BitVec 32 := Scalar.muli v760 c16_i32_271
  v761
def k0_mult116 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c64_i32_274 : BitVec 32 := 64#32
  let v770 : BitVec 32 := Scalar.addi v759 c64_i32_274
  let c16_i32_275 : BitVec 32 := 16#32
  let v771 : BitVec 32 := Scalar.muli v770 c16_i32_275
  v771
def k0_mult117 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c512_i32_279 : BitVec 32 := 512#32
  let v791 : BitVec 32 := Scalar.muli v758 c512_i32_279
  v791
def k0_mult118 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c512_i32_283 : BitVec 32 := 512#32
  let v808 : BitVec 32 := Scalar.muli v758 c512_i32_283
  v808
def k0_mult119 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c512_i32_287 : BitVec 32 := 512#32
  let v825 : BitVec 32 := Scalar.muli v758 c512_i32_287
  v825
def k0_mult120 (k0_t5 : Fin k0_t5_loop.trips) : BitVec 32 :=
  let c0_i32_113 : BitVec 32 := 0#32
  let c1_i32_115 : BitVec 32 := 1#32
  let arg15 : BitVec 32 := Scf.iv c0_i32_113 c1_i32_115 k0_t5
  let c4_i32_267 : BitVec 32 := 4#32
  let v757 : BitVec 32 := Scalar.muli arg15 c4_i32_267
  let c3_i32_268 : BitVec 32 := 3#32
  let v758 : BitVec 32 := Scalar.addi v757 c3_i32_268
  let c512_i32_291 : BitVec 32 := 512#32
  let v842 : BitVec 32 := Scalar.muli v758 c512_i32_291
  v842
@[reducible] def k0_t6_loop : Scf.Loop 32 :=
  let c0_i32_127 : BitVec 32 := 0#32
  let c8_i32_128 : BitVec 32 := 8#32
  let v307 : BitVec 32 := Scalar.addi c0_i32_127 c8_i32_128
  let c1_i32_129 : BitVec 32 := 1#32
  ⟨c0_i32_127, v307, c1_i32_129⟩
def k0_mult121 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off11 (k0_t6 : Fin k0_t6_loop.trips) (c0_i32_190 : BitVec 32) (c0_i32_191 : BitVec 32) : Fin 3 → Nat :=
  let c0_192 : Index := 0#32
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult122 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult123 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v502 : BitVec 32 := Scalar.muli v479 c512_i32
  v502
def k0_off12 (k0_t6 : Fin k0_t6_loop.trips) (c0_i32_190 : BitVec 32) (c0_i32_197 : BitVec 32) : Fin 3 → Nat :=
  let c2_198 : Index := 2#32
  let c0_199 : Index := 0#32
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let v479 : BitVec 32 := Scalar.addi v478 c0_i32_190
  let c512_i32 : BitVec 32 := 512#32
  let v502 : BitVec 32 := Scalar.muli v479 c512_i32
  let v503 : BitVec 32 := v502
  let v504 : BitVec 32 := Scalar.addi v503 c0_i32_197
  let v505 : Index := Scalar.indexCast v504
  ![2, 0, v505.toNat]
def k0_mult124 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c512_i32_204 : BitVec 32 := 512#32
  let v520 : BitVec 32 := Scalar.muli v479 c512_i32_204
  v520
def k0_mult125 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c512_i32_212 : BitVec 32 := 512#32
  let v539 : BitVec 32 := Scalar.muli v479 c512_i32_212
  v539
def k0_mult126 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_189 : BitVec 32 := 4#32
  let v478 : BitVec 32 := Scalar.muli arg15 c4_i32_189
  let c0_i32_190 : BitVec 32 := 0#32
  let v479 : BitVec 32 := Scalar.addi v478 c0_i32_190
  let c512_i32_219 : BitVec 32 := 512#32
  let v557 : BitVec 32 := Scalar.muli v479 c512_i32_219
  v557
def k0_mult127 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c0_i32_230 : BitVec 32 := 0#32
  let v583 : BitVec 32 := Scalar.addi v582 c0_i32_230
  let c16_i32_231 : BitVec 32 := 16#32
  let v584 : BitVec 32 := Scalar.muli v583 c16_i32_231
  v584
def k0_mult128 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c64_i32_234 : BitVec 32 := 64#32
  let v593 : BitVec 32 := Scalar.addi v582 c64_i32_234
  let c16_i32_235 : BitVec 32 := 16#32
  let v594 : BitVec 32 := Scalar.muli v593 c16_i32_235
  v594
def k0_mult129 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c512_i32_238 : BitVec 32 := 512#32
  let v604 : BitVec 32 := Scalar.muli v581 c512_i32_238
  v604
def k0_mult130 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c512_i32_246 : BitVec 32 := 512#32
  let v622 : BitVec 32 := Scalar.muli v581 c512_i32_246
  v622
def k0_mult131 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c512_i32_254 : BitVec 32 := 512#32
  let v641 : BitVec 32 := Scalar.muli v581 c512_i32_254
  v641
def k0_mult132 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_227 : BitVec 32 := 4#32
  let v580 : BitVec 32 := Scalar.muli arg15 c4_i32_227
  let c1_i32_228 : BitVec 32 := 1#32
  let v581 : BitVec 32 := Scalar.addi v580 c1_i32_228
  let c512_i32_262 : BitVec 32 := 512#32
  let v659 : BitVec 32 := Scalar.muli v581 c512_i32_262
  v659
def k0_mult133 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c0_i32_274 : BitVec 32 := 0#32
  let v685 : BitVec 32 := Scalar.addi v684 c0_i32_274
  let c16_i32_275 : BitVec 32 := 16#32
  let v686 : BitVec 32 := Scalar.muli v685 c16_i32_275
  v686
def k0_mult134 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c64_i32_278 : BitVec 32 := 64#32
  let v695 : BitVec 32 := Scalar.addi v684 c64_i32_278
  let c16_i32_279 : BitVec 32 := 16#32
  let v696 : BitVec 32 := Scalar.muli v695 c16_i32_279
  v696
def k0_mult135 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c512_i32_282 : BitVec 32 := 512#32
  let v706 : BitVec 32 := Scalar.muli v683 c512_i32_282
  v706
def k0_mult136 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c512_i32_290 : BitVec 32 := 512#32
  let v724 : BitVec 32 := Scalar.muli v683 c512_i32_290
  v724
def k0_mult137 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c512_i32_298 : BitVec 32 := 512#32
  let v743 : BitVec 32 := Scalar.muli v683 c512_i32_298
  v743
def k0_mult138 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_271 : BitVec 32 := 4#32
  let v682 : BitVec 32 := Scalar.muli arg15 c4_i32_271
  let c2_i32_272 : BitVec 32 := 2#32
  let v683 : BitVec 32 := Scalar.addi v682 c2_i32_272
  let c512_i32_306 : BitVec 32 := 512#32
  let v761 : BitVec 32 := Scalar.muli v683 c512_i32_306
  v761
def k0_mult139 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c0_i32_318 : BitVec 32 := 0#32
  let v787 : BitVec 32 := Scalar.addi v786 c0_i32_318
  let c16_i32_319 : BitVec 32 := 16#32
  let v788 : BitVec 32 := Scalar.muli v787 c16_i32_319
  v788
def k0_mult140 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c64_i32_322 : BitVec 32 := 64#32
  let v797 : BitVec 32 := Scalar.addi v786 c64_i32_322
  let c16_i32_323 : BitVec 32 := 16#32
  let v798 : BitVec 32 := Scalar.muli v797 c16_i32_323
  v798
def k0_mult141 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c512_i32_326 : BitVec 32 := 512#32
  let v808 : BitVec 32 := Scalar.muli v785 c512_i32_326
  v808
def k0_mult142 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c512_i32_334 : BitVec 32 := 512#32
  let v826 : BitVec 32 := Scalar.muli v785 c512_i32_334
  v826
def k0_mult143 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c512_i32_342 : BitVec 32 := 512#32
  let v845 : BitVec 32 := Scalar.muli v785 c512_i32_342
  v845
def k0_mult144 (k0_t6 : Fin k0_t6_loop.trips) : BitVec 32 :=
  let c0_i32_127 : BitVec 32 := 0#32
  let c1_i32_129 : BitVec 32 := 1#32
  let arg15 : BitVec 32 := Scf.iv c0_i32_127 c1_i32_129 k0_t6
  let c4_i32_315 : BitVec 32 := 4#32
  let v784 : BitVec 32 := Scalar.muli arg15 c4_i32_315
  let c3_i32_316 : BitVec 32 := 3#32
  let v785 : BitVec 32 := Scalar.addi v784 c3_i32_316
  let c512_i32_350 : BitVec 32 := 512#32
  let v863 : BitVec 32 := Scalar.muli v785 c512_i32_350
  v863
@[reducible] def k0_t7_loop : Scf.Loop 32 :=
  let c0_i32_154 : BitVec 32 := 0#32
  let c8_i32_155 : BitVec 32 := 8#32
  let v382 : BitVec 32 := Scalar.addi c0_i32_154 c8_i32_155
  let c1_i32_156 : BitVec 32 := 1#32
  ⟨c0_i32_154, v382, c1_i32_156⟩
def k0_mult145 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off13 (k0_t7 : Fin k0_t7_loop.trips) (c0_i32_190 : BitVec 32) (c0_i32_191 : BitVec 32) : Fin 3 → Nat :=
  let c0_192 : Index := 0#32
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult146 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult147 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v512 : BitVec 32 := Scalar.muli v479 c512_i32
  v512
def k0_off14 (k0_t7 : Fin k0_t7_loop.trips) (c0_i32_190 : BitVec 32) (c0_i32_198 : BitVec 32) : Fin 3 → Nat :=
  let c3_199 : Index := 3#32
  let c0_200 : Index := 0#32
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let v479 : BitVec 32 := Scalar.addi v478 c0_i32_190
  let c512_i32 : BitVec 32 := 512#32
  let v512 : BitVec 32 := Scalar.muli v479 c512_i32
  let v513 : BitVec 32 := v512
  let v514 : BitVec 32 := Scalar.addi v513 c0_i32_198
  let v515 : Index := Scalar.indexCast v514
  ![3, 0, v515.toNat]
def k0_mult148 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c512_i32_201 : BitVec 32 := 512#32
  let v529 : BitVec 32 := Scalar.muli v479 c512_i32_201
  v529
def k0_mult149 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c512_i32_205 : BitVec 32 := 512#32
  let v546 : BitVec 32 := Scalar.muli v479 c512_i32_205
  v546
def k0_mult150 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_189 : BitVec 32 := 4#32
  let v478 : BitVec 32 := Scalar.muli arg15 c4_i32_189
  let c0_i32_190 : BitVec 32 := 0#32
  let v479 : BitVec 32 := Scalar.addi v478 c0_i32_190
  let c512_i32_208 : BitVec 32 := 512#32
  let v563 : BitVec 32 := Scalar.muli v479 c512_i32_208
  v563
def k0_mult151 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c0_i32_214 : BitVec 32 := 0#32
  let v574 : BitVec 32 := Scalar.addi v573 c0_i32_214
  let c16_i32_215 : BitVec 32 := 16#32
  let v575 : BitVec 32 := Scalar.muli v574 c16_i32_215
  v575
def k0_mult152 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c128_i32_213 : BitVec 32 := 128#32
  let v573 : BitVec 32 := Scalar.muli v572 c128_i32_213
  let c64_i32_218 : BitVec 32 := 64#32
  let v584 : BitVec 32 := Scalar.addi v573 c64_i32_218
  let c16_i32_219 : BitVec 32 := 16#32
  let v585 : BitVec 32 := Scalar.muli v584 c16_i32_219
  v585
def k0_mult153 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c512_i32_223 : BitVec 32 := 512#32
  let v605 : BitVec 32 := Scalar.muli v572 c512_i32_223
  v605
def k0_mult154 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c512_i32_227 : BitVec 32 := 512#32
  let v622 : BitVec 32 := Scalar.muli v572 c512_i32_227
  v622
def k0_mult155 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c512_i32_231 : BitVec 32 := 512#32
  let v639 : BitVec 32 := Scalar.muli v572 c512_i32_231
  v639
def k0_mult156 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_211 : BitVec 32 := 4#32
  let v571 : BitVec 32 := Scalar.muli arg15 c4_i32_211
  let c1_i32_212 : BitVec 32 := 1#32
  let v572 : BitVec 32 := Scalar.addi v571 c1_i32_212
  let c512_i32_235 : BitVec 32 := 512#32
  let v656 : BitVec 32 := Scalar.muli v572 c512_i32_235
  v656
def k0_mult157 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c0_i32_242 : BitVec 32 := 0#32
  let v667 : BitVec 32 := Scalar.addi v666 c0_i32_242
  let c16_i32_243 : BitVec 32 := 16#32
  let v668 : BitVec 32 := Scalar.muli v667 c16_i32_243
  v668
def k0_mult158 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c128_i32_241 : BitVec 32 := 128#32
  let v666 : BitVec 32 := Scalar.muli v665 c128_i32_241
  let c64_i32_246 : BitVec 32 := 64#32
  let v677 : BitVec 32 := Scalar.addi v666 c64_i32_246
  let c16_i32_247 : BitVec 32 := 16#32
  let v678 : BitVec 32 := Scalar.muli v677 c16_i32_247
  v678
def k0_mult159 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c512_i32_251 : BitVec 32 := 512#32
  let v698 : BitVec 32 := Scalar.muli v665 c512_i32_251
  v698
def k0_mult160 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c512_i32_255 : BitVec 32 := 512#32
  let v715 : BitVec 32 := Scalar.muli v665 c512_i32_255
  v715
def k0_mult161 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c512_i32_259 : BitVec 32 := 512#32
  let v732 : BitVec 32 := Scalar.muli v665 c512_i32_259
  v732
def k0_mult162 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_239 : BitVec 32 := 4#32
  let v664 : BitVec 32 := Scalar.muli arg15 c4_i32_239
  let c2_i32_240 : BitVec 32 := 2#32
  let v665 : BitVec 32 := Scalar.addi v664 c2_i32_240
  let c512_i32_263 : BitVec 32 := 512#32
  let v749 : BitVec 32 := Scalar.muli v665 c512_i32_263
  v749
def k0_mult163 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c0_i32_270 : BitVec 32 := 0#32
  let v760 : BitVec 32 := Scalar.addi v759 c0_i32_270
  let c16_i32_271 : BitVec 32 := 16#32
  let v761 : BitVec 32 := Scalar.muli v760 c16_i32_271
  v761
def k0_mult164 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c128_i32_269 : BitVec 32 := 128#32
  let v759 : BitVec 32 := Scalar.muli v758 c128_i32_269
  let c64_i32_274 : BitVec 32 := 64#32
  let v770 : BitVec 32 := Scalar.addi v759 c64_i32_274
  let c16_i32_275 : BitVec 32 := 16#32
  let v771 : BitVec 32 := Scalar.muli v770 c16_i32_275
  v771
def k0_mult165 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c512_i32_279 : BitVec 32 := 512#32
  let v791 : BitVec 32 := Scalar.muli v758 c512_i32_279
  v791
def k0_mult166 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c512_i32_283 : BitVec 32 := 512#32
  let v808 : BitVec 32 := Scalar.muli v758 c512_i32_283
  v808
def k0_mult167 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c512_i32_287 : BitVec 32 := 512#32
  let v825 : BitVec 32 := Scalar.muli v758 c512_i32_287
  v825
def k0_mult168 (k0_t7 : Fin k0_t7_loop.trips) : BitVec 32 :=
  let c0_i32_154 : BitVec 32 := 0#32
  let c1_i32_156 : BitVec 32 := 1#32
  let arg15 : BitVec 32 := Scf.iv c0_i32_154 c1_i32_156 k0_t7
  let c4_i32_267 : BitVec 32 := 4#32
  let v757 : BitVec 32 := Scalar.muli arg15 c4_i32_267
  let c3_i32_268 : BitVec 32 := 3#32
  let v758 : BitVec 32 := Scalar.addi v757 c3_i32_268
  let c512_i32_291 : BitVec 32 := 512#32
  let v842 : BitVec 32 := Scalar.muli v758 c512_i32_291
  v842
@[reducible] def k0_t8_loop : Scf.Loop 32 :=
  let c0_i32_168 : BitVec 32 := 0#32
  let c8_i32_169 : BitVec 32 := 8#32
  let v413 : BitVec 32 := Scalar.addi c0_i32_168 c8_i32_169
  let c1_i32_170 : BitVec 32 := 1#32
  ⟨c0_i32_168, v413, c1_i32_170⟩
def k0_mult169 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c0_i32_191 : BitVec 32 := 0#32
  let v481 : BitVec 32 := Scalar.addi v480 c0_i32_191
  let c16_i32 : BitVec 32 := 16#32
  let v482 : BitVec 32 := Scalar.muli v481 c16_i32
  v482
def k0_off15 (k0_t8 : Fin k0_t8_loop.trips) (c0_i32_190 : BitVec 32) (c0_i32_191 : BitVec 32) : Fin 3 → Nat :=
  let c0_192 : Index := 0#32
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let v479 : BitVec 32 := Scalar.addi v478 c0_i32_190
  let c128_i32 : BitVec 32 := 128#32
  let v480 : BitVec 32 := Scalar.muli v479 c128_i32
  let v481 : BitVec 32 := Scalar.addi v480 c0_i32_191
  let c16_i32 : BitVec 32 := 16#32
  let v482 : BitVec 32 := Scalar.muli v481 c16_i32
  let v483 : BitVec 32 := v482
  let v484 : Index := Scalar.indexCast v483
  let c0_193 : Index := 0#32
  ![0, v484.toNat, 0]
def k0_mult170 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c128_i32 : BitVec 32 := 128#32
  let v480 : BitVec 32 := Scalar.muli v479 c128_i32
  let c64_i32 : BitVec 32 := 64#32
  let v491 : BitVec 32 := Scalar.addi v480 c64_i32
  let c16_i32_194 : BitVec 32 := 16#32
  let v492 : BitVec 32 := Scalar.muli v491 c16_i32_194
  v492
def k0_mult171 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c512_i32 : BitVec 32 := 512#32
  let v502 : BitVec 32 := Scalar.muli v479 c512_i32
  v502
def k0_off16 (k0_t8 : Fin k0_t8_loop.trips) (c0_i32_190 : BitVec 32) (c0_i32_197 : BitVec 32) : Fin 3 → Nat :=
  let c3_198 : Index := 3#32
  let c0_199 : Index := 0#32
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let v479 : BitVec 32 := Scalar.addi v478 c0_i32_190
  let c512_i32 : BitVec 32 := 512#32
  let v502 : BitVec 32 := Scalar.muli v479 c512_i32
  let v503 : BitVec 32 := v502
  let v504 : BitVec 32 := Scalar.addi v503 c0_i32_197
  let v505 : Index := Scalar.indexCast v504
  ![3, 0, v505.toNat]
def k0_mult172 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c512_i32_204 : BitVec 32 := 512#32
  let v520 : BitVec 32 := Scalar.muli v479 c512_i32_204
  v520
def k0_mult173 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c512_i32_212 : BitVec 32 := 512#32
  let v539 : BitVec 32 := Scalar.muli v479 c512_i32_212
  v539
def k0_mult174 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_189 : BitVec 32 := 4#32
  let v478 : BitVec 32 := Scalar.muli arg15 c4_i32_189
  let c0_i32_190 : BitVec 32 := 0#32
  let v479 : BitVec 32 := Scalar.addi v478 c0_i32_190
  let c512_i32_219 : BitVec 32 := 512#32
  let v557 : BitVec 32 := Scalar.muli v479 c512_i32_219
  v557
def k0_mult175 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c0_i32_230 : BitVec 32 := 0#32
  let v583 : BitVec 32 := Scalar.addi v582 c0_i32_230
  let c16_i32_231 : BitVec 32 := 16#32
  let v584 : BitVec 32 := Scalar.muli v583 c16_i32_231
  v584
def k0_mult176 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c128_i32_229 : BitVec 32 := 128#32
  let v582 : BitVec 32 := Scalar.muli v581 c128_i32_229
  let c64_i32_234 : BitVec 32 := 64#32
  let v593 : BitVec 32 := Scalar.addi v582 c64_i32_234
  let c16_i32_235 : BitVec 32 := 16#32
  let v594 : BitVec 32 := Scalar.muli v593 c16_i32_235
  v594
def k0_mult177 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c512_i32_238 : BitVec 32 := 512#32
  let v604 : BitVec 32 := Scalar.muli v581 c512_i32_238
  v604
def k0_mult178 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c512_i32_246 : BitVec 32 := 512#32
  let v622 : BitVec 32 := Scalar.muli v581 c512_i32_246
  v622
def k0_mult179 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c512_i32_254 : BitVec 32 := 512#32
  let v641 : BitVec 32 := Scalar.muli v581 c512_i32_254
  v641
def k0_mult180 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_227 : BitVec 32 := 4#32
  let v580 : BitVec 32 := Scalar.muli arg15 c4_i32_227
  let c1_i32_228 : BitVec 32 := 1#32
  let v581 : BitVec 32 := Scalar.addi v580 c1_i32_228
  let c512_i32_262 : BitVec 32 := 512#32
  let v659 : BitVec 32 := Scalar.muli v581 c512_i32_262
  v659
def k0_mult181 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c0_i32_274 : BitVec 32 := 0#32
  let v685 : BitVec 32 := Scalar.addi v684 c0_i32_274
  let c16_i32_275 : BitVec 32 := 16#32
  let v686 : BitVec 32 := Scalar.muli v685 c16_i32_275
  v686
def k0_mult182 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c128_i32_273 : BitVec 32 := 128#32
  let v684 : BitVec 32 := Scalar.muli v683 c128_i32_273
  let c64_i32_278 : BitVec 32 := 64#32
  let v695 : BitVec 32 := Scalar.addi v684 c64_i32_278
  let c16_i32_279 : BitVec 32 := 16#32
  let v696 : BitVec 32 := Scalar.muli v695 c16_i32_279
  v696
def k0_mult183 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c512_i32_282 : BitVec 32 := 512#32
  let v706 : BitVec 32 := Scalar.muli v683 c512_i32_282
  v706
def k0_mult184 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c512_i32_290 : BitVec 32 := 512#32
  let v724 : BitVec 32 := Scalar.muli v683 c512_i32_290
  v724
def k0_mult185 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c512_i32_298 : BitVec 32 := 512#32
  let v743 : BitVec 32 := Scalar.muli v683 c512_i32_298
  v743
def k0_mult186 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_271 : BitVec 32 := 4#32
  let v682 : BitVec 32 := Scalar.muli arg15 c4_i32_271
  let c2_i32_272 : BitVec 32 := 2#32
  let v683 : BitVec 32 := Scalar.addi v682 c2_i32_272
  let c512_i32_306 : BitVec 32 := 512#32
  let v761 : BitVec 32 := Scalar.muli v683 c512_i32_306
  v761
def k0_mult187 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c0_i32_318 : BitVec 32 := 0#32
  let v787 : BitVec 32 := Scalar.addi v786 c0_i32_318
  let c16_i32_319 : BitVec 32 := 16#32
  let v788 : BitVec 32 := Scalar.muli v787 c16_i32_319
  v788
def k0_mult188 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c128_i32_317 : BitVec 32 := 128#32
  let v786 : BitVec 32 := Scalar.muli v785 c128_i32_317
  let c64_i32_322 : BitVec 32 := 64#32
  let v797 : BitVec 32 := Scalar.addi v786 c64_i32_322
  let c16_i32_323 : BitVec 32 := 16#32
  let v798 : BitVec 32 := Scalar.muli v797 c16_i32_323
  v798
def k0_mult189 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c512_i32_326 : BitVec 32 := 512#32
  let v808 : BitVec 32 := Scalar.muli v785 c512_i32_326
  v808
def k0_mult190 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c512_i32_334 : BitVec 32 := 512#32
  let v826 : BitVec 32 := Scalar.muli v785 c512_i32_334
  v826
def k0_mult191 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c512_i32_342 : BitVec 32 := 512#32
  let v845 : BitVec 32 := Scalar.muli v785 c512_i32_342
  v845
def k0_mult192 (k0_t8 : Fin k0_t8_loop.trips) : BitVec 32 :=
  let c0_i32_168 : BitVec 32 := 0#32
  let c1_i32_170 : BitVec 32 := 1#32
  let arg15 : BitVec 32 := Scf.iv c0_i32_168 c1_i32_170 k0_t8
  let c4_i32_315 : BitVec 32 := 4#32
  let v784 : BitVec 32 := Scalar.muli arg15 c4_i32_315
  let c3_i32_316 : BitVec 32 := 3#32
  let v785 : BitVec 32 := Scalar.addi v784 c3_i32_316
  let c512_i32_350 : BitVec 32 := 512#32
  let v863 : BitVec 32 := Scalar.muli v785 c512_i32_350
  v863
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x65536x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x65536x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "no_score" => some ⊥
  | "score_scale" => some (((Real.sqrt 128)⁻¹ * (Real.log 2)⁻¹ : ℝ) : EReal)
  | _ => none
-- ==== ReferenceIdeal.lean ====
variable {F : FTy → Type} [FloatOps F] [Named F]
def κ : String → Option EReal := fun
  | "sm_scale" => some (((Real.sqrt 128)⁻¹ : ℝ) : EReal)
  | _ => none
-- ==== Reference.lean ====
abbrev S32x1x16384 : Shape := ⟨3, ![32, 1, 16384]⟩
abbrev S32x1x16x128 : Shape := ⟨4, ![32, 1, 16, 128]⟩
abbrev S32x4096x16x128 : Shape := ⟨4, ![32, 4096, 16, 128]⟩
abbrev S16 : Shape := ⟨1, ![16]⟩
abbrev S254 : Shape := ⟨1, ![254]⟩
abbrev S32x16x128 : Shape := ⟨3, ![32, 16, 128]⟩
abbrev S16x1 : Shape := ⟨2, ![16, 1]⟩
abbrev S1x254 : Shape := ⟨2, ![1, 254]⟩
abbrev S16x254 : Shape := ⟨2, ![16, 254]⟩
abbrev S_ : Shape := ⟨0, ![]⟩
abbrev S16x128 : Shape := ⟨2, ![16, 128]⟩
abbrev S16x8 : Shape := ⟨2, ![16, 8]⟩
abbrev S1x16x128 : Shape := ⟨3, ![1, 16, 128]⟩
abbrev S1x1x16x128 : Shape := ⟨4, ![1, 1, 16, 128]⟩
abbrev S32x16x8x128 : Shape := ⟨4, ![32, 16, 8, 128]⟩
abbrev S32x16x8x4096 : Shape := ⟨4, ![32, 16, 8, 4096]⟩
abbrev S16x8x1 : Shape := ⟨3, ![16, 8, 1]⟩
abbrev S1x16x8x1 : Shape := ⟨4, ![1, 16, 8, 1]⟩
abbrev S32x16x8 : Shape := ⟨3, ![32, 16, 8]⟩
abbrev S1x16x8 : Shape := ⟨3, ![1, 16, 8]⟩
abbrev S32x16x8x1 : Shape := ⟨4, ![32, 16, 8, 1]⟩
abbrev S32x16x1x128 : Shape := ⟨4, ![32, 16, 1, 128]⟩

abbrev nBuf : Space → Nat
  | .hbm => 114
  | .vmem => 15
  | .smem => 0
  | _ => 0

abbrev bufTy : (tb : Table) → Fin (tcTables nBuf tb) → BufTy
  | .hbm, ⟨0, _⟩ => ⟨S32x1x16384, .bf16⟩
  | .hbm, ⟨1, _⟩ => ⟨S32x1x16x128, .bf16⟩
  | .hbm, ⟨2, _⟩ => ⟨S32x1x16x128, .bf16⟩
  | .hbm, ⟨3, _⟩ => ⟨S32x4096x16x128, .fp8e4m3⟩
  | .hbm, ⟨4, _⟩ => ⟨S16, .f32⟩
  | .hbm, ⟨5, _⟩ => ⟨S32x4096x16x128, .fp8e4m3⟩
  | .hbm, ⟨6, _⟩ => ⟨S16, .f32⟩
  | .hbm, ⟨7, _⟩ => ⟨S254, .f32⟩
  | .hbm, ⟨8, _⟩ => ⟨S254, .f32⟩
  | .hbm, ⟨9, _⟩ => ⟨S254, .f32⟩
  | .hbm, ⟨10, _⟩ => ⟨S254, .f32⟩
  | .hbm, ⟨11, _⟩ => ⟨S32x16x128, .bf16⟩
  | .hbm, ⟨12, _⟩ => ⟨S32x16x128, .bf16⟩
  | .hbm, ⟨13, _⟩ => ⟨S16, .f32⟩
  | .hbm, ⟨14, _⟩ => ⟨S16x1, .f32⟩
  | .hbm, ⟨15, _⟩ => ⟨S1x254, .f32⟩
  | .hbm, ⟨16, _⟩ => ⟨S16x254, .f32⟩
  | .hbm, ⟨17, _⟩ => ⟨S16x254, .f32⟩
  | .hbm, ⟨18, _⟩ => ⟨S16x254, .i1⟩
  | .hbm, ⟨19, _⟩ => ⟨S_, .f32⟩
  | .hbm, ⟨20, _⟩ => ⟨S_, .f32⟩
  | .hbm, ⟨21, _⟩ => ⟨S16x254, .f32⟩
  | .hbm, ⟨22, _⟩ => ⟨S16x254, .f32⟩
  | .hbm, ⟨23, _⟩ => ⟨S16x254, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .i1⟩
  | .hbm, ⟨29, _⟩ => ⟨S_, .f32⟩
  | .hbm, ⟨30, _⟩ => ⟨S16, .f32⟩
  | .hbm, ⟨31, _⟩ => ⟨S16, .i1⟩
  | .hbm, ⟨32, _⟩ => ⟨S16, .i1⟩
  | .hbm, ⟨33, _⟩ => ⟨S_, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16x1, .f32⟩
  | .hbm, ⟨38, _⟩ => ⟨S16x128, .f32⟩
  | .hbm, ⟨39, _⟩ => ⟨S16, .f32⟩
  | .hbm, ⟨40, _⟩ => ⟨S16x1, .f32⟩
  | .hbm, ⟨41, _⟩ => ⟨S1x254, .f32⟩
  | .hbm, ⟨42, _⟩ => ⟨S16x254, .f32⟩
  | .hbm, ⟨43, _⟩ => ⟨S16x254, .f32⟩
  | .hbm, ⟨44, _⟩ => ⟨S16x254, .i1⟩
  | .hbm, ⟨45, _⟩ => ⟨S_, .f32⟩
  | .hbm, ⟨46, _⟩ => ⟨S_, .f32⟩
  | .hbm, ⟨47, _⟩ => ⟨S16x254, .f32⟩
  | .hbm, ⟨48, _⟩ => ⟨S16x254, .f32⟩
  | .hbm, ⟨49, _⟩ => ⟨S16x254, .f32⟩
  | .hbm, ⟨50, _⟩ => ⟨S_, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .i1⟩
  | .hbm, ⟨55, _⟩ => ⟨S_, .f32⟩
  | .hbm, ⟨56, _⟩ => ⟨S16, .f32⟩
  | .hbm, ⟨57, _⟩ => ⟨S16, .i1⟩
  | .hbm, ⟨58, _⟩ => ⟨S16, .i1⟩
  | .hbm, ⟨59, _⟩ => ⟨S_, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16x1, .f32⟩
  | .hbm, ⟨64, _⟩ => ⟨S16x128, .f32⟩
  | .hbm, ⟨65, _⟩ => ⟨S16x1, .f32⟩
  | .hbm, ⟨66, _⟩ => ⟨S16x128, .f32⟩
  | .hbm, ⟨67, _⟩ => ⟨S16x1, .f32⟩
  | .hbm, ⟨68, _⟩ => ⟨S16x128, .f32⟩
  | .hbm, ⟨69, _⟩ => ⟨S32x16x128, .fp8e4m3⟩
  | .hbm, ⟨70, _⟩ => ⟨S32x16x128, .fp8e4m3⟩
  | .hbm, ⟨71, _⟩ => ⟨S32x16x128, .bf16⟩
  | .hbm, ⟨72, _⟩ => ⟨S32x16x128, .bf16⟩
  | .hbm, ⟨73, _⟩ => ⟨S32x4096x16x128, .bf16⟩
  | .hbm, ⟨74, _⟩ => ⟨S32x4096x16x128, .bf16⟩
  | .hbm, ⟨75, _⟩ => ⟨S16x8, .f32⟩
  | .hbm, ⟨76, _⟩ => ⟨S32x16x8x128, .bf16⟩
  | .hbm, ⟨77, _⟩ => ⟨S32x16x8x4096, .f32⟩
  | .hbm, ⟨78, _⟩ => ⟨S16x8x1, .f32⟩
  | .hbm, ⟨79, _⟩ => ⟨S1x16x8x1, .f32⟩
  | .hbm, ⟨80, _⟩ => ⟨S32x16x8x4096, .f32⟩
  | .hbm, ⟨81, _⟩ => ⟨S32x16x8x4096, .f32⟩
  | .hbm, ⟨82, _⟩ => ⟨S32x16x8, .f32⟩
  | .hbm, ⟨83, _⟩ => ⟨S1x16x8, .f32⟩
  | .hbm, ⟨84, _⟩ => ⟨S32x16x8, .f32⟩
  | .hbm, ⟨85, _⟩ => ⟨S32x16x8, .f32⟩
  | .hbm, ⟨86, _⟩ => ⟨S_, .f32⟩
  | .hbm, ⟨87, _⟩ => ⟨S32x16x8, .f32⟩
  | .hbm, ⟨88, _⟩ => ⟨S32x16x8, .f32⟩
  | .hbm, ⟨89, _⟩ => ⟨S32x16x8x1, .f32⟩
  | .hbm, ⟨90, _⟩ => ⟨S32x16x8x4096, .f32⟩
  | .hbm, ⟨91, _⟩ => ⟨S32x16x8x4096, .f32⟩
  | .hbm, ⟨92, _⟩ => ⟨S32x16x8x4096, .f32⟩
  | .hbm, ⟨93, _⟩ => ⟨S32x16x8, .f32⟩
  | .hbm, ⟨94, _⟩ => ⟨S32x16x8, .f32⟩
  | .hbm, ⟨95, _⟩ => ⟨S_, .f32⟩
  | .hbm, ⟨96, _⟩ => ⟨S32x16x8, .f32⟩
  | .hbm, ⟨97, _⟩ => ⟨S32x16x8, .f32⟩
  | .hbm, ⟨98, _⟩ => ⟨S32x4096x16x128, .f32⟩
  | .hbm, ⟨99, _⟩ => ⟨S32x16x8x128, .f32⟩
  | .hbm, ⟨100, _⟩ => ⟨S32x16x8x1, .f32⟩
  | .hbm, ⟨101, _⟩ => ⟨S32x16x128, .f32⟩
  | .hbm, ⟨102, _⟩ => ⟨S32x16x1x128, .f32⟩
  | .hbm, ⟨103, _⟩ => ⟨S32x16x8x128, .f32⟩
  | .hbm, ⟨104, _⟩ => ⟨S32x16x8x128, .f32⟩
  | .hbm, ⟨105, _⟩ => ⟨S32x16x8x128, .f32⟩
  | .hbm, ⟨106, _⟩ => ⟨S32x16x8x128, .f32⟩
  | .hbm, ⟨107, _⟩ => ⟨S32x16x8x1, .f32⟩
  | .hbm, ⟨108, _⟩ => ⟨S32x16x8x128, .f32⟩
  | .hbm, ⟨109, _⟩ => ⟨S32x16x8x128, .f32⟩
  | .hbm, ⟨110, _⟩ => ⟨S32x1x16384, .f32⟩
  | .hbm, ⟨111, _⟩ => ⟨S32x1x16384, .bf16⟩
  | .hbm, ⟨112, _⟩ => ⟨S32x1x16x128, .fp8e4m3⟩
  | .hbm, ⟨113, _⟩ => ⟨S32x1x16x128, .fp8e4m3⟩
  | .local _ .vmem, ⟨0, _⟩ => ⟨S32x16x128, .bf16⟩
  | .local _ .vmem, ⟨1, _⟩ => ⟨S32x16x128, .bf16⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S32x4096x16x128, .fp8e4m3⟩
  | .local _ .vmem, ⟨7, _⟩ => ⟨S32x4096x16x128, .fp8e4m3⟩
  | .local _ .vmem, ⟨8, _⟩ => ⟨S32x16x128, .fp8e4m3⟩
  | .local _ .vmem, ⟨9, _⟩ => ⟨S32x16x128, .fp8e4m3⟩
  | .local _ .vmem, ⟨10, _⟩ => ⟨S32x16x128, .bf16⟩
  | .local _ .vmem, ⟨11, _⟩ => ⟨S32x16x128, .bf16⟩
  | .local _ .vmem, ⟨12, _⟩ => ⟨S32x4096x16x128, .bf16⟩
  | .local _ .vmem, ⟨13, _⟩ => ⟨S32x4096x16x128, .bf16⟩
  | .local _ .vmem, ⟨14, _⟩ => ⟨S16x8, .f32⟩
  | _, _ => ⟨S32x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_cst_10 : Ref sig .tc := ⟨.hbm, 52, rfl⟩
abbrev main_v26 : Ref sig .tc := ⟨.hbm, 53, rfl⟩
abbrev main_v27 : Ref sig .tc := ⟨.hbm, 54, rfl⟩
abbrev main_cst_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v38_4 : Ref sig .tc := ⟨.hbm, 73, rfl⟩
abbrev main_v38_5 : Ref sig .tc := ⟨.hbm, 74, rfl⟩
abbrev main_v38_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_13 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S32x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x4096x16x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4096x16x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x16x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x16x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x4096x16x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x4096x16x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Kernel.Body.lean ====
/- The triple of the whole body of the kernel: it runs on any contents of its buffers, faults nowhere and leaves its inputs as they were. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1120000 in
/-- The body runs on any whole buffers: it leaves its inputs as they were, and its outputs and its scratch buffer at some contents. -/
theorem kernelRun0_A (c : Dev nD) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole)
    (x0 : Vec F S1x128x128 .bf16) (x1 : Vec F S1x16x128 .bf16) (x2 : Vec F S1x16x128 .bf16) (x3 : Vec F S16x128 .f32) (x4 : Vec F S16x128 .f32) (x5 : Vec F S4x8x128 .f32) (x6 : Vec F S128x128 .f32) (x7 : Vec F S128x128 .f32) (x8 : Vec F S1x65536x128 .fp8e4m3) (x9 : Vec F S1x65536x128 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_gqa_decode_fp8_eq_skeleton]; unfold cc0_gqa_decode_fp8_skel
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Run

end
-- ==== Proof.Kernel.Frame.lean ====
/- The frame of the kernel: @main runs to the end, its arguments end unchanged and every semaphore counter ends at zero. -/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the operations after the launch write: the results. Nothing is said of what they hold. -/
def T0 : Finset (Ref sig .tc) := {main_v55, main_v56, main_v57}
/-- The operations after the launch write the results and no other buffer. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run of the whole program, in which the arrays the launch reads keep their contents and no other buffer outside the results
    changes, leaves every argument as it was. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The kernel body on any buffers -/

/-- The buffer of operand 0 at point `t`. -/
abbrev ms0_0 (t : Fin cfg0.N) : Memref sig .tc .vmem S1x128x128 .bf16 := win0_0.stage (cfg0.slots t 0)
/-- The buffer of operand 0 is a whole one. -/
abbrev hs0_0 (t : Fin cfg0.N) : (ms0_0 t).IsWhole := hstage0_0 ((cfg0.slots t 0).cast nbuf0_0)
/-- The buffer of operand 1 at point `t`. -/
abbrev ms0_1 (t : Fin cfg0.N) : Memref sig .tc .vmem S1x16x128 .bf16 := win0_1.stage (cfg0.slots t 1)
/-- The buffer of operand 1 is a whole one. -/
abbrev hs0_1 (t : Fin cfg0.N) : (ms0_1 t).IsWhole := hstage0_1 ((cfg0.slots t 1).cast nbuf0_1)
/-- The buffer of operand 2 at point `t`. -/
abbrev ms0_2 (t : Fin cfg0.N) : Memref sig .tc .vmem S1x16x128 .bf16 := win0_2.stage (cfg0.slots t 2)
/-- The buffer of operand 2 is a whole one. -/
abbrev hs0_2 (t : Fin cfg0.N) : (ms0_2 t).IsWhole := hstage0_2 ((cfg0.slots t 2).cast nbuf0_2)
/-- The buffer of operand 3 at point `t`. -/
abbrev ms0_3 (t : Fin cfg0.N) : Memref sig .tc .vmem S16x128 .f32 := win0_3.stage (cfg0.slots t 3)
/-- The buffer of operand 3 is a whole one. -/
abbrev hs0_3 (t : Fin cfg0.N) : (ms0_3 t).IsWhole := hstage0_3 ((cfg0.slots t 3).cast nbuf0_3)
/-- The buffer of operand 4 at point `t`. -/
abbrev ms0_4 (t : Fin cfg0.N) : Memref sig .tc .vmem S16x128 .f32 := win0_4.stage (cfg0.slots t 4)
/-- The buffer of operand 4 is a whole one. -/
abbrev hs0_4 (t : Fin cfg0.N) : (ms0_4 t).IsWhole := hstage0_4 ((cfg0.slots t 4).cast nbuf0_4)
/-- The buffer of operand 5 at point `t`. -/
abbrev ms0_5 (t : Fin cfg0.N) : Memref sig .tc .vmem S4x8x128 .f32 := win0_5.stage (cfg0.slots t 5)
/-- The buffer of operand 5 is a whole one. -/
abbrev hs0_5 (t : Fin cfg0.N) : (ms0_5 t).IsWhole := hstage0_5 ((cfg0.slots t 5).cast nbuf0_5)
/-- The buffer of operand 6 at point `t`. -/
abbrev ms0_6 (t : Fin cfg0.N) : Memref sig .tc .vmem S128x128 .f32 := win0_6.stage (cfg0.slots t 6)
/-- The buffer of operand 6 is a whole one. -/
abbrev hs0_6 (t : Fin cfg0.N) : (ms0_6 t).IsWhole := hstage0_6 ((cfg0.slots t 6).cast nbuf0_6)
/-- The buffer of operand 7 at point `t`. -/
abbrev ms0_7 (t : Fin cfg0.N) : Memref sig .tc .vmem S128x128 .f32 := win0_7.stage (cfg0.slots t 7)
/-- The buffer of operand 7 is a whole one. -/
abbrev hs0_7 (t : Fin cfg0.N) : (ms0_7 t).IsWhole := hstage0_7 ((cfg0.slots t 7).cast nbuf0_7)
/-- The buffer of operand 8 at point `t`. -/
abbrev ms0_8 (t : Fin cfg0.N) : Memref sig .tc .vmem S1x65536x128 .fp8e4m3 := win0_8.stage (cfg0.slots t 8)
/-- The buffer of operand 8 is a whole one. -/
abbrev hs0_8 (t : Fin cfg0.N) : (ms0_8 t).IsWhole := hstage0_8 ((cfg0.slots t 8).cast nbuf0_8)
/-- The buffer of operand 9 at point `t`. -/
abbrev ms0_9 (t : Fin cfg0.N) : Memref sig .tc .vmem S1x65536x128 .fp8e4m3 := win0_9.stage (cfg0.slots t 9)
/-- The buffer of operand 9 is a whole one. -/
abbrev hs0_9 (t : Fin cfg0.N) : (ms0_9 t).IsWhole := hstage0_9 ((cfg0.slots t 9).cast nbuf0_9)
/-- The buffer of operand 10 at point `t`. -/
abbrev ms0_10 (t : Fin cfg0.N) : Memref sig .tc .vmem S1x128x128 .bf16 := win0_10.stage (cfg0.slots t 10)
/-- The buffer of operand 10 is a whole one. -/
abbrev hs0_10 (t : Fin cfg0.N) : (ms0_10 t).IsWhole := hstage0_10 ((cfg0.slots t 10).cast nbuf0_10)
/-- The buffer of operand 11 at point `t`. -/
abbrev ms0_11 (t : Fin cfg0.N) : Memref sig .tc .vmem S1x16x128 .fp8e4m3 := win0_11.stage (cfg0.slots t 11)
/-- The buffer of operand 11 is a whole one. -/
abbrev hs0_11 (t : Fin cfg0.N) : (ms0_11 t).IsWhole := hstage0_11 ((cfg0.slots t 11).cast nbuf0_11)
/-- The buffer of operand 12 at point `t`. -/
abbrev ms0_12 (t : Fin cfg0.N) : Memref sig .tc .vmem S1x16x128 .fp8e4m3 := win0_12.stage (cfg0.slots t 12)
/-- The buffer of operand 12 is a whole one. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4x8x16384 .f32 := Memref.whole cc0_scratch0

/-- What a core holds between two points: its scratch buffer at some contents and its generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The outputs, of whose contents nothing is said. -/
def forgets0 : Fin 13 → Bool := fun w => w.val == 10 || w.val == 11 || w.val == 12

/-- What holds at each point of the launch on core `c`: the arrays start as the launch finds them, every input's buffer holds its
    block before and after the body, and nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The arrays start as the launch finds them. -/
theorem A_eq (c : Dev nD) (w : Fin cfg0.W) : (dats m 0 c).A w = V m c (Pipeline.arrRef spec0 w) := by
  dsimp only [dats]

/-- What the body leaves in operand 0's buffer. -/
theorem after0_0 (c : Dev nD) (t : Fin cfg0.N) : (dats m 0 c).after 0 t = iblk m c 0 t := by dsimp only [dats]
/-- What the body leaves in operand 1's buffer. -/
theorem after0_1 (c : Dev nD) (t : Fin cfg0.N) : (dats m 0 c).after 1 t = iblk m c 1 t := by dsimp only [dats]
/-- What the body leaves in operand 2's buffer. -/
theorem after0_2 (c : Dev nD) (t : Fin cfg0.N) : (dats m 0 c).after 2 t = iblk m c 2 t := by dsimp only [dats]
/-- What the body leaves in operand 3's buffer. -/
theorem after0_3 (c : Dev nD) (t : Fin cfg0.N) : (dats m 0 c).after 3 t = iblk m c 3 t := by dsimp only [dats]
/-- What the body leaves in operand 4's buffer. -/
theorem after0_4 (c : Dev nD) (t : Fin cfg0.N) : (dats m 0 c).after 4 t = iblk m c 4 t := by dsimp only [dats]
/-- What the body leaves in operand 5's buffer. -/
theorem after0_5 (c : Dev nD) (t : Fin cfg0.N) : (dats m 0 c).after 5 t = iblk m c 5 t := by dsimp only [dats]
/-- What the body leaves in operand 6's buffer. -/
theorem after0_6 (c : Dev nD) (t : Fin cfg0.N) : (dats m 0 c).after 6 t = iblk m c 6 t := by dsimp only [dats]
/-- What the body leaves in operand 7's buffer. -/
theorem after0_7 (c : Dev nD) (t : Fin cfg0.N) : (dats m 0 c).after 7 t = iblk m c 7 t := by dsimp only [dats]
/-- What the body leaves in operand 8's buffer. -/
theorem after0_8 (c : Dev nD) (t : Fin cfg0.N) : (dats m 0 c).after 8 t = iblk m c 8 t := by dsimp only [dats]
/-- What the body leaves in operand 9's buffer. -/
theorem after0_9 (c : Dev nD) (t : Fin cfg0.N) : (dats m 0 c).after 9 t = iblk m c 9 t := by dsimp only [dats]

/-- What the body finds in operand 0's buffer. -/
theorem before0_0 (c : Dev nD) (t : Fin cfg0.N) (d) : (dats m 0 c).before 0 t d = iblk m c 0 t :=
  before0_0_of m (dats m 0 c) (A_eq m c 0) (after0_0 m c) t d
/-- What the body finds in operand 1's buffer. -/
theorem before0_1 (c : Dev nD) (t : Fin cfg0.N) (d) : (dats m 0 c).before 1 t d = iblk m c 1 t :=
  before0_1_of m (dats m 0 c) (A_eq m c 1) (after0_1 m c) t d
/-- What the body finds in operand 2's buffer. -/
theorem before0_2 (c : Dev nD) (t : Fin cfg0.N) (d) : (dats m 0 c).before 2 t d = iblk m c 2 t :=
  before0_2_of m (dats m 0 c) (A_eq m c 2) (after0_2 m c) t d
/-- What the body finds in operand 3's buffer. -/
theorem before0_3 (c : Dev nD) (t : Fin cfg0.N) (d) : (dats m 0 c).before 3 t d = iblk m c 3 t :=
  before0_3_of m (dats m 0 c) (A_eq m c 3) (after0_3 m c) t d
/-- What the body finds in operand 4's buffer. -/
theorem before0_4 (c : Dev nD) (t : Fin cfg0.N) (d) : (dats m 0 c).before 4 t d = iblk m c 4 t :=
  before0_4_of m (dats m 0 c) (A_eq m c 4) (after0_4 m c) t d
/-- What the body finds in operand 5's buffer. -/
theorem before0_5 (c : Dev nD) (t : Fin cfg0.N) (d) : (dats m 0 c).before 5 t d = iblk m c 5 t :=
  before0_5_of m (dats m 0 c) (A_eq m c 5) (after0_5 m c) t d
/-- What the body finds in operand 6's buffer. -/
theorem before0_6 (c : Dev nD) (t : Fin cfg0.N) (d) : (dats m 0 c).before 6 t d = iblk m c 6 t :=
  before0_6_of m (dats m 0 c) (A_eq m c 6) (after0_6 m c) t d
/-- What the body finds in operand 7's buffer. -/
theorem before0_7 (c : Dev nD) (t : Fin cfg0.N) (d) : (dats m 0 c).before 7 t d = iblk m c 7 t :=
  before0_7_of m (dats m 0 c) (A_eq m c 7) (after0_7 m c) t d
/-- What the body finds in operand 8's buffer. -/
theorem before0_8 (c : Dev nD) (t : Fin cfg0.N) (d) : (dats m 0 c).before 8 t d = iblk m c 8 t :=
  before0_8_of m (dats m 0 c) (A_eq m c 8) (after0_8 m c) t d
/-- What the body finds in operand 9's buffer. -/
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The run of the whole program, with every semaphore counter at zero at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run of the whole program: it ends, the arrays the launch reads keep their contents, nothing is said of its outputs, and every
    other buffer outside the results holds what the launch found in it. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- Every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.KernelIdeal.Body.lean ====
/- The triple of the whole body of the idealized kernel: it runs on any contents of its buffers, faults nowhere and leaves its inputs as they were. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1120000 in
/-- The body runs on any whole buffers: it leaves its inputs as they were, and its outputs and its scratch buffer at some contents. -/
theorem kernelRun0_A (c : Dev nD) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole)
    (x0 : Vec F S1x128x128 .bf16) (x1 : Vec F S1x16x128 .bf16) (x2 : Vec F S1x16x128 .bf16) (x3 : Vec F S16x128 .f32) (x4 : Vec F S16x128 .f32) (x5 : Vec F S4x8x128 .f32) (x6 : Vec F S128x128 .f32) (x7 : Vec F S128x128 .f32) (x8 : Vec F S1x65536x128 .fp8e4m3) (x9 : Vec F S1x65536x128 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_gqa_decode_fp8_eq_skeleton]; unfold cc0_gqa_decode_fp8_skel
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.KernelIdeal.Run

end
-- ==== Proof.KernelIdeal.Frame.lean ====
/- The frame of the idealized kernel: @main runs to the end, its arguments end unchanged and every semaphore counter ends at zero. -/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the operations after the launch write: the results. Nothing is said of what they hold. -/
def T0 : Finset (Ref sig .tc) := {main_v55, main_v56, main_v57}
/-- The operations after the launch write the results and no other buffer. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run of the whole program, in which the arrays the launch reads keep their contents and no other buffer outside the results
    changes, leaves every argument as it was. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The kernel body on any buffers -/

/-- The buffer of operand 0 at point `t`. -/
abbrev ms0_0 (t : Fin cfg0.N) : Memref sig .tc .vmem S1x128x128 .bf16 := win0_0.stage (cfg0.slots t 0)
/-- The buffer of operand 0 is a whole one. -/
abbrev hs0_0 (t : Fin cfg0.N) : (ms0_0 t).IsWhole := hstage0_0 ((cfg0.slots t 0).cast nbuf0_0)
/-- The buffer of operand 1 at point `t`. -/
abbrev ms0_1 (t : Fin cfg0.N) : Memref sig .tc .vmem S1x16x128 .bf16 := win0_1.stage (cfg0.slots t 1)
/-- The buffer of operand 1 is a whole one. -/
abbrev hs0_1 (t : Fin cfg0.N) : (ms0_1 t).IsWhole := hstage0_1 ((cfg0.slots t 1).cast nbuf0_1)
/-- The buffer of operand 2 at point `t`. -/
abbrev ms0_2 (t : Fin cfg0.N) : Memref sig .tc .vmem S1x16x128 .bf16 := win0_2.stage (cfg0.slots t 2)
/-- The buffer of operand 2 is a whole one. -/
abbrev hs0_2 (t : Fin cfg0.N) : (ms0_2 t).IsWhole := hstage0_2 ((cfg0.slots t 2).cast nbuf0_2)
/-- The buffer of operand 3 at point `t`. -/
abbrev ms0_3 (t : Fin cfg0.N) : Memref sig .tc .vmem S16x128 .f32 := win0_3.stage (cfg0.slots t 3)
/-- The buffer of operand 3 is a whole one. -/
abbrev hs0_3 (t : Fin cfg0.N) : (ms0_3 t).IsWhole := hstage0_3 ((cfg0.slots t 3).cast nbuf0_3)
/-- The buffer of operand 4 at point `t`. -/
abbrev ms0_4 (t : Fin cfg0.N) : Memref sig .tc .vmem S16x128 .f32 := win0_4.stage (cfg0.slots t 4)
/-- The buffer of operand 4 is a whole one. -/
abbrev hs0_4 (t : Fin cfg0.N) : (ms0_4 t).IsWhole := hstage0_4 ((cfg0.slots t 4).cast nbuf0_4)
/-- The buffer of operand 5 at point `t`. -/
abbrev ms0_5 (t : Fin cfg0.N) : Memref sig .tc .vmem S4x8x128 .f32 := win0_5.stage (cfg0.slots t 5)
/-- The buffer of operand 5 is a whole one. -/
abbrev hs0_5 (t : Fin cfg0.N) : (ms0_5 t).IsWhole := hstage0_5 ((cfg0.slots t 5).cast nbuf0_5)
/-- The buffer of operand 6 at point `t`. -/
abbrev ms0_6 (t : Fin cfg0.N) : Memref sig .tc .vmem S128x128 .f32 := win0_6.stage (cfg0.slots t 6)
/-- The buffer of operand 6 is a whole one. -/
abbrev hs0_6 (t : Fin cfg0.N) : (ms0_6 t).IsWhole := hstage0_6 ((cfg0.slots t 6).cast nbuf0_6)
/-- The buffer of operand 7 at point `t`. -/
abbrev ms0_7 (t : Fin cfg0.N) : Memref sig .tc .vmem S128x128 .f32 := win0_7.stage (cfg0.slots t 7)
/-- The buffer of operand 7 is a whole one. -/
abbrev hs0_7 (t : Fin cfg0.N) : (ms0_7 t).IsWhole := hstage0_7 ((cfg0.slots t 7).cast nbuf0_7)
/-- The buffer of operand 8 at point `t`. -/
abbrev ms0_8 (t : Fin cfg0.N) : Memref sig .tc .vmem S1x65536x128 .fp8e4m3 := win0_8.stage (cfg0.slots t 8)
/-- The buffer of operand 8 is a whole one. -/
abbrev hs0_8 (t : Fin cfg0.N) : (ms0_8 t).IsWhole := hstage0_8 ((cfg0.slots t 8).cast nbuf0_8)
/-- The buffer of operand 9 at point `t`. -/
abbrev ms0_9 (t : Fin cfg0.N) : Memref sig .tc .vmem S1x65536x128 .fp8e4m3 := win0_9.stage (cfg0.slots t 9)
/-- The buffer of operand 9 is a whole one. -/
abbrev hs0_9 (t : Fin cfg0.N) : (ms0_9 t).IsWhole := hstage0_9 ((cfg0.slots t 9).cast nbuf0_9)
/-- The buffer of operand 10 at point `t`. -/
abbrev ms0_10 (t : Fin cfg0.N) : Memref sig .tc .vmem S1x128x128 .bf16 := win0_10.stage (cfg0.slots t 10)
/-- The buffer of operand 10 is a whole one. -/
abbrev hs0_10 (t : Fin cfg0.N) : (ms0_10 t).IsWhole := hstage0_10 ((cfg0.slots t 10).cast nbuf0_10)
/-- The buffer of operand 11 at point `t`. -/
abbrev ms0_11 (t : Fin cfg0.N) : Memref sig .tc .vmem S1x16x128 .fp8e4m3 := win0_11.stage (cfg0.slots t 11)
/-- The buffer of operand 11 is a whole one. -/
abbrev hs0_11 (t : Fin cfg0.N) : (ms0_11 t).IsWhole := hstage0_11 ((cfg0.slots t 11).cast nbuf0_11)
/-- The buffer of operand 12 at point `t`. -/
abbrev ms0_12 (t : Fin cfg0.N) : Memref sig .tc .vmem S1x16x128 .fp8e4m3 := win0_12.stage (cfg0.slots t 12)
/-- The buffer of operand 12 is a whole one. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4x8x16384 .f32 := Memref.whole cc0_scratch0

/-- What a core holds between two points: its scratch buffer at some contents and its generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The outputs, of whose contents nothing is said. -/
def forgets0 : Fin 13 → Bool := fun w => w.val == 10 || w.val == 11 || w.val == 12

/-- What holds at each point of the launch on core `c`: the arrays start as the launch finds them, every input's buffer holds its
    block before and after the body, and nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The arrays start as the launch finds them. -/
theorem A_eq (c : Dev nD) (w : Fin cfg0.W) : (dats m 0 c).A w = V m c (Pipeline.arrRef spec0 w) := by
  dsimp only [dats]

/-- What the body leaves in operand 0's buffer. -/
theorem after0_0 (c : Dev nD) (t : Fin cfg0.N) : (dats m 0 c).after 0 t = iblk m c 0 t := by dsimp only [dats]
/-- What the body leaves in operand 1's buffer. -/
theorem after0_1 (c : Dev nD) (t : Fin cfg0.N) : (dats m 0 c).after 1 t = iblk m c 1 t := by dsimp only [dats]
/-- What the body leaves in operand 2's buffer. -/
theorem after0_2 (c : Dev nD) (t : Fin cfg0.N) : (dats m 0 c).after 2 t = iblk m c 2 t := by dsimp only [dats]
/-- What the body leaves in operand 3's buffer. -/
theorem after0_3 (c : Dev nD) (t : Fin cfg0.N) : (dats m 0 c).after 3 t = iblk m c 3 t := by dsimp only [dats]
/-- What the body leaves in operand 4's buffer. -/
theorem after0_4 (c : Dev nD) (t : Fin cfg0.N) : (dats m 0 c).after 4 t = iblk m c 4 t := by dsimp only [dats]
/-- What the body leaves in operand 5's buffer. -/
theorem after0_5 (c : Dev nD) (t : Fin cfg0.N) : (dats m 0 c).after 5 t = iblk m c 5 t := by dsimp only [dats]
/-- What the body leaves in operand 6's buffer. -/
theorem after0_6 (c : Dev nD) (t : Fin cfg0.N) : (dats m 0 c).after 6 t = iblk m c 6 t := by dsimp only [dats]
/-- What the body leaves in operand 7's buffer. -/
theorem after0_7 (c : Dev nD) (t : Fin cfg0.N) : (dats m 0 c).after 7 t = iblk m c 7 t := by dsimp only [dats]
/-- What the body leaves in operand 8's buffer. -/
theorem after0_8 (c : Dev nD) (t : Fin cfg0.N) : (dats m 0 c).after 8 t = iblk m c 8 t := by dsimp only [dats]
/-- What the body leaves in operand 9's buffer. -/
theorem after0_9 (c : Dev nD) (t : Fin cfg0.N) : (dats m 0 c).after 9 t = iblk m c 9 t := by dsimp only [dats]

/-- What the body finds in operand 0's buffer. -/
theorem before0_0 (c : Dev nD) (t : Fin cfg0.N) (d) : (dats m 0 c).before 0 t d = iblk m c 0 t :=
  before0_0_of m (dats m 0 c) (A_eq m c 0) (after0_0 m c) t d
/-- What the body finds in operand 1's buffer. -/
theorem before0_1 (c : Dev nD) (t : Fin cfg0.N) (d) : (dats m 0 c).before 1 t d = iblk m c 1 t :=
  before0_1_of m (dats m 0 c) (A_eq m c 1) (after0_1 m c) t d
/-- What the body finds in operand 2's buffer. -/
theorem before0_2 (c : Dev nD) (t : Fin cfg0.N) (d) : (dats m 0 c).before 2 t d = iblk m c 2 t :=
  before0_2_of m (dats m 0 c) (A_eq m c 2) (after0_2 m c) t d
/-- What the body finds in operand 3's buffer. -/
theorem before0_3 (c : Dev nD) (t : Fin cfg0.N) (d) : (dats m 0 c).before 3 t d = iblk m c 3 t :=
  before0_3_of m (dats m 0 c) (A_eq m c 3) (after0_3 m c) t d
/-- What the body finds in operand 4's buffer. -/
theorem before0_4 (c : Dev nD) (t : Fin cfg0.N) (d) : (dats m 0 c).before 4 t d = iblk m c 4 t :=
  before0_4_of m (dats m 0 c) (A_eq m c 4) (after0_4 m c) t d
/-- What the body finds in operand 5's buffer. -/
theorem before0_5 (c : Dev nD) (t : Fin cfg0.N) (d) : (dats m 0 c).before 5 t d = iblk m c 5 t :=
  before0_5_of m (dats m 0 c) (A_eq m c 5) (after0_5 m c) t d
/-- What the body finds in operand 6's buffer. -/
theorem before0_6 (c : Dev nD) (t : Fin cfg0.N) (d) : (dats m 0 c).before 6 t d = iblk m c 6 t :=
  before0_6_of m (dats m 0 c) (A_eq m c 6) (after0_6 m c) t d
/-- What the body finds in operand 7's buffer. -/
theorem before0_7 (c : Dev nD) (t : Fin cfg0.N) (d) : (dats m 0 c).before 7 t d = iblk m c 7 t :=
  before0_7_of m (dats m 0 c) (A_eq m c 7) (after0_7 m c) t d
/-- What the body finds in operand 8's buffer. -/
theorem before0_8 (c : Dev nD) (t : Fin cfg0.N) (d) : (dats m 0 c).before 8 t d = iblk m c 8 t :=
  before0_8_of m (dats m 0 c) (A_eq m c 8) (after0_8 m c) t d
/-- What the body finds in operand 9's buffer. -/
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The run of the whole program, with every semaphore counter at zero at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run of the whole program: it ends, the arrays the launch reads keep their contents, nothing is said of its outputs, and every
    other buffer outside the results holds what the launch found in it. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- Every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.KernelIdeal.Tile.lean ====
/- One tile of the cache, as the kernel gathers, scores and folds it: the operations of the body as definitions over the
   head set, and what each is at an index over the extended reals. -/
module

public import proofs.«01_k».proof.Proof.Gen.KernelIdeal.Skeleton
public import Idealize.ShloMosaic.Lib.Pointwise

@[expose] public section

noncomputable section

namespace Cert.KernelIdeal.Tile

open Cert.KernelIdeal Cert.KernelIdeal.Gen
open Idealize.ShloMosaic

variable {F : FTy → Type} [FloatOps F] [Named F]

/-- The rows of head set `hs` in a run of 64 tokens' rows, as 256 rows: four heads for each token. -/
def pick (hs : ℕ) (h : S64x4x4x128.Slices ![0, hs, 0, 0] S64x1x4x128) (run : Vec F S1x1024x128 .fp8e4m3) :
    FVec F S256x128 .fp8e4m3 :=
  shapeCast S256x128 (shapeCast S64x4x128 (extractStridedSlice S64x1x4x128 ![0, hs, 0, 0]
    (shapeCast S64x4x4x128 (shapeCast S1024x128 run shapeCasts_S1x1024x128_S1024x128) shapeCasts_S1024x128_S64x4x4x128) h)
    shapeCasts_S64x1x4x128_S64x4x128) shapeCasts_S64x4x128_S256x128

/-- A tile's codes of one head set: the first 64 tokens in the left half of the lanes, the next 64 in the right half. -/
def codes (hs : ℕ) (h : S64x4x4x128.Slices ![0, hs, 0, 0] S64x1x4x128) (run₀ run₁ : Vec F S1x1024x128 .fp8e4m3) :
    FVec F S256x256 .fp8e4m3 :=
  concatenate S256x256 1 [⟨S256x128, pick hs h run₀⟩, ⟨S256x128, pick hs h run₁⟩] concatenates_S256x128_S256x128_S256x256_d1

/-- Row `j` of a head set's 256 rows is row `16 (j / 4) + 4 hs + j % 4` of the run. -/
theorem pick_apply (hs : ℕ) (hlt : hs < 4) (h : S64x4x4x128.Slices ![0, hs, 0, 0] S64x1x4x128)
    (run : Vec F S1x1024x128 .fp8e4m3) (j : Fin 256) (e : Fin 128) :
    pick hs h run (ix2 j e)
      = run (ix3 0 (⟨16 * (j.val / 4) + 4 * hs + j.val % 4, by have := j.isLt; omega⟩ : Fin 1024) e) := by
  pointwise [pick]
  congr 2; apply Fin.ext; dsimp only; omega

/-- The two halves of a tile's codes, at an index. -/
theorem codes_apply (hs : ℕ) (hlt : hs < 4) (h : S64x4x4x128.Slices ![0, hs, 0, 0] S64x1x4x128)
    (run₀ run₁ : Vec F S1x1024x128 .fp8e4m3) (j : Fin 256) (e : Fin 256) :
    codes hs h run₀ run₁ (ix2 j e)
      = if he : e.val < 128 then pick hs h run₀ (ix2 j ⟨e.val, he⟩)
        else pick hs h run₁ (ix2 j ⟨e.val - 128, by have := e.isLt; omega⟩) := by
  pointwise [codes]

/-- The scores of a tile: the query rows of the head set, twice along the diagonal, against the tile's codes. -/
def scores (hs : ℕ) (h : S64x4x4x128.Slices ![0, hs, 0, 0] S64x1x4x128) (q2 : FVec F S64x256 .bf16)
    (run₀ run₁ : Vec F S1x1024x128 .fp8e4m3) : FVec F S64x256 .f32 :=
  matmul dot_S64x256_S256x256_S64x256_1_1_0_0_n_n none q2 (codes hs h run₀ run₁) (constant S64x256 .f32 0x00000000#32)

/-- A head set's query rows twice along the diagonal of a matrix of zeros. -/
def twice (q : FVec F S32x128 .bf16) : FVec F S64x256 .bf16 :=
  concatenate S64x256 0 [⟨S32x256, concatenate S32x256 1 [⟨S32x128, q⟩, ⟨S32x128, broadcast S32x128 (Scalar.ofBits .bf16 0x0000#16)⟩] concatenates_S32x128_S32x128_S32x256_d1⟩,
    ⟨S32x256, concatenate S32x256 1 [⟨S32x128, broadcast S32x128 (Scalar.ofBits .bf16 0x0000#16)⟩, ⟨S32x128, q⟩] concatenates_S32x128_S32x128_S32x256_d1⟩] concatenates_S32x256_S32x256_S64x256_d0

/-- The upper half of a tile's scores: each query row against the rows of the first 64 tokens. -/
theorem scores_upper (hs : ℕ) (hlt : hs < 4) (h : S64x4x4x128.Slices ![0, hs, 0, 0] S64x1x4x128)
    (q : FVec Ideal S32x128 .bf16) (run₀ run₁ : Vec Ideal S1x1024x128 .fp8e4m3) (r : Fin 64) (hr : r.val < 32) (j : Fin 256) :
    scores hs h (twice q) run₀ run₁ (ix2 r j)
      = ∑ e : Fin 128, q (ix2 ⟨r.val, hr⟩ e)
          * run₀ (ix3 0 (⟨16 * (j.val / 4) + 4 * hs + j.val % 4, by have := j.isLt; omega⟩ : Fin 1024) e) := by
  pointwise [scores, twice]
  simp only [hr, dite_true, zero_mul, Finset.sum_const_zero, add_zero]
  refine Finset.sum_congr rfl fun e _ => ?_
  rw [codes_apply hs hlt, dif_pos (by exact e.isLt), pick_apply hs hlt]

/-- The lower half of a tile's scores: each query row against the rows of the next 64 tokens. -/
theorem scores_lower (hs : ℕ) (hlt : hs < 4) (h : S64x4x4x128.Slices ![0, hs, 0, 0] S64x1x4x128)
    (q : FVec Ideal S32x128 .bf16) (run₀ run₁ : Vec Ideal S1x1024x128 .fp8e4m3) (r : Fin 64) (hr : ¬r.val < 32) (j : Fin 256) :
    scores hs h (twice q) run₀ run₁ (ix2 r j)
      = ∑ e : Fin 128, q (ix2 (⟨r.val - 32, by have := r.isLt; omega⟩ : Fin 32) e)
          * run₁ (ix3 0 (⟨16 * (j.val / 4) + 4 * hs + j.val % 4, by have := j.isLt; omega⟩ : Fin 1024) e) := by
  pointwise [scores, twice]
  simp only [hr, dite_false, zero_mul, Finset.sum_const_zero, zero_add]
  refine Finset.sum_congr rfl fun e _ => ?_
  rw [codes_apply hs hlt, dif_neg (by dsimp only; omega), pick_apply hs hlt]
  congr 2
  simp

/-- Of a 32-row part of the scores, the row of each lane's own head, scaled by the column scales. -/
def fold (v18 v20 v22 : IVec S8x128 1) (cs : FVec F S8x128 .f32) (s : FVec F S32x128 .f32) : FVec F S8x128 .f32 :=
  mulf (select v18 (extractStridedSlice S8x128 ![0, 0] s slices_S32x128_o0_0_S8x128)
    (select v20 (extractStridedSlice S8x128 ![8, 0] s slices_S32x128_o8_0_S8x128)
      (select v22 (extractStridedSlice S8x128 ![16, 0] s slices_S32x128_o16_0_S8x128)
        (extractStridedSlice S8x128 ![24, 0] s slices_S32x128_o24_0_S8x128)))) cs

/-- A lane mask is that of head `h` of a set: one at the lanes with `l % 4 = h`, zero elsewhere. -/
def IsMask (h : ℕ) (v : IVec S8x128 1) : Prop := ∀ (g : Fin 8) (l : Fin 128), v (ix2 g l) = if l.val % 4 = h then 1#1 else 0#1

/-- Folding keeps, at each lane, the row of the lane's own head, times the lane's scale. -/
theorem fold_apply (v18 v20 v22 : IVec S8x128 1) (h0 : IsMask 0 v18) (h1 : IsMask 1 v20) (h2 : IsMask 2 v22)
    (cs : FVec Ideal S8x128 .f32) (s : FVec Ideal S32x128 .f32) (g : Fin 8) (l : Fin 128) :
    fold v18 v20 v22 cs s (ix2 g l)
      = s (ix2 (⟨8 * (l.val % 4) + g.val, by have := g.isLt; omega⟩ : Fin 32) l) * cs (ix2 g l) := by
  pointwise [fold, h0 g l, h1 g l, h2 g l]
  have hl : l.val % 4 < 4 := Nat.mod_lt _ (by decide)
  congr 1
  rcases (by omega : l.val % 4 = 0 ∨ l.val % 4 = 1 ∨ l.val % 4 = 2 ∨ l.val % 4 = 3) with e | e | e | e <;>
    simp [e, Scalar.select]

/-- A row of the cache block by its number. -/
def row (X : Vec Ideal S1x65536x128 .fp8e4m3) (n : ℕ) (e : Fin 128) : EReal :=
  if h : n < 65536 then X (ix3 0 ⟨n, h⟩ e) else 0

/-- The scaled score of column `col` of head set `hs` and query row `g` of its head: column `col` is head `col % 4` of the
    set at token `col / 4`. -/
def S (hs : ℕ) (q : FVec Ideal S32x128 .bf16) (X : Vec Ideal S1x65536x128 .fp8e4m3) (cs : FVec Ideal S8x128 .f32)
    (g : Fin 8) (col : ℕ) : EReal :=
  (∑ e : Fin 128, q (ix2 (⟨8 * (col % 4) + g.val, by have := g.isLt; omega⟩ : Fin 32) e)
      * row X (16 * (col / 4) + 4 * hs + col % 4) e) * cs (ix2 g ⟨col % 128, Nat.mod_lt _ (by decide)⟩)

/-- One 128-lane part of a tile's folded scores. -/
def part (hs : ℕ) (h : S64x4x4x128.Slices ![0, hs, 0, 0] S64x1x4x128) (v18 v20 v22 : IVec S8x128 1) (q2 : FVec F S64x256 .bf16)
    (cs : FVec F S8x128 .f32) (off : Fin 2 → ℕ) (ho : S64x256.Slices off S32x128) (run₀ run₁ : Vec F S1x1024x128 .fp8e4m3) :
    FVec F S8x128 .f32 :=
  fold v18 v20 v22 cs (extractStridedSlice S32x128 off (scores hs h q2 run₀ run₁) ho)

/-- Part `n` of a block's scores, `n < 512`: when the two runs are those of tile `n / 4`, it holds columns `128 n + l`. -/
theorem part_apply (hs : ℕ) (hlt : hs < 4) (h : S64x4x4x128.Slices ![0, hs, 0, 0] S64x1x4x128) (v18 v20 v22 : IVec S8x128 1)
    (h0 : IsMask 0 v18) (h1 : IsMask 1 v20) (h2 : IsMask 2 v22) (q : FVec Ideal S32x128 .bf16) (cs : FVec Ideal S8x128 .f32)
    (X : Vec Ideal S1x65536x128 .fp8e4m3) (run₀ run₁ : Vec Ideal S1x1024x128 .fp8e4m3) (t half c : ℕ)
    (hhalf : half < 2) (hc : c < 2)
    (r0 : ∀ (r : Fin 1024) e, run₀ (ix3 0 r e) = row X (2048 * t + r.val) e)
    (r1 : ∀ (r : Fin 1024) e, run₁ (ix3 0 r e) = row X (2048 * t + 1024 + r.val) e)
    (off : Fin 2 → ℕ) (hoff : off = ![32 * half, 128 * c]) (ho : S64x256.Slices off S32x128) (g : Fin 8) (l : Fin 128) :
    part hs h v18 v20 v22 (twice q) cs off ho run₀ run₁ (ix2 g l)
      = S hs q X cs g (128 * (4 * t + 2 * half + c) + l.val) := by
  subst hoff
  have hg := g.isLt
  have hl := l.isLt
  unfold part S
  rw [fold_apply v18 v20 v22 h0 h1 h2]
  pointwise []
  have e1 : (128 * (4 * t + 2 * half + c) + l.val) % 4 = l.val % 4 := by omega
  have e2 : (128 * (4 * t + 2 * half + c) + l.val) % 128 = l.val := by omega
  have e3 : (128 * (4 * t + 2 * half + c) + l.val) / 4 = 128 * t + 64 * half + (128 * c + l.val) / 4 := by omega
  simp only [e1, e2, e3]
  congr 1
  rcases (by omega : half = 0 ∨ half = 1) with rfl | rfl
  · rw [scores_upper hs hlt h q run₀ run₁ _ (by dsimp only; omega)]
    refine Finset.sum_congr rfl fun e _ => ?_
    rw [r0]
    congr 2
    · congr 1; apply Fin.ext; dsimp only; omega
    · dsimp only; omega
  · rw [scores_lower hs hlt h q run₀ run₁ _ (by dsimp only; omega)]
    refine Finset.sum_congr rfl fun e _ => ?_
    rw [r1]
    congr 2
    · congr 1; apply Fin.ext; dsimp only; omega
    · dsimp only; omega

/-- The exponentials of one 128-lane part of the stored scores, less each lane's maximum. -/
def expo (mc : FVec F S8x128 .f32) (s : Vec F S1x8x128 .f32) : FVec F S8x128 .f32 :=
  exp2 (subf (shapeCast S8x128 s shapeCasts_S1x8x128_S8x128) mc)

/-- A part's exponentials on the rows of each lane's own head, zeros on the rows of the other three heads. -/
def spread (v18 v20 v22 v24 : IVec S8x128 1) (p : FVec F S8x128 .f32) : FVec F S32x128 .f32 :=
  concatenate S32x128 0 [⟨S8x128, select v18 p (broadcast S8x128 (Scalar.ofBits .f32 0x00000000#32))⟩,
    ⟨S8x128, select v20 p (broadcast S8x128 (Scalar.ofBits .f32 0x00000000#32))⟩,
    ⟨S8x128, select v22 p (broadcast S8x128 (Scalar.ofBits .f32 0x00000000#32))⟩,
    ⟨S8x128, select v24 p (broadcast S8x128 (Scalar.ofBits .f32 0x00000000#32))⟩] concatenates_S8x128_S8x128_S8x128_S8x128_S32x128_d0

/-- A tile's four parts as the matrix that multiplies its value codes: parts 0 and 1 above, parts 2 and 3 below. -/
def weights (v18 v20 v22 v24 : IVec S8x128 1) (p₀ p₁ p₂ p₃ : FVec F S8x128 .f32) : FVec F S64x256 .bf16 :=
  truncf .bf16 (concatenate S64x256 0
    [⟨S32x256, concatenate S32x256 1 [⟨S32x128, spread v18 v20 v22 v24 p₀⟩, ⟨S32x128, spread v18 v20 v22 v24 p₁⟩] concatenates_S32x128_S32x128_S32x256_d1⟩,
     ⟨S32x256, concatenate S32x256 1 [⟨S32x128, spread v18 v20 v22 v24 p₂⟩, ⟨S32x128, spread v18 v20 v22 v24 p₃⟩] concatenates_S32x128_S32x128_S32x256_d1⟩]
    concatenates_S32x256_S32x256_S64x256_d0) bitsLt_bf16_f32

/-- A tile's contribution to the weighted sum of values. -/
def valueTile (hs : ℕ) (h : S64x4x4x128.Slices ![0, hs, 0, 0] S64x1x4x128) (v18 v20 v22 v24 : IVec S8x128 1)
    (p₀ p₁ p₂ p₃ : FVec F S8x128 .f32) (run₀ run₁ : Vec F S1x1024x128 .fp8e4m3) : FVec F S64x256 .f32 :=
  matmul dot_S64x256_S256x256_S64x256_1_0_0_1_n_n none (weights v18 v20 v22 v24 p₀ p₁ p₂ p₃) (codes hs h run₀ run₁)
    (constant S64x256 .f32 0x00000000#32)

/-- Spreading gives each head's rows its own lanes and zero elsewhere. -/
theorem spread_apply (v18 v20 v22 v24 : IVec S8x128 1) (h0 : IsMask 0 v18) (h1 : IsMask 1 v20) (h2 : IsMask 2 v22)
    (h3 : IsMask 3 v24) (p : FVec Ideal S8x128 .f32) (r : Fin 32) (l : Fin 128) :
    spread v18 v20 v22 v24 p (ix2 r l)
      = if l.val % 4 = r.val / 8 then p (ix2 (⟨r.val % 8, Nat.mod_lt _ (by decide)⟩ : Fin 8) l) else 0 := by
  have hr := r.isLt
  pointwise [spread]
  rcases (by omega : r.val < 8 ∨ (8 ≤ r.val ∧ r.val < 16) ∨ (16 ≤ r.val ∧ r.val < 24) ∨ 24 ≤ r.val) with e | e | e | e
  · rw [dif_pos e, h0, Nat.div_eq_of_lt e]
    by_cases hl : l.val % 4 = 0
    · simp only [hl, if_true, Scalar.select, Nat.mod_eq_of_lt e]; simp
    · simp [hl, Scalar.select]
  · rw [dif_neg (by omega), dif_pos (by omega), h1, (by omega : r.val / 8 = 1)]
    by_cases hl : l.val % 4 = 1
    · simp only [hl, if_true, Scalar.select, (by omega : r.val % 8 = r.val - 8)]; simp
    · simp [hl, Scalar.select]
  · rw [dif_neg (by omega), dif_neg (by omega), dif_pos (by omega), h2, (by omega : r.val / 8 = 2)]
    by_cases hl : l.val % 4 = 2
    · simp only [hl, if_true, Scalar.select, (by omega : r.val % 8 = r.val - 8 - 8)]; simp
    · simp [hl, Scalar.select]
  · rw [dif_neg (by omega), dif_neg (by omega), dif_neg (by omega), h3, (by omega : r.val / 8 = 3)]
    by_cases hl : l.val % 4 = 3
    · simp only [hl, if_true, Scalar.select, (by omega : r.val % 8 = r.val - 8 - 8 - 8)]; simp
    · simp [hl, Scalar.select]

/-- What column `col` contributes to lane `d` of query row `r` of the head set: its exponential times its value code if it
    is the row's own head, zero otherwise. -/
def W (hs : ℕ) (E : Fin 8 → ℕ → EReal) (X : Vec Ideal S1x65536x128 .fp8e4m3) (r : Fin 32) (d : Fin 128) (col : ℕ) : EReal :=
  (if col % 4 = r.val / 8 then E ⟨r.val % 8, Nat.mod_lt _ (by decide)⟩ col else 0) * row X (16 * (col / 4) + 4 * hs + col % 4) d

section
variable (v18 v20 v22 v24 : IVec S8x128 1) (h0 : IsMask 0 v18) (h1 : IsMask 1 v20) (h2 : IsMask 2 v22) (h3 : IsMask 3 v24)
variable (hs : ℕ) (hlt : hs < 4) (h : S64x4x4x128.Slices ![0, hs, 0, 0] S64x1x4x128)
variable (E : Fin 8 → ℕ → EReal) (X : Vec Ideal S1x65536x128 .fp8e4m3) (t : ℕ)
variable (p₀ p₁ p₂ p₃ : FVec Ideal S8x128 .f32) (run₀ run₁ : Vec Ideal S1x1024x128 .fp8e4m3)
variable (e0 : ∀ g l, p₀ (ix2 g l) = E g (128 * (4 * t) + l.val)) (e1 : ∀ g l, p₁ (ix2 g l) = E g (128 * (4 * t + 1) + l.val))
variable (e2 : ∀ g l, p₂ (ix2 g l) = E g (128 * (4 * t + 2) + l.val)) (e3 : ∀ g l, p₃ (ix2 g l) = E g (128 * (4 * t + 3) + l.val))
variable (r0 : ∀ (r : Fin 1024) e, run₀ (ix3 0 r e) = row X (2048 * t + r.val) e)
variable (r1 : ∀ (r : Fin 1024) e, run₁ (ix3 0 r e) = row X (2048 * t + 1024 + r.val) e)

include h0 h1 h2 h3 hlt e0 e1 r0 in
/-- The upper left block of a tile's contribution: its first 64 tokens. -/
theorem valueTile_upper (r : Fin 32) (d : Fin 128) :
    valueTile hs h v18 v20 v22 v24 p₀ p₁ p₂ p₃ run₀ run₁ (ix2 (⟨r.val, by have := r.isLt; omega⟩ : Fin 64) (⟨d.val, by have := d.isLt; omega⟩ : Fin 256))
      = ∑ j : Fin 256, W hs E X r d (512 * t + j.val) := by
  have hr := r.isLt
  pointwise [valueTile]
  refine Finset.sum_congr rfl fun j _ => ?_
  have hj := j.isLt
  rw [codes_apply hs hlt, dif_pos (by exact d.isLt), pick_apply hs hlt, r0]
  unfold W
  congr 1
  · pointwise [weights]
    by_cases hj' : j.val < 128
    · rw [dif_pos hj', spread_apply v18 v20 v22 v24 h0 h1 h2 h3, e0]
      dsimp only
      rw [(by omega : (512 * t + j.val) % 4 = j.val % 4), (by omega : 128 * (4 * t) + j.val = 512 * t + j.val)]
    · rw [dif_neg hj', spread_apply v18 v20 v22 v24 h0 h1 h2 h3, e1]
      dsimp only
      rw [(by omega : (512 * t + j.val) % 4 = (j.val - 128) % 4), (by omega : 128 * (4 * t + 1) + (j.val - 128) = 512 * t + j.val)]
  · congr 1; dsimp only; omega

include h0 h1 h2 h3 hlt e2 e3 r1 in
/-- The lower right block of a tile's contribution: its next 64 tokens. -/
theorem valueTile_lower (r : Fin 32) (d : Fin 128) :
    valueTile hs h v18 v20 v22 v24 p₀ p₁ p₂ p₃ run₀ run₁ (ix2 (⟨32 + r.val, by have := r.isLt; omega⟩ : Fin 64) (⟨128 + d.val, by have := d.isLt; omega⟩ : Fin 256))
      = ∑ j : Fin 256, W hs E X r d (512 * t + 256 + j.val) := by
  have hr := r.isLt
  pointwise [valueTile]
  refine Finset.sum_congr rfl fun j _ => ?_
  have hj := j.isLt
  rw [codes_apply hs hlt, dif_neg (by dsimp only; omega), pick_apply hs hlt, r1]
  unfold W
  congr 1
  · pointwise [weights]
    by_cases hj' : j.val < 128
    · rw [dif_pos hj', spread_apply v18 v20 v22 v24 h0 h1 h2 h3, e2]
      dsimp only
      simp only [(by omega : (512 * t + 256 + j.val) % 4 = j.val % 4), (by omega : 128 * (4 * t + 2) + j.val = 512 * t + 256 + j.val), (by omega : 32 + r.val - 32 = r.val)]
    · rw [dif_neg hj', spread_apply v18 v20 v22 v24 h0 h1 h2 h3, e3]
      dsimp only
      simp only [(by omega : (512 * t + 256 + j.val) % 4 = (j.val - 128) % 4), (by omega : 128 * (4 * t + 3) + (j.val - 128) = 512 * t + 256 + j.val), (by omega : 32 + r.val - 32 = r.val)]
  · congr 1
    · dsimp only; omega
    · apply Fin.ext; dsimp only; omega

end

/-- The power of two of a score less its lane's maximum. -/
theorem expo_apply (mc : FVec Ideal S8x128 .f32) (s : Vec Ideal S1x8x128 .f32) (g : Fin 8) (l : Fin 128) :
    expo mc s (ix2 g l) = FloatOps.exp2 (F := Ideal) (φ := .f32) (s (ix3 0 g l) - mc (ix2 g l) : EReal) := by
  pointwise [expo]

end Cert.KernelIdeal.Tile

end
-- ==== Proof.KernelIdeal.ScoreLoop.lean ====
/- One trip of a score loop, over the head set: what it writes into the score buffer and how it raises the lane maxima, and
   what the buffer holds after it. -/
module

public import proofs.«01_k».proof.Proof.KernelIdeal.Tile
public import Idealize.ShloMosaic.Lib.Writes
public import Idealize.ShloMosaic.Lib.WritesUnit
public import Idealize.ShloMosaic.Lib.Pipeline.Value
public import Idealize.ShloMosaic.Lib.Pipeline.ValueKit.Tiles

@[expose] public section

noncomputable section

namespace Cert.KernelIdeal.ScoreLoop

open Cert.KernelIdeal Cert.KernelIdeal.Gen Cert.KernelIdeal.Tile
open Idealize.ShloMosaic

section
variable {F : FTy → Type} [FloatOps F] [Named F]

variable {κ : Kind} {sp : Space} (w : View sig κ sp S1x65536x128 .fp8e4m3) (X : BufTy.Contents (Elt F) w.ty)
variable (o1 : Fin 4 → Fin 2 → Fin 3 → ℕ) (i1 : ∀ r₁ r₂ a, o1 r₁ r₂ a + S1x1024x128.size a ≤ S1x65536x128.size a)
variable (o2 : Fin 4 → Fin 4 → Fin 3 → ℕ) (i2 : ∀ r₁ r₂ a, o2 r₁ r₂ a + S1x8x128.size a ≤ S4x8x16384.size a)

/-- Half `b` of tile `u` of a trip: 64 tokens' rows of the cache block. -/
def run (u : Fin 4) (b : Fin 2) : Vec F S1x1024x128 .fp8e4m3 :=
  View.readAt (Elt F) w (Rect.unit (s := S1x65536x128) (o1 u b) S1x1024x128.size (i1 u b)).toLoadRect X

variable (hs : ℕ) (h : S64x4x4x128.Slices ![0, hs, 0, 0] S64x1x4x128) (v18 v20 v22 : IVec S8x128 1) (q2 : FVec F S64x256 .bf16)
variable (cs : FVec F S8x128 .f32)

/-- The parts of tile `u`, in the order they are stored. -/
def parts (u : Fin 4) : Fin 4 → FVec F S8x128 .f32
  | 0 => part hs h v18 v20 v22 q2 cs ![0, 0] slices_S64x256_o0_0_S32x128 (run w X o1 i1 u 0) (run w X o1 i1 u 1)
  | 1 => part hs h v18 v20 v22 q2 cs ![0, 128] slices_S64x256_o0_128_S32x128 (run w X o1 i1 u 0) (run w X o1 i1 u 1)
  | 2 => part hs h v18 v20 v22 q2 cs ![32, 0] slices_S64x256_o32_0_S32x128 (run w X o1 i1 u 0) (run w X o1 i1 u 1)
  | 3 => part hs h v18 v20 v22 q2 cs ![32, 128] slices_S64x256_o32_128_S32x128 (run w X o1 i1 u 0) (run w X o1 i1 u 1)

/-- The store of part `r` of tile `u`. -/
def piece (u r : Fin 4) : View.Piece (Elt F) S4x8x16384 .f32 :=
  ⟨Rect.unit (s := S4x8x16384) (o2 u r) S1x8x128.size (i2 u r),
    shapeCast S1x8x128 (parts w X o1 i1 hs h v18 v20 v22 q2 cs u r) shapeCasts_S8x128_S1x8x128⟩

/-- The stores of one trip, the last first. -/
def pieces : List (View.Piece (Elt F) S4x8x16384 .f32) :=
  let P := piece w X o1 i1 o2 i2 hs h v18 v20 v22 q2 cs
  [P 3 3, P 3 2, P 3 1, P 3 0, P 2 3, P 2 2, P 2 1, P 2 0, P 1 3, P 1 2, P 1 1, P 1 0, P 0 3, P 0 2, P 0 1, P 0 0]

/-- The lane maxima after one trip, from those before it. -/
def raise (acc : FVec F S8x128 .f32) : FVec F S8x128 .f32 :=
  let p := parts w X o1 i1 hs h v18 v20 v22 q2 cs
  maximumf (maximumf (maximumf (maximumf (maximumf (maximumf (maximumf (maximumf (maximumf (maximumf (maximumf (maximumf (maximumf
    (maximumf (maximumf (maximumf acc (p 0 0)) (p 0 1)) (p 0 2)) (p 0 3)) (p 1 0)) (p 1 1)) (p 1 2)) (p 1 3)) (p 2 0)) (p 2 1)) (p 2 2)) (p 2 3))
    (p 3 0)) (p 3 1)) (p 3 2)) (p 3 3)

end

section
variable {κ : Kind} {sp : Space} (w : View sig κ sp S1x65536x128 .fp8e4m3) (X : BufTy.Contents (Elt Ideal) w.ty)
variable (o1 : Fin 4 → Fin 2 → Fin 3 → ℕ) (i1 : ∀ r₁ r₂ a, o1 r₁ r₂ a + S1x1024x128.size a ≤ S1x65536x128.size a)
variable (o2 : Fin 4 → Fin 4 → Fin 3 → ℕ) (i2 : ∀ r₁ r₂ a, o2 r₁ r₂ a + S1x8x128.size a ≤ S4x8x16384.size a)
variable (t : ℕ) (ho1 : ∀ u b, o1 u b = ![0, 2048 * (t + u.val) + 1024 * b.val, 0])

include ho1 in
/-- The rows of a half tile are rows of the cache block. -/
theorem run_apply (u : Fin 4) (b : Fin 2) (r : Fin 1024) (e : Fin 128) :
    run w X o1 i1 u b (ix3 0 r e) = row (View.read (Elt Ideal) w X) (2048 * (t + u.val) + 1024 * b.val + r.val) e := by
  have hr := r.isLt
  have hin := i1 u b 1
  rw [ho1] at hin
  have hin' : 2048 * (t + u.val) + 1024 * b.val + 1024 ≤ 65536 := hin
  unfold run row
  rw [dif_pos (by omega), View.readAt_eq_ld]
  refine View.ld_unit_apply_of _ _ _ _ _ _ fun a => Eq.trans ?_ (congrArg (· + _) (congrFun (ho1 u b) a).symm)
  match a with
  | 0 => rfl
  | 1 => rfl
  | 2 => exact (Nat.zero_add _).symm

variable (hs : ℕ) (hlt : hs < 4) (h : S64x4x4x128.Slices ![0, hs, 0, 0] S64x1x4x128) (v18 v20 v22 : IVec S8x128 1)
variable (h0 : IsMask 0 v18) (h1 : IsMask 1 v20) (h2 : IsMask 2 v22) (q : FVec Ideal S32x128 .bf16) (cs : FVec Ideal S8x128 .f32)

include ho1 hlt h0 h1 h2 in
/-- Part `r` of tile `u` holds the scores of its 128 columns. -/
theorem parts_apply (u r : Fin 4) (g : Fin 8) (l : Fin 128) :
    parts w X o1 i1 hs h v18 v20 v22 (twice q) cs u r (ix2 g l)
      = S hs q (View.read (Elt Ideal) w X) cs g (128 * (4 * (t + u.val) + r.val) + l.val) := by
  have r0 : ∀ (r : Fin 1024) e, run w X o1 i1 u 0 (ix3 0 r e) = row (View.read (Elt Ideal) w X) (2048 * (t + u.val) + r.val) e :=
    fun r e => run_apply w X o1 i1 t ho1 u 0 r e
  have r1 : ∀ (r : Fin 1024) e, run w X o1 i1 u 1 (ix3 0 r e) = row (View.read (Elt Ideal) w X) (2048 * (t + u.val) + 1024 + r.val) e :=
    fun r e => run_apply w X o1 i1 t ho1 u 1 r e
  match r with
  | 0 => exact part_apply hs hlt h v18 v20 v22 h0 h1 h2 q cs _ _ _ (t + u.val) 0 0 (by decide) (by decide) r0 r1 _ rfl _ g l
  | 1 => exact part_apply hs hlt h v18 v20 v22 h0 h1 h2 q cs _ _ _ (t + u.val) 0 1 (by decide) (by decide) r0 r1 _ rfl _ g l
  | 2 => exact part_apply hs hlt h v18 v20 v22 h0 h1 h2 q cs _ _ _ (t + u.val) 1 0 (by decide) (by decide) r0 r1 _ rfl _ g l
  | 3 => exact part_apply hs hlt h v18 v20 v22 h0 h1 h2 q cs _ _ _ (t + u.val) 1 1 (by decide) (by decide) r0 r1 _ rfl _ g l

variable (ho2 : ∀ u r, o2 u r = ![hs, 0, 512 * (t + u.val) + 128 * r.val])
variable (G : S4x8x16384.Idx → EReal)
variable (hG : ∀ y, (y 0).val = hs → G y = S hs q (View.read (Elt Ideal) w X) cs (y 1) (y 2).val)

include ho1 hlt h0 h1 h2 ho2 hG in
/-- Every store of a trip writes the scores of the columns that it covers. -/
theorem piece_agrees (u r : Fin 4) (x : S1x8x128.Idx) :
    (piece w X o1 i1 o2 i2 hs h v18 v20 v22 (twice q) cs u r).2 x
      = G ((piece w X o1 i1 o2 i2 hs h v18 v20 v22 (twice q) cs u r).1.emb x) := by
  have hv : ∀ a, ((piece w X o1 i1 o2 i2 hs h v18 v20 v22 (twice q) cs u r).1.emb x a).val = o2 u r a + x a :=
    fun a => Rect.idx_unit_val (s := S4x8x16384) (o2 u r) S1x8x128.size (i2 u r) x a
  rw [ho2] at hv
  have x0 : (x 0).val < 1 := (x 0).isLt
  rw [hG _ (by rw [hv 0]; show hs + (x 0).val = hs; omega)]
  have e1 : (piece w X o1 i1 o2 i2 hs h v18 v20 v22 (twice q) cs u r).1.emb x 1 = x 1 :=
    Fin.ext (by rw [hv 1]; exact Nat.zero_add _)
  have e2 : ((piece w X o1 i1 o2 i2 hs h v18 v20 v22 (twice q) cs u r).1.emb x 2).val = 128 * (4 * (t + u.val) + r.val) + (x 2).val := by
    rw [hv 2]; show 512 * (t + u.val) + 128 * r.val + (x 2).val = _; omega
  rw [e1, e2, ← parts_apply w X o1 i1 t ho1 hs hlt h v18 v20 v22 h0 h1 h2 q cs u r (x 1) (x 2)]
  have hx : x = ix3 0 (x 1) (x 2) := funext fun a => match a with
    | 0 => Fin.ext (by show (x 0).val = 0; omega)
    | 1 => rfl
    | 2 => rfl
  unfold piece
  dsimp only
  rw [hx]
  pointwise []

/-- The stores of a trip are those of its sixteen parts. -/
theorem mem_pieces (q2 : FVec Ideal S64x256 .bf16) (p : View.Piece (Elt Ideal) S4x8x16384 .f32) :
    p ∈ pieces w X o1 i1 o2 i2 hs h v18 v20 v22 q2 cs ↔ ∃ u r, p = piece w X o1 i1 o2 i2 hs h v18 v20 v22 q2 cs u r := by
  constructor
  · intro hp
    unfold pieces at hp
    simp only [List.mem_cons, List.not_mem_nil, or_false] at hp
    rcases hp with rfl | rfl | rfl | rfl | rfl | rfl | rfl | rfl | rfl | rfl | rfl | rfl | rfl | rfl | rfl | rfl <;> exact ⟨_, _, rfl⟩
  · rintro ⟨u, r, rfl⟩
    unfold pieces
    fin_cases u <;> fin_cases r <;> simp

include ho2 in
/-- The stores of a trip cover its 2048 columns of the head set's rows. -/
theorem pieces_cover (q2 : FVec Ideal S64x256 .bf16) (y : S4x8x16384.Idx) (y0 : (y 0).val = hs)
    (lo : 512 * t ≤ (y 2).val) (hi : (y 2).val < 512 * t + 2048) :
    ∃ p ∈ pieces w X o1 i1 o2 i2 hs h v18 v20 v22 q2 cs, y ∈ p.1.set := by
  have y1 : (y 1).val < 8 := (y 1).isLt
  refine ⟨_, (mem_pieces w X o1 i1 o2 i2 hs h v18 v20 v22 cs q2 _).mpr
    ⟨(⟨((y 2).val - 512 * t) / 512, by omega⟩ : Fin 4), (⟨((y 2).val - 512 * t) % 512 / 128, by omega⟩ : Fin 4), rfl⟩, ?_⟩
  refine (Rect.mem_set_unit (s := S4x8x16384) (inb := i2 _ _)).mpr fun a => ?_
  rw [ho2]
  match a with
  | 0 => exact ⟨y0.ge, by show (y 0).val < hs + 1; omega⟩
  | 1 => exact ⟨Nat.zero_le _, by show (y 1).val < 0 + 8; omega⟩
  | 2 =>
    constructor
    · show 512 * (t + ((y 2).val - 512 * t) / 512) + 128 * (((y 2).val - 512 * t) % 512 / 128) ≤ (y 2).val; omega
    · show (y 2).val < 512 * (t + ((y 2).val - 512 * t) / 512) + 128 * (((y 2).val - 512 * t) % 512 / 128) + 128; omega

/-- A supremum over one more index. -/
theorem sup_step (f : ℕ → EReal) (n : ℕ) : (Finset.range (n + 1)).sup f = (Finset.range n).sup f ⊔ f n := by
  rw [Finset.range_add_one, Finset.sup_insert, sup_comm]

include ho1 hlt h0 h1 h2 in
/-- A trip takes the running lane suprema from its first part to the first of the next trip. -/
theorem raise_apply (n : ℕ) (hn : t = 4 * n) (acc : FVec Ideal S8x128 .f32) (g : Fin 8) (l : Fin 128)
    (hacc : acc (ix2 g l) = (Finset.range (16 * n)).sup fun j => S hs q (View.read (Elt Ideal) w X) cs g (128 * j + l.val)) :
    raise w X o1 i1 hs h v18 v20 v22 (twice q) cs acc (ix2 g l)
      = (Finset.range (16 * (n + 1))).sup fun j => S hs q (View.read (Elt Ideal) w X) cs g (128 * j + l.val) := by
  have hp := fun u r => parts_apply w X o1 i1 t ho1 hs hlt h v18 v20 v22 h0 h1 h2 q cs u r g l
  rw [(by omega : 16 * (n + 1) = 16 * n + 1 + 1 + 1 + 1 + 1 + 1 + 1 + 1 + 1 + 1 + 1 + 1 + 1 + 1 + 1 + 1)]
  simp only [sup_step, ← hacc]
  have hq : ∀ (u r : Fin 4) (j : ℕ), j = 16 * n + (4 * u.val + r.val) →
      S hs q (View.read (Elt Ideal) w X) cs g (128 * j + l.val) = parts w X o1 i1 hs h v18 v20 v22 (twice q) cs u r (ix2 g l) := by
    intro u r j hj
    rw [hp]; congr 2; omega
  rw [hq 0 0 _ (by simp), hq 0 1 _ (by simp), hq 0 2 _ (by simp), hq 0 3 _ (by simp), hq 1 0 _ (by simp), hq 1 1 _ (by simp),
    hq 1 2 _ (by simp), hq 1 3 _ (by simp), hq 2 0 _ (by simp), hq 2 1 _ (by simp), hq 2 2 _ (by simp), hq 2 3 _ (by simp),
    hq 3 0 _ (by simp), hq 3 1 _ (by simp), hq 3 2 _ (by simp), hq 3 3 _ (by simp)]
  rfl

end

/-! ## All the trips -/

section
variable {κ : Kind} {sp : Space} (w : View sig κ sp S1x65536x128 .fp8e4m3) (X : BufTy.Contents (Elt Ideal) w.ty)
variable (o1 : Fin 8 → Fin 4 → Fin 2 → Fin 3 → ℕ) (i1 : ∀ k r₁ r₂ a, o1 k r₁ r₂ a + S1x1024x128.size a ≤ S1x65536x128.size a)
variable (o2 : Fin 8 → Fin 4 → Fin 4 → Fin 3 → ℕ) (i2 : ∀ k r₁ r₂ a, o2 k r₁ r₂ a + S1x8x128.size a ≤ S4x8x16384.size a)
variable (hs : ℕ) (hlt : hs < 4) (h : S64x4x4x128.Slices ![0, hs, 0, 0] S64x1x4x128) (v18 v20 v22 : IVec S8x128 1)
variable (q : FVec Ideal S32x128 .bf16) (cs : FVec Ideal S8x128 .f32)
variable (ho1 : ∀ k u b, o1 k u b = ![0, 2048 * (4 * k.val + u.val) + 1024 * b.val, 0])
variable (ho2 : ∀ k u r, o2 k u r = ![hs, 0, 512 * (4 * k.val + u.val) + 128 * r.val])
variable (h0 : IsMask 0 v18) (h1 : IsMask 1 v20) (h2 : IsMask 2 v22)
variable (st : ℕ → FVec Ideal S8x128 .f32 × List (View.Piece (Elt Ideal) S4x8x16384 .f32))
variable (st0 : (st 0).1 = fun _ => (⊥ : EReal))
variable (st0' : (st 0).2 = [])
variable (stS : ∀ k : Fin 8, st (k.val + 1)
  = (raise w X (o1 k) (i1 k) hs h v18 v20 v22 (twice q) cs (st k.val).1,
     pieces w X (o1 k) (i1 k) (o2 k) (i2 k) hs h v18 v20 v22 (twice q) cs ++ (st k.val).2))

include ho1 h0 h1 h2 hlt st0 stS in
/-- The lane maxima after `n` trips of a score loop. -/
theorem max_apply (n : ℕ) (hn : n ≤ 8) (g : Fin 8) (l : Fin 128) :
    (st n).1 (ix2 g l) = (Finset.range (16 * n)).sup fun j => S hs q (View.read (Elt Ideal) w X) cs g (128 * j + l.val) := by
  induction n with
  | zero => rw [st0]; simp
  | succ n ih =>
    rw [stS ⟨n, hn⟩]
    exact raise_apply w X _ (i1 ⟨n, hn⟩) (4 * n) (ho1 ⟨n, hn⟩) hs hlt h v18 v20 v22 h0 h1 h2 q cs n rfl _ g l (ih (by omega))

variable (G : S4x8x16384.Idx → EReal)
variable (hG : ∀ y, (y 0).val = hs → G y = S hs q (View.read (Elt Ideal) w X) cs (y 1) (y 2).val)

include ho1 ho2 h0 h1 h2 hlt st0' stS hG in
/-- Every store of the trips writes the scores of the columns that it covers. -/
theorem all_agree (n : ℕ) (hn : n ≤ 8) : ∀ p ∈ (st n).2, ∀ x : p.1.shape.Idx, p.2 x = G (p.1.emb x) := by
  induction n with
  | zero => rw [st0']; simp
  | succ n ih =>
    rw [stS ⟨n, hn⟩]
    intro p hp
    rcases List.mem_append.mp hp with hp | hp
    · obtain ⟨u, r, rfl⟩ := (mem_pieces w X _ _ _ _ hs h v18 v20 v22 cs _ p).mp hp
      exact piece_agrees w X _ _ _ _ (4 * n) (ho1 ⟨n, hn⟩) hs hlt h v18 v20 v22 h0 h1 h2 q cs (ho2 ⟨n, hn⟩) G hG u r
    · exact ih (by omega) p hp

include ho2 st0' stS in
/-- The stores of `n` trips cover the first `2048 n` columns of the head set's rows. -/
theorem all_cover (n : ℕ) (hn : n ≤ 8) (y : S4x8x16384.Idx) (y0 : (y 0).val = hs) (hy : (y 2).val < 2048 * n) :
    ∃ p ∈ (st n).2, y ∈ p.1.set := by
  induction n with
  | zero => omega
  | succ n ih =>
    rw [stS ⟨n, hn⟩]
    by_cases hlo : (y 2).val < 2048 * n
    · obtain ⟨p, hp, hm⟩ := ih (by omega) hlo
      exact ⟨p, List.mem_append_right _ hp, hm⟩
    · obtain ⟨p, hp, hm⟩ := pieces_cover w X _ (i1 ⟨n, hn⟩) _ (i2 ⟨n, hn⟩) (4 * n) hs h v18 v20 v22 cs (ho2 ⟨n, hn⟩) (twice q) y y0 (by omega) (by omega)
      exact ⟨p, List.mem_append_left _ hp, hm⟩

end

end Cert.KernelIdeal.ScoreLoop

end
-- ==== Proof.KernelIdeal.ValueLoop.lean ====
/- One trip of a value loop, over the head set: the sums of exponentials and the weighted sums of values that it adds. -/
module

public import proofs.«01_k».proof.Proof.KernelIdeal.ScoreLoop

@[expose] public section

noncomputable section

namespace Cert.KernelIdeal.ValueLoop

open Cert.KernelIdeal Cert.KernelIdeal.Gen Cert.KernelIdeal.Tile Cert.KernelIdeal.ScoreLoop
open Idealize.ShloMosaic

section
variable {F : FTy → Type} [FloatOps F] [Named F]

variable {κ κ' : Kind} {sp sp' : Space} (w : View sig κ sp S1x65536x128 .fp8e4m3) (X : BufTy.Contents (Elt F) w.ty)
variable (b : View sig κ' sp' S4x8x16384 .f32) (B : BufTy.Contents (Elt F) b.ty)
variable (o1 : Fin 4 → Fin 2 → Fin 3 → ℕ) (i1 : ∀ r₁ r₂ a, o1 r₁ r₂ a + S1x1024x128.size a ≤ S1x65536x128.size a)
variable (o2 : Fin 4 → Fin 4 → Fin 3 → ℕ) (i2 : ∀ r₁ r₂ a, o2 r₁ r₂ a + S1x8x128.size a ≤ S4x8x16384.size a)
variable (hs : ℕ) (h : S64x4x4x128.Slices ![0, hs, 0, 0] S64x1x4x128) (v18 v20 v22 v24 : IVec S8x128 1) (mc : FVec F S8x128 .f32)

/-- The exponentials of part `r` of tile `u`. -/
def exps (u r : Fin 4) : FVec F S8x128 .f32 :=
  expo mc (View.readAt (Elt F) b (Rect.unit (s := S4x8x16384) (o2 u r) S1x8x128.size (i2 u r)).toLoadRect B)

/-- The contribution of tile `u`. -/
def tile (u : Fin 4) : FVec F S64x256 .f32 :=
  let p := exps b B o2 i2 mc u
  valueTile hs h v18 v20 v22 v24 (p 0) (p 1) (p 2) (p 3) (run w X o1 i1 u 0) (run w X o1 i1 u 1)

/-- The two accumulators after one trip, from those before it. -/
def step (acc : FVec F S8x128 .f32 × FVec F S64x256 .f32) : FVec F S8x128 .f32 × FVec F S64x256 .f32 :=
  let p := exps b B o2 i2 mc
  let t := tile w X b B o1 i1 o2 i2 hs h v18 v20 v22 v24 mc
  (addf (addf (addf (addf (addf (addf (addf (addf (addf (addf (addf (addf (addf (addf (addf (addf acc.1 (p 0 0)) (p 0 1)) (p 0 2)) (p 0 3))
    (p 1 0)) (p 1 1)) (p 1 2)) (p 1 3)) (p 2 0)) (p 2 1)) (p 2 2)) (p 2 3)) (p 3 0)) (p 3 1)) (p 3 2)) (p 3 3),
   addf (addf (addf (addf acc.2 (t 0)) (t 1)) (t 2)) (t 3))

end

section
variable {κ κ' : Kind} {sp sp' : Space} (w : View sig κ sp S1x65536x128 .fp8e4m3) (X : BufTy.Contents (Elt Ideal) w.ty)
variable (b : View sig κ' sp' S4x8x16384 .f32) (B : BufTy.Contents (Elt Ideal) b.ty)
variable (hs : ℕ) (hlt : hs < 4) (h : S64x4x4x128.Slices ![0, hs, 0, 0] S64x1x4x128) (v18 v20 v22 v24 : IVec S8x128 1)
variable (h0 : IsMask 0 v18) (h1 : IsMask 1 v20) (h2 : IsMask 2 v22) (h3 : IsMask 3 v24)
variable (mc : FVec Ideal S8x128 .f32) (E : Fin 8 → ℕ → EReal)
variable (hB : ∀ (y : S4x8x16384.Idx), (y 0).val = hs →
  FloatOps.exp2 (F := Ideal) (φ := .f32) (View.read (Elt Ideal) b B y - mc (ix2 (y 1) ⟨(y 2).val % 128, Nat.mod_lt _ (by decide)⟩) : EReal)
    = E (y 1) (y 2).val)

section
variable (o1 : Fin 4 → Fin 2 → Fin 3 → ℕ) (i1 : ∀ r₁ r₂ a, o1 r₁ r₂ a + S1x1024x128.size a ≤ S1x65536x128.size a)
variable (o2 : Fin 4 → Fin 4 → Fin 3 → ℕ) (i2 : ∀ r₁ r₂ a, o2 r₁ r₂ a + S1x8x128.size a ≤ S4x8x16384.size a)
variable (t : ℕ) (ho1 : ∀ u b, o1 u b = ![0, 2048 * (t + u.val) + 1024 * b.val, 0])
variable (ho2 : ∀ u r, o2 u r = ![hs, 0, 512 * (t + u.val) + 128 * r.val])

include ho2 hB hlt in
/-- The exponentials of part `r` of tile `u` are those of its 128 columns. -/
theorem exps_apply (u r : Fin 4) (g : Fin 8) (l : Fin 128) :
    exps b B o2 i2 mc u r (ix2 g l) = E g (128 * (4 * (t + u.val) + r.val) + l.val) := by
  have hl := l.isLt
  have hin := i2 u r 2
  rw [ho2] at hin
  have hin' : 512 * (t + u.val) + 128 * r.val + 128 ≤ 16384 := hin
  unfold exps
  rw [expo_apply, View.readAt_eq_ld,
    View.ld_unit_apply_of (S := S4x8x16384) _ (o2 u r) S1x8x128.size (i2 u r) (ix3 (0 : Fin 1) g l)
      (ix3 (⟨hs, hlt⟩ : Fin 4) g (⟨128 * (4 * (t + u.val) + r.val) + l.val, by omega⟩ : Fin 16384))
      fun a => Eq.trans (by
        match a with
        | 0 => exact (Nat.add_zero hs).symm
        | 1 => exact (Nat.zero_add _).symm
        | 2 => show _ = 512 * (t + u.val) + 128 * r.val + l.val; show 128 * (4 * (t + u.val) + r.val) + l.val = _; omega)
        (congrArg (· + _) (congrFun (ho2 u r) a).symm)]
  refine Eq.trans ?_ (hB (ix3 (⟨hs, hlt⟩ : Fin 4) g (⟨128 * (4 * (t + u.val) + r.val) + l.val, by omega⟩ : Fin 16384)) rfl)
  congr 3
  refine congrArg (ix2 g) (Fin.ext ?_)
  show l.val = (128 * (4 * (t + u.val) + r.val) + l.val) % 128
  omega

include ho1 ho2 hB hlt h0 h1 h2 h3 in
/-- The upper left block of tile `u`'s contribution. -/
theorem tile_upper (u : Fin 4) (r : Fin 32) (d : Fin 128) :
    tile w X b B o1 i1 o2 i2 hs h v18 v20 v22 v24 mc u (ix2 (⟨r.val, by have := r.isLt; omega⟩ : Fin 64) (⟨d.val, by have := d.isLt; omega⟩ : Fin 256))
      = ∑ j : Fin 256, W hs E (View.read (Elt Ideal) w X) r d (512 * (t + u.val) + j.val) :=
  have e := fun p => exps_apply b B hs hlt mc E hB o2 i2 t ho2 u p
  valueTile_upper v18 v20 v22 v24 h0 h1 h2 h3 hs hlt h E (View.read (Elt Ideal) w X) (t + u.val) _ _ _ _ _ _ (e 0) (e 1)
    (fun p => run_apply w X o1 i1 t ho1 u 0 p) r d

include ho1 ho2 hB hlt h0 h1 h2 h3 in
/-- The lower right block of tile `u`'s contribution. -/
theorem tile_lower (u : Fin 4) (r : Fin 32) (d : Fin 128) :
    tile w X b B o1 i1 o2 i2 hs h v18 v20 v22 v24 mc u (ix2 (⟨32 + r.val, by have := r.isLt; omega⟩ : Fin 64) (⟨128 + d.val, by have := d.isLt; omega⟩ : Fin 256))
      = ∑ j : Fin 256, W hs E (View.read (Elt Ideal) w X) r d (512 * (t + u.val) + 256 + j.val) :=
  have e := fun p => exps_apply b B hs hlt mc E hB o2 i2 t ho2 u p
  valueTile_lower v18 v20 v22 v24 h0 h1 h2 h3 hs hlt h E (View.read (Elt Ideal) w X) (t + u.val) _ _ _ _ _ _ (e 2) (e 3)
    (fun p => run_apply w X o1 i1 t ho1 u 1 p) r d

include ho2 hB hlt in
/-- A trip takes the running sums of exponentials from its first part to the first of the next trip. -/
theorem step_sum (n : ℕ) (hn : t = 4 * n) (acc : FVec Ideal S8x128 .f32 × FVec Ideal S64x256 .f32) (g : Fin 8) (l : Fin 128)
    (hacc : acc.1 (ix2 g l) = ∑ j ∈ Finset.range (16 * n), E g (128 * j + l.val)) :
    (step w X b B o1 i1 o2 i2 hs h v18 v20 v22 v24 mc acc).1 (ix2 g l) = ∑ j ∈ Finset.range (16 * (n + 1)), E g (128 * j + l.val) := by
  have hp := fun u r => exps_apply b B hs hlt mc E hB o2 i2 t ho2 u r g l
  rw [(by omega : 16 * (n + 1) = 16 * n + 1 + 1 + 1 + 1 + 1 + 1 + 1 + 1 + 1 + 1 + 1 + 1 + 1 + 1 + 1 + 1)]
  simp only [Finset.sum_range_succ, ← hacc]
  have hq : ∀ (u r : Fin 4) (j : ℕ), j = 16 * n + (4 * u.val + r.val) →
      E g (128 * j + l.val) = exps b B o2 i2 mc u r (ix2 g l) := by
    intro u r j hj
    rw [hp]; congr 2; omega
  rw [hq 0 0 _ (by simp), hq 0 1 _ (by simp), hq 0 2 _ (by simp), hq 0 3 _ (by simp), hq 1 0 _ (by simp), hq 1 1 _ (by simp),
    hq 1 2 _ (by simp), hq 1 3 _ (by simp), hq 2 0 _ (by simp), hq 2 1 _ (by simp), hq 2 2 _ (by simp), hq 2 3 _ (by simp),
    hq 3 0 _ (by simp), hq 3 1 _ (by simp), hq 3 2 _ (by simp), hq 3 3 _ (by simp)]
  rfl

include ho1 ho2 hB hlt h0 h1 h2 h3 in
/-- A trip takes the two blocks of the weighted sums from its first tile to the first of the next trip. -/
theorem step_acc (n : ℕ) (hn : t = 4 * n) (acc : FVec Ideal S8x128 .f32 × FVec Ideal S64x256 .f32) (r : Fin 32) (d : Fin 128)
    (hu : acc.2 (ix2 (⟨r.val, by have := r.isLt; omega⟩ : Fin 64) (⟨d.val, by have := d.isLt; omega⟩ : Fin 256))
      = ∑ j ∈ Finset.range (4 * n), ∑ i : Fin 256, W hs E (View.read (Elt Ideal) w X) r d (512 * j + i.val))
    (hl : acc.2 (ix2 (⟨32 + r.val, by have := r.isLt; omega⟩ : Fin 64) (⟨128 + d.val, by have := d.isLt; omega⟩ : Fin 256))
      = ∑ j ∈ Finset.range (4 * n), ∑ i : Fin 256, W hs E (View.read (Elt Ideal) w X) r d (512 * j + 256 + i.val)) :
    (step w X b B o1 i1 o2 i2 hs h v18 v20 v22 v24 mc acc).2 (ix2 (⟨r.val, by have := r.isLt; omega⟩ : Fin 64) (⟨d.val, by have := d.isLt; omega⟩ : Fin 256))
        = ∑ j ∈ Finset.range (4 * (n + 1)), ∑ i : Fin 256, W hs E (View.read (Elt Ideal) w X) r d (512 * j + i.val)
      ∧ (step w X b B o1 i1 o2 i2 hs h v18 v20 v22 v24 mc acc).2 (ix2 (⟨32 + r.val, by have := r.isLt; omega⟩ : Fin 64) (⟨128 + d.val, by have := d.isLt; omega⟩ : Fin 256))
        = ∑ j ∈ Finset.range (4 * (n + 1)), ∑ i : Fin 256, W hs E (View.read (Elt Ideal) w X) r d (512 * j + 256 + i.val) := by
  have ku := fun u => tile_upper w X b B hs hlt h v18 v20 v22 v24 h0 h1 h2 h3 mc E hB o1 i1 o2 i2 t ho1 ho2 u r d
  have kl := fun u => tile_lower w X b B hs hlt h v18 v20 v22 v24 h0 h1 h2 h3 mc E hB o1 i1 o2 i2 t ho1 ho2 u r d
  rw [(by omega : 4 * (n + 1) = 4 * n + 1 + 1 + 1 + 1)]
  simp only [Finset.sum_range_succ, ← hu, ← hl]
  subst hn
  have ku0 := ku 0; have ku1 := ku 1; have ku2 := ku 2; have ku3 := ku 3
  have e3 : ((3 : Fin 4) : ℕ) = 3 := rfl
  have kl0 := kl 0; have kl1 := kl 1; have kl2 := kl 2; have kl3 := kl 3
  simp only [Fin.val_zero, Fin.val_one, Fin.val_two, add_zero, e3] at ku0 ku1 ku2 ku3 kl0 kl1 kl2 kl3
  rw [show 4 * n + 1 + 1 = 4 * n + 2 from rfl, show 4 * n + 2 + 1 = 4 * n + 3 from rfl]
  rw [← ku0, ← ku1, ← ku2, ← ku3, ← kl0, ← kl1, ← kl2, ← kl3]
  exact ⟨rfl, rfl⟩

end

/-! ## All the trips -/

variable (o1 : Fin 8 → Fin 4 → Fin 2 → Fin 3 → ℕ) (i1 : ∀ k r₁ r₂ a, o1 k r₁ r₂ a + S1x1024x128.size a ≤ S1x65536x128.size a)
variable (o2 : Fin 8 → Fin 4 → Fin 4 → Fin 3 → ℕ) (i2 : ∀ k r₁ r₂ a, o2 k r₁ r₂ a + S1x8x128.size a ≤ S4x8x16384.size a)
variable (ho1 : ∀ k u b, o1 k u b = ![0, 2048 * (4 * k.val + u.val) + 1024 * b.val, 0])
variable (ho2 : ∀ k u r, o2 k u r = ![hs, 0, 512 * (4 * k.val + u.val) + 128 * r.val])
variable (st : ℕ → FVec Ideal S8x128 .f32 × FVec Ideal S64x256 .f32)
variable (st0 : st 0 = (fun _ => (0 : EReal), fun _ => (0 : EReal)))
variable (stS : ∀ k : Fin 8, st (k.val + 1) = step w X b B (o1 k) (i1 k) (o2 k) (i2 k) hs h v18 v20 v22 v24 mc (st k.val))

include ho2 hB hlt st0 stS in
/-- The lane sums of exponentials after `n` trips of a value loop. -/
theorem sum_apply (n : ℕ) (hn : n ≤ 8) (g : Fin 8) (l : Fin 128) :
    (st n).1 (ix2 g l) = ∑ j ∈ Finset.range (16 * n), E g (128 * j + l.val) := by
  induction n with
  | zero => rw [st0]; simp
  | succ n ih =>
    rw [stS ⟨n, hn⟩]
    exact step_sum w X b B hs hlt h v18 v20 v22 v24 mc E hB _ (i1 ⟨n, hn⟩) _ (i2 ⟨n, hn⟩) (4 * n) (ho2 ⟨n, hn⟩) n rfl _ g l (ih (by omega))

include ho1 ho2 hB hlt h0 h1 h2 h3 st0 stS in
/-- The two blocks of the weighted sums of values after `n` trips of a value loop. -/
theorem acc_apply (n : ℕ) (hn : n ≤ 8) (r : Fin 32) (d : Fin 128) :
    (st n).2 (ix2 (⟨r.val, by have := r.isLt; omega⟩ : Fin 64) (⟨d.val, by have := d.isLt; omega⟩ : Fin 256))
        = ∑ j ∈ Finset.range (4 * n), ∑ i : Fin 256, W hs E (View.read (Elt Ideal) w X) r d (512 * j + i.val)
      ∧ (st n).2 (ix2 (⟨32 + r.val, by have := r.isLt; omega⟩ : Fin 64) (⟨128 + d.val, by have := d.isLt; omega⟩ : Fin 256))
        = ∑ j ∈ Finset.range (4 * n), ∑ i : Fin 256, W hs E (View.read (Elt Ideal) w X) r d (512 * j + 256 + i.val) := by
  induction n with
  | zero => rw [st0]; simp
  | succ n ih =>
    rw [stS ⟨n, hn⟩]
    exact step_acc w X b B hs hlt h v18 v20 v22 v24 h0 h1 h2 h3 mc E hB _ (i1 ⟨n, hn⟩) _ (i2 ⟨n, hn⟩) (4 * n) (ho1 ⟨n, hn⟩) (ho2 ⟨n, hn⟩) n rfl _ r d
      (ih (by omega)).1 (ih (by omega)).2

end

end Cert.KernelIdeal.ValueLoop

end
-- ==== Proof.KernelIdeal.Finish.lean ====
/- What the body makes of a head set once its loops are done: the maxima and sums of each head, the new token's score, and
   the rows of the output. -/
module

public import proofs.«01_k».proof.Proof.KernelIdeal.ValueLoop
public import Idealize.ShloMosaic.PureOps.Ideal
public import Idealize.ShloMosaic.Lib.Claim

@[expose] public section

noncomputable section

namespace Cert.KernelIdeal.Finish

open Cert.KernelIdeal Cert.KernelIdeal.Gen Cert.KernelIdeal.Tile
open Idealize.ShloMosaic

section
variable {F : FTy → Type} [FloatOps F] [Named F]

/-- The four new rows of a head set, each repeated for the eight query rows of its head. -/
def newRows (off : Fin 2 → ℕ) (h : S16x128.Slices off S4x128) (v : FVec F S16x128 .fp8e4m3) : FVec F S32x128 .f32 :=
  shapeCast S32x128 (broadcastTo S4x8x128 (shapeCast S4x1x128 (shapeCast S4x1x128
    (extf .f32 (extractStridedSlice S4x128 off v h) bitsLt_fp8e4m3_f32) shapeCasts_S4x128_S4x1x128) shapeCasts_S4x1x128_S4x1x128)
    broadcasts_S4x1x128_S4x8x128) shapeCasts_S4x8x128_S32x128

/-- Each query row against the new key row of its head. -/
def newDots (off : Fin 2 → ℕ) (h : S16x128.Slices off S4x128) (kc : FVec F S16x128 .fp8e4m3) (q : FVec F S32x128 .bf16) : FVec F S32x1 .f32 :=
  shapeCast S32x1 (multiReduction .add [1] S32 (mulf (extf .f32 q bitsLt_bf16_f32) (newRows off h kc)) 0x00000000#32 reduces_S32x128_S32 (.inl rfl) rfl)
    shapeCasts_S32_S32x1

/-- The output rows of a head set, from its lane maxima, lane sums and weighted sums. -/
def out (off : Fin 2 → ℕ) (h : S16x128.Slices off S4x128) (v18 v20 v22 v24 : IVec S8x128 1) (q : FVec F S32x128 .bf16)
    (kc vc : FVec F S16x128 .fp8e4m3) (m l : FVec F S8x128 .f32) (acc : FVec F S64x256 .f32) (krow : Vec F S32x1 .f32)
    (vrow : Vec F S32x128 .f32) : FVec F S1x32x128 .bf16 :=
  k0_pay424 (k0_pay395 acc) (k0_pay419 v18 v20 v22 v24 l) (k0_pay420 (k0_pay384 v18 m) (k0_pay384 v20 m) (k0_pay384 v22 m) (k0_pay384 v24 m))
    (newRows off h vc) (newDots off h kc q) (k0_pay423 krow) vrow

/-- Each lane's own head's maximum. -/
def laneMax (v18 v20 v22 v24 : IVec S8x128 1) (m : FVec F S8x128 .f32) : FVec F S8x128 .f32 :=
  k0_pay389 v18 v20 v22 v24 m (k0_pay384 v18 m) k0_pay385

variable (q : Vec F S1x32x128 .bf16) (kc vc : FVec F S16x128 .fp8e4m3) (m l : FVec F S8x128 .f32) (acc : FVec F S64x256 .f32)
variable (krow : Vec F S32x1 .f32) (vrow : Vec F S32x128 .f32) (v18 v20 v22 v24 : IVec S8x128 1)

/-- The output rows of head set 0. -/
theorem out0 : k0_pay400 v24 kc vc (k0_pay377 q) (k0_pay384 v18 m) (k0_pay386 v20 m k0_pay385) (k0_pay387 v22 m) (k0_pay388 v24 m) l
    (k0_pay395 acc) (k0_pay396 v18 l) (k0_pay397 v20 l) (k0_pay398 v22 l) k0_pay399 krow vrow
      = out ![0, 0] slices_S16x128_o0_0_S4x128 v18 v20 v22 v24 (k0_pay377 q) kc vc m l acc krow vrow := rfl

/-- The output rows of head set 1. -/
theorem out1 : k0_pay424 (k0_pay418 acc) (k0_pay419 v18 v20 v22 v24 l) (k0_pay420 (k0_pay408 v18 m) (k0_pay409 v20 m) (k0_pay410 v22 m) (k0_pay411 v24 m))
    (k0_pay421 vc) (k0_pay422 kc (k0_pay401 q)) (k0_pay423 krow) vrow
      = out ![4, 0] slices_S16x128_o4_0_S4x128 v18 v20 v22 v24 (k0_pay377 q) kc vc m l acc krow vrow := rfl

/-- The output rows of head set 2. -/
theorem out2 : k0_pay448 v24 kc vc (k0_pay425 q) (k0_pay432 v18 m) (k0_pay434 v20 m k0_pay433) (k0_pay435 v22 m) (k0_pay436 v24 m) l
    (k0_pay443 acc) (k0_pay444 v18 l) (k0_pay445 v20 l) (k0_pay446 v22 l) k0_pay447 krow vrow
      = out ![8, 0] slices_S16x128_o8_0_S4x128 v18 v20 v22 v24 (k0_pay377 q) kc vc m l acc krow vrow := rfl

/-- The output rows of head set 3. -/
theorem out3 : k0_pay1 (k0_pay466 acc) (k0_pay467 v18 v20 v22 v24 l) (k0_pay468 (k0_pay456 v18 m) (k0_pay457 v20 m) (k0_pay458 v22 m) (k0_pay459 v24 m))
    (k0_pay469 vc) (k0_pay470 kc (k0_pay449 q)) (k0_pay471 krow) vrow
      = out ![12, 0] slices_S16x128_o12_0_S4x128 v18 v20 v22 v24 (k0_pay377 q) kc vc m l acc krow vrow := rfl

/-- The lanes' own maxima of head set 1. -/
theorem laneMax1 : k0_pay412 v18 v20 v22 v24 m = laneMax v18 v20 v22 v24 m := rfl
/-- The lanes' own maxima of head set 2. -/
theorem laneMax2 : k0_pay437 v18 v20 v22 v24 m (k0_pay432 v18 m) k0_pay433 = laneMax v18 v20 v22 v24 m := rfl
/-- The lanes' own maxima of head set 3. -/
theorem laneMax3 : k0_pay460 v18 v20 v22 v24 m = laneMax v18 v20 v22 v24 m := rfl
/-- The queries of head set 0, twice along the diagonal of a matrix of zeros. -/
theorem q0 : k0_pay378 q = twice (k0_pay377 q) := rfl
/-- The queries of head set 1, twice along the diagonal of a matrix of zeros. -/
theorem q1 : k0_pay402 k0_pay376 q = twice (k0_pay377 q) := rfl
/-- The queries of head set 2, twice along the diagonal of a matrix of zeros. -/
theorem q2 : k0_pay426 k0_pay376 q = twice (k0_pay377 q) := rfl
/-- The queries of head set 3, twice along the diagonal of a matrix of zeros. -/
theorem q3 : k0_pay450 k0_pay376 q = twice (k0_pay377 q) := rfl
end

/-- The four lane masks of the body are those of the four heads of a set. -/
theorem mask0 : IsMask 0 k0_pay367 := by unfold IsMask; decide +kernel
@[inherit_doc mask0] theorem mask1 : IsMask 1 k0_pay368 := by unfold IsMask; decide +kernel
@[inherit_doc mask0] theorem mask2 : IsMask 2 k0_pay369 := by unfold IsMask; decide +kernel
@[inherit_doc mask0] theorem mask3 : IsMask 3 k0_pay370 := by unfold IsMask; decide +kernel

/-- The constant that stands for a score smaller than all others. -/
theorem no_score : (Named.named (F := Ideal) κ "no_score" (φ := .f32) 0xF149F2CA#32 : EReal) = ⊥ :=
  IdealRules.named_const.ideal_named_scalar _ _ _ _ rfl

/-- The factor of every score: the softmax scale, in base two. -/
def scale : EReal := (((Real.sqrt 128)⁻¹ * (Real.log 2)⁻¹ : ℝ) : EReal)

/-- The constant of that name is this factor. -/
theorem score_scale : (Named.named (F := Ideal) κ "score_scale" (φ := .f32) 0x3E0293EE#32 : EReal) = scale :=
  IdealRules.named_const.ideal_named_scalar _ _ _ _ rfl

/-- The pattern that a maximum over lanes starts from. -/
theorem ofBits_bot : Ideal.ofBits .f32 (4286578688#32) = ⊥ := by
  simp [Ideal.ofBits, Ideal.ieee]

/-- The maximum of a head over its lanes. -/
def headMax (m : FVec Ideal S8x128 .f32) (h : ℕ) (g : Fin 8) : EReal :=
  Finset.univ.sup fun l : Fin 128 => if l.val % 4 = h then (m (ix2 g l) : EReal) else ⊥

/-- The sum of a head over its lanes. -/
def headSum (m : FVec Ideal S8x128 .f32) (h : ℕ) (g : Fin 8) : EReal :=
  ∑ l : Fin 128, if l.val % 4 = h then (m (ix2 g l) : EReal) else 0

/-- The body's maximum over a head's lanes. -/
theorem headMax_apply (h : ℕ) (v : IVec S8x128 1) (hv : IsMask h v) (m : FVec Ideal S8x128 .f32) (g : Fin 8) :
    k0_pay384 v m (ix2 g 0) = headMax m h g := by
  pointwise [k0_pay384]
  rw [ofBits_bot]
  unfold headMax Finset.sup
  refine Finset.fold_congr fun l _ => ?_
  rw [hv g l, no_score]
  by_cases e : l.val % 4 = h <;> simp [e, Scalar.select]

/-- The body's sum over a head's lanes. -/
theorem headSum_apply (h : ℕ) (v : IVec S8x128 1) (hv : IsMask h v) (m : FVec Ideal S8x128 .f32) (g : Fin 8) :
    k0_pay396 v m (ix2 g 0) = headSum m h g := by
  pointwise [k0_pay396]
  refine Finset.sum_congr rfl fun l _ => ?_
  rw [hv g l]
  by_cases e : l.val % 4 = h <;> simp [e, Scalar.select]

/-- A query row's new row is that of its head. -/
theorem newRows_apply (off : Fin 2 → ℕ) (a : ℕ) (h : S16x128.Slices off S4x128) (ho : off = ![a, 0]) (ha : a + 4 ≤ 16) (v : FVec Ideal S16x128 .fp8e4m3)
    (r : Fin 32) (d : Fin 128) : newRows off h v (ix2 r d) = v (ix2 (⟨a + r.val / 8, by have := r.isLt; omega⟩ : Fin 16) d) := by
  subst ho
  pointwise [newRows]

/-- A query row against its new key row, as a sum. -/
theorem newDots_apply (off : Fin 2 → ℕ) (h : S16x128.Slices off S4x128) (kc : FVec Ideal S16x128 .fp8e4m3)
    (q : FVec Ideal S32x128 .bf16) (r : Fin 32) : newDots off h kc q (ix2 r 0) = ∑ e : Fin 128, q (ix2 r e) * newRows off h kc (ix2 r e) := by
  pointwise [newDots]

section
variable (v18 v20 v22 v24 : IVec S8x128 1) (h0 : IsMask 0 v18) (h1 : IsMask 1 v20) (h2 : IsMask 2 v22) (h3 : IsMask 3 v24)

include h0 h1 h2 h3 in
/-- A lane's own head's maximum. -/
theorem laneMax_apply (m : FVec Ideal S8x128 .f32) (g : Fin 8) (l : Fin 128) :
    laneMax v18 v20 v22 v24 m (ix2 g l) = headMax m (l.val % 4) g := by
  unfold laneMax
  have e0 := headMax_apply 0 v18 h0 m g
  have e1 := headMax_apply 1 v20 h1 m g
  have e2 := headMax_apply 2 v22 h2 m g
  have e3 := headMax_apply 3 v24 h3 m g
  rw [show k0_pay384 v20 m = k0_pay386 v20 m k0_pay385 from rfl] at e1
  rw [show k0_pay384 v22 m = k0_pay387 v22 m from rfl] at e2
  rw [show k0_pay384 v24 m = k0_pay388 v24 m from rfl] at e3
  pointwise [k0_pay389]
  rw [h0 g l, h1 g l, h2 g l, e0, e1, e2, e3]
  have hl : l.val % 4 < 4 := Nat.mod_lt _ (by decide)
  rcases (by omega : l.val % 4 = 0 ∨ l.val % 4 = 1 ∨ l.val % 4 = 2 ∨ l.val % 4 = 3) with e | e | e | e <;>
    simp [e, Scalar.select]

/-- Four columns of eight rows, one below the other. -/
theorem rows_apply (a b c d : FVec Ideal S8x1 .f32) (f : ℕ → Fin 8 → EReal) (ha : ∀ g, a (ix2 g 0) = f 0 g) (hb : ∀ g, b (ix2 g 0) = f 1 g)
    (hc : ∀ g, c (ix2 g 0) = f 2 g) (hd : ∀ g, d (ix2 g 0) = f 3 g) (r : Fin 32) :
    k0_pay420 a b c d (ix2 r 0) = f (r.val / 8) ⟨r.val % 8, Nat.mod_lt _ (by decide)⟩ := by
  have hr := r.isLt
  pointwise [k0_pay420]
  rcases (by omega : r.val < 8 ∨ (8 ≤ r.val ∧ r.val < 16) ∨ (16 ≤ r.val ∧ r.val < 24) ∨ 24 ≤ r.val) with e | e | e | e
  · rw [dif_pos e, ha, Nat.div_eq_of_lt e]
    exact congrArg (f 0) (Fin.ext (Nat.mod_eq_of_lt e).symm)
  · rw [dif_neg (by omega), dif_pos (by omega), hb, (by omega : r.val / 8 = 1)]
    exact congrArg (f 1) (Fin.ext (by dsimp only; omega))
  · rw [dif_neg (by omega), dif_neg (by omega), dif_pos (by omega), hc, (by omega : r.val / 8 = 2)]
    exact congrArg (f 2) (Fin.ext (by dsimp only; omega))
  · rw [dif_neg (by omega), dif_neg (by omega), dif_neg (by omega), hd, (by omega : r.val / 8 = 3)]
    exact congrArg (f 3) (Fin.ext (by dsimp only; omega))

include h0 h1 h2 h3 in
/-- The maxima of the four heads, one for each query row. -/
theorem rowMax_apply (m : FVec Ideal S8x128 .f32) (r : Fin 32) :
    k0_pay420 (k0_pay384 v18 m) (k0_pay384 v20 m) (k0_pay384 v22 m) (k0_pay384 v24 m) (ix2 r 0)
      = headMax m (r.val / 8) ⟨r.val % 8, Nat.mod_lt _ (by decide)⟩ := by
  exact rows_apply _ _ _ _ (headMax m) (headMax_apply 0 v18 h0 m) (headMax_apply 1 v20 h1 m) (headMax_apply 2 v22 h2 m) (headMax_apply 3 v24 h3 m) r

include h0 h1 h2 h3 in
/-- The sums of the four heads, one for each query row. -/
theorem rowSum_apply (m : FVec Ideal S8x128 .f32) (r : Fin 32) :
    k0_pay419 v18 v20 v22 v24 m (ix2 r 0)
      = headSum m (r.val / 8) ⟨r.val % 8, Nat.mod_lt _ (by decide)⟩ := by
  exact rows_apply (k0_pay396 v18 m) (k0_pay396 v20 m) (k0_pay396 v22 m) (k0_pay396 v24 m) (headSum m) (headSum_apply 0 v18 h0 m)
    (headSum_apply 1 v20 h1 m) (headSum_apply 2 v22 h2 m) (headSum_apply 3 v24 h3 m) r

include h0 h1 h2 h3 in
/-- The output rows of a head set at an index. -/
theorem out_apply (off : Fin 2 → ℕ) (a : ℕ) (h : S16x128.Slices off S4x128) (ho : off = ![a, 0]) (ha : a + 4 ≤ 16)
    (q : FVec Ideal S32x128 .bf16) (kc vc : FVec Ideal S16x128 .fp8e4m3) (m l : FVec Ideal S8x128 .f32) (acc : FVec Ideal S64x256 .f32)
    (krow : Vec Ideal S32x1 .f32) (vrow : Vec Ideal S32x128 .f32) (r : Fin 32) (d : Fin 128) (M sn T : EReal)
    (hM : M = headMax m (r.val / 8) ⟨r.val % 8, Nat.mod_lt _ (by decide)⟩)
    (hsn : sn = (∑ e : Fin 128, q (ix2 r e) * kc (ix2 (⟨a + r.val / 8, by have := r.isLt; omega⟩ : Fin 16) e)) * (krow (ix2 r 0) * scale))
    (hT : T = max M sn) :
    (out off h v18 v20 v22 v24 q kc vc m l acc krow vrow (ix3 0 r d) : EReal)
      = FloatOps.divf (F := Ideal) (φ := .f32) (((acc (ix2 (⟨r.val, by have := r.isLt; omega⟩ : Fin 64) (⟨d.val, by have := d.isLt; omega⟩ : Fin 256))
            + acc (ix2 (⟨32 + r.val, by have := r.isLt; omega⟩ : Fin 64) (⟨128 + d.val, by have := d.isLt; omega⟩ : Fin 256)))
              * FloatOps.exp2 (F := Ideal) (φ := .f32) (M - T : EReal)
            + FloatOps.exp2 (F := Ideal) (φ := .f32) (sn - T : EReal) * vc (ix2 (⟨a + r.val / 8, by have := r.isLt; omega⟩ : Fin 16) d)) * vrow (ix2 r d))
          (headSum l (r.val / 8) ⟨r.val % 8, Nat.mod_lt _ (by decide)⟩ * FloatOps.exp2 (F := Ideal) (φ := .f32) (M - T : EReal)
            + FloatOps.exp2 (F := Ideal) (φ := .f32) (sn - T : EReal)) := by
  have hr := r.isLt
  unfold out
  have eM := rowMax_apply v18 v20 v22 v24 h0 h1 h2 h3 m r
  have eL := rowSum_apply v18 v20 v22 v24 h0 h1 h2 h3 l r
  have eD := newDots_apply off h kc q r
  simp only [newRows_apply off a h ho ha] at eD
  pointwise [k0_pay424, k0_pay423, k0_pay395]
  rw [newRows_apply off a h ho ha, eM, eL, eD, score_scale, ← hsn, ← hM, ← hT]
end

end Cert.KernelIdeal.Finish

end
-- ==== Proof.KernelIdeal.HeadSet.lean ====
/- A head set's output rows, from its two loops: the softmax over the cached tokens and the new one. -/
module

public import proofs.«01_k».proof.Proof.KernelIdeal.Finish

@[expose] public section

noncomputable section

namespace Cert.KernelIdeal.HeadSet

open Cert.KernelIdeal Cert.KernelIdeal.Gen Cert.KernelIdeal.Tile Cert.KernelIdeal.Finish
open Idealize.ShloMosaic

/-! ## Sums and maxima over the columns of a head set, token by token -/

/-- A sum over `n` blocks of `m` is one sum over `m n`. -/
theorem sum_blocks (f : ℕ → EReal) (m n : ℕ) : ∑ j ∈ Finset.range n, ∑ i ∈ Finset.range m, f (m * j + i) = ∑ c ∈ Finset.range (m * n), f c := by
  induction n with
  | zero => simp
  | succ n ih => rw [Finset.sum_range_succ, ih, Nat.mul_succ, Finset.sum_range_add]

/-- The sum over every fourth column: one column of each token. -/
theorem sum_tokens (f : ℕ → EReal) (h : ℕ) (hh : h < 4) (n : ℕ) :
    ∑ c ∈ Finset.range (4 * n), (if c % 4 = h then f c else 0) = ∑ t ∈ Finset.range n, f (4 * t + h) := by
  rw [← sum_blocks]
  refine Finset.sum_congr rfl fun t _ => ?_
  rw [Finset.sum_eq_single h]
  · rw [if_pos (by omega)]
  · intro i hi hne
    have := Finset.mem_range.mp hi
    rw [if_neg (by omega)]
  · intro hn
    exact absurd (Finset.mem_range.mpr hh) hn

/-- A head's lanes, each summed over its columns, give the head's sum over the tokens. -/
theorem sum_lanes (f : ℕ → EReal) (h : ℕ) (hh : h < 4) :
    (∑ l : Fin 128, if l.val % 4 = h then ∑ j ∈ Finset.range 128, f (128 * j + l.val) else 0) = ∑ t ∈ Finset.range 4096, f (4 * t + h) := by
  rw [← sum_tokens f h hh 4096, show 4 * 4096 = 128 * 128 from rfl, ← sum_blocks (fun c => if c % 4 = h then f c else 0), Finset.sum_comm,
    ← Fin.sum_univ_eq_sum_range (fun l => ∑ j ∈ Finset.range 128, if (128 * j + l) % 4 = h then f (128 * j + l) else 0)]
  refine Finset.sum_congr rfl fun l _ => ?_
  by_cases e : l.val % 4 = h
  · rw [if_pos e]
    exact Finset.sum_congr rfl fun j _ => (if_pos (by omega)).symm
  · rw [if_neg e]
    exact (Finset.sum_eq_zero fun j _ => if_neg (by omega)).symm

/-- A head's lanes, each with the maximum over its columns, give the head's maximum over the tokens. -/
theorem sup_lanes (f : ℕ → EReal) (h : ℕ) (hh : h < 4) :
    (Finset.univ.sup fun l : Fin 128 => if l.val % 4 = h then (Finset.range 128).sup fun j => f (128 * j + l.val) else ⊥)
      = (Finset.range 4096).sup fun t => f (4 * t + h) := by
  apply le_antisymm
  · refine Finset.sup_le fun l _ => ?_
    by_cases e : l.val % 4 = h
    · rw [if_pos e]
      refine Finset.sup_le fun j hj => ?_
      have hj := Finset.mem_range.mp hj
      have hl := l.isLt
      refine le_trans (le_of_eq ?_) (Finset.le_sup (f := fun t => f (4 * t + h)) (Finset.mem_range.mpr (by omega : 32 * j + l.val / 4 < 4096)))
      exact congrArg f (by omega)
    · rw [if_neg e]; exact bot_le
  · refine Finset.sup_le fun t ht => ?_
    have ht := Finset.mem_range.mp ht
    refine le_trans ?_ (Finset.le_sup (f := fun l : Fin 128 => if l.val % 4 = h then (Finset.range 128).sup fun j => f (128 * j + l.val) else ⊥)
      (Finset.mem_univ (⟨(4 * t + h) % 128, Nat.mod_lt _ (by decide)⟩ : Fin 128)))
    dsimp only
    rw [if_pos (by omega)]
    refine le_trans (le_of_eq ?_) (Finset.le_sup (f := fun j => f (128 * j + (4 * t + h) % 128)) (Finset.mem_range.mpr (by omega : (4 * t + h) / 128 < 128)))
    exact congrArg f (by omega)

/-- The two halves of every tile's weighted rows, summed over the tiles, give the sum over the tokens. -/
theorem sum_halves (f : ℕ → EReal) :
    ∑ j ∈ Finset.range 32, ∑ i : Fin 256, f (512 * j + i.val) + ∑ j ∈ Finset.range 32, ∑ i : Fin 256, f (512 * j + 256 + i.val)
      = ∑ c ∈ Finset.range 16384, f c := by
  rw [show 16384 = 512 * 32 from rfl, ← sum_blocks, ← Finset.sum_add_distrib]
  refine Finset.sum_congr rfl fun j _ => ?_
  rw [show 512 = 256 + 256 from rfl, Finset.sum_range_add, Fin.sum_univ_eq_sum_range (fun i => f ((256 + 256) * j + i)),
    Fin.sum_univ_eq_sum_range (fun i => f ((256 + 256) * j + 256 + i))]
  simp only [add_assoc]

/-! ## The two loops of a head set -/

/-- Attention of one query row over 4096 cached tokens with scores `s` and values `v` and the new token with score `sn` and
    value `vn`, in base two, all values scaled by `vr`: the exponentials of the cached tokens are taken at their own maximum
    and rescaled to that of all tokens. -/
def attend (s v : ℕ → EReal) (sn vn vr : EReal) : EReal :=
  let e : EReal → EReal := FloatOps.exp2 (F := Ideal) (φ := .f32)
  let M := (Finset.range 4096).sup s
  let T := max M sn
  FloatOps.divf (F := Ideal) (φ := .f32) (((∑ t ∈ Finset.range 4096, e (s t - M) * v t) * e (M - T) + e (sn - T) * vn) * vr)
    ((∑ t ∈ Finset.range 4096, e (s t - M)) * e (M - T) + e (sn - T))

section
variable {κ κ' : Kind} {sp sp' : Space} (w w' : View sig κ sp S1x65536x128 .fp8e4m3) (X : BufTy.Contents (Elt Ideal) w.ty)
variable (X' : BufTy.Contents (Elt Ideal) w'.ty)
variable (b : View sig κ' sp' S4x8x16384 .f32) (B : BufTy.Contents (Elt Ideal) b.ty)
variable (hs : ℕ) (h : S64x4x4x128.Slices ![0, hs, 0, 0] S64x1x4x128) (v18 v20 v22 v24 : IVec S8x128 1)
variable (q : FVec Ideal S32x128 .bf16) (cs : FVec Ideal S8x128 .f32) (mc : FVec Ideal S8x128 .f32)

/-- `st` is what a score loop of head set `hs` carries before each trip. -/
def ScoreRun (st : ℕ → FVec Ideal S8x128 .f32 × List (View.Piece (Elt Ideal) S4x8x16384 .f32)) : Prop :=
  ∃ (o1 : Fin 8 → Fin 4 → Fin 2 → Fin 3 → ℕ) (i1 : ∀ k r₁ r₂ a, o1 k r₁ r₂ a + S1x1024x128.size a ≤ S1x65536x128.size a)
    (o2 : Fin 8 → Fin 4 → Fin 4 → Fin 3 → ℕ) (i2 : ∀ k r₁ r₂ a, o2 k r₁ r₂ a + S1x8x128.size a ≤ S4x8x16384.size a),
    (∀ k u b, o1 k u b = ![0, 2048 * (4 * k.val + u.val) + 1024 * b.val, 0]) ∧
    (∀ k u r, o2 k u r = ![hs, 0, 512 * (4 * k.val + u.val) + 128 * r.val]) ∧
    (st 0).1 = (fun _ => (⊥ : EReal)) ∧ (st 0).2 = [] ∧
    ∀ k : Fin 8, st (k.val + 1)
      = (ScoreLoop.raise w X (o1 k) (i1 k) hs h v18 v20 v22 (twice q) cs (st k.val).1,
         ScoreLoop.pieces w X (o1 k) (i1 k) (o2 k) (i2 k) hs h v18 v20 v22 (twice q) cs ++ (st k.val).2)

/-- `st` is what a value loop of head set `hs` carries before each trip. -/
def ValueRun (st : ℕ → FVec Ideal S8x128 .f32 × FVec Ideal S64x256 .f32) : Prop :=
  ∃ (o1 : Fin 8 → Fin 4 → Fin 2 → Fin 3 → ℕ) (i1 : ∀ k r₁ r₂ a, o1 k r₁ r₂ a + S1x1024x128.size a ≤ S1x65536x128.size a)
    (o2 : Fin 8 → Fin 4 → Fin 4 → Fin 3 → ℕ) (i2 : ∀ k r₁ r₂ a, o2 k r₁ r₂ a + S1x8x128.size a ≤ S4x8x16384.size a),
    (∀ k u b, o1 k u b = ![0, 2048 * (4 * k.val + u.val) + 1024 * b.val, 0]) ∧
    (∀ k u r, o2 k u r = ![hs, 0, 512 * (4 * k.val + u.val) + 128 * r.val]) ∧
    st 0 = (fun _ => (0 : EReal), fun _ => (0 : EReal)) ∧
    ∀ k : Fin 8, st (k.val + 1) = ValueLoop.step w' X' b B (o1 k) (i1 k) (o2 k) (i2 k) hs h v18 v20 v22 v24 mc (st k.val)

variable (hlt : hs < 4) (h0 : IsMask 0 v18) (h1 : IsMask 1 v20) (h2 : IsMask 2 v22) (h3 : IsMask 3 v24)
variable (st : ℕ → FVec Ideal S8x128 .f32 × List (View.Piece (Elt Ideal) S4x8x16384 .f32))
variable (hst : ScoreRun w X hs h v18 v20 v22 q cs st)

include hlt h0 h1 h2 hst in
/-- The maximum of a head over its lanes, after its score loop, is the maximum of its scores over the tokens. -/
theorem headMax_scores (k : ℕ) (hk : k < 4) (g : Fin 8) :
    headMax (st 8).1 k g = (Finset.range 4096).sup fun t => S hs q (View.read (Elt Ideal) w X) cs g (4 * t + k) := by
  obtain ⟨o1, i1, o2, i2, ho1, ho2, st0, st0', stS⟩ := hst
  rw [← sup_lanes _ k hk]
  unfold headMax
  refine Finset.sup_congr rfl fun l _ => ?_
  rw [ScoreLoop.max_apply w X o1 i1 o2 i2 hs hlt h v18 v20 v22 q cs ho1 h0 h1 h2 st st0 stS 8 le_rfl g l]

include hlt h0 h1 h2 hst in
/-- What the score buffer holds after the loop, in the head set's rows: its scores. -/
theorem buffer_scores (f : BufTy.Contents (Elt Ideal) b.ty) (y : S4x8x16384.Idx) (y0 : (y 0).val = hs) :
    View.read (Elt Ideal) b (b.writes (Elt Ideal) f (st 8).2) y = S hs q (View.read (Elt Ideal) w X) cs (y 1) (y 2).val := by
  obtain ⟨o1, i1, o2, i2, ho1, ho2, st0, st0', stS⟩ := hst
  exact View.read_writes_apply_of_pieces (Val := Elt Ideal) (v := b) (f := f)
    (fun y => S hs q (View.read (Elt Ideal) w X) cs (y 1) (y 2).val) _
    (ScoreLoop.all_agree w X o1 i1 o2 i2 hs hlt h v18 v20 v22 q cs ho1 ho2 h0 h1 h2 st st0' stS _ (fun _ _ => rfl) 8 le_rfl) y
    (ScoreLoop.all_cover w X o1 i1 o2 i2 hs h v18 v20 v22 q cs ho2 st st0' stS 8 le_rfl y y0 (y 2).isLt)

variable (f : BufTy.Contents (Elt Ideal) b.ty) (hB : B = b.writes (Elt Ideal) f (st 8).2)
variable (hmc : mc = laneMax v18 v20 v22 v24 (st 8).1)
variable (sv : ℕ → FVec Ideal S8x128 .f32 × FVec Ideal S64x256 .f32)
variable (hsv : ValueRun w' X' b B hs h v18 v20 v22 v24 mc sv)

include hlt h0 h1 h2 h3 hst hB hmc hsv in
/-- The output row `r` of a head set. -/
theorem row_apply (off : Fin 2 → ℕ) (ho : off = ![4 * hs, 0]) (hoff : S16x128.Slices off S4x128)
    (kc vc : FVec Ideal S16x128 .fp8e4m3) (krow : Vec Ideal S32x1 .f32) (vrow : Vec Ideal S32x128 .f32) (r : Fin 32) (d : Fin 128) :
    (out off hoff v18 v20 v22 v24 q kc vc (st 8).1 (sv 8).1 (sv 8).2 krow vrow (ix3 0 r d) : EReal)
      = attend (fun t => S hs q (View.read (Elt Ideal) w X) cs ⟨r.val % 8, Nat.mod_lt _ (by decide)⟩ (4 * t + r.val / 8))
          (fun t => row (View.read (Elt Ideal) w' X') (16 * t + 4 * hs + r.val / 8) d)
          ((∑ e : Fin 128, q (ix2 r e) * kc (ix2 (⟨4 * hs + r.val / 8, by have := r.isLt; omega⟩ : Fin 16) e)) * (krow (ix2 r 0) * scale))
          (vc (ix2 (⟨4 * hs + r.val / 8, by have := r.isLt; omega⟩ : Fin 16) d)) (vrow (ix2 r d)) := by
  have hr := r.isLt
  have hk : r.val / 8 < 4 := by omega
  have hM := headMax_scores w X hs h v18 v20 v22 q cs hlt h0 h1 h2 st hst
  set E : Fin 8 → ℕ → EReal := fun g col => FloatOps.exp2 (F := Ideal) (φ := .f32)
    (S hs q (View.read (Elt Ideal) w X) cs g col - headMax (st 8).1 (col % 4) g : EReal) with hE
  have hEB : ∀ (y : S4x8x16384.Idx), (y 0).val = hs →
      FloatOps.exp2 (F := Ideal) (φ := .f32) (View.read (Elt Ideal) b B y - mc (ix2 (y 1) ⟨(y 2).val % 128, Nat.mod_lt _ (by decide)⟩) : EReal)
        = E (y 1) (y 2).val := by
    intro y y0
    have e4 : (y 2).val % 128 % 4 = (y 2).val % 4 := by omega
    refine congrArg₂ (fun a c : EReal => (FloatOps.exp2 (F := Ideal) (φ := .f32) (a - c : EReal) : EReal)) ?_ ?_
    · rw [hB]; exact buffer_scores w X b hs h v18 v20 v22 q cs hlt h0 h1 h2 st hst f y y0
    · rw [hmc]
      exact (laneMax_apply v18 v20 v22 v24 h0 h1 h2 h3 (st 8).1 (y 1) ⟨(y 2).val % 128, Nat.mod_lt _ (by decide)⟩).trans
        (congrArg (fun n => headMax (st 8).1 n (y 1)) e4)
  obtain ⟨o1, i1, o2, i2, ho1, ho2, st0, stS⟩ := hsv
  have hL : headSum (sv 8).1 (r.val / 8) ⟨r.val % 8, Nat.mod_lt _ (by decide)⟩
      = ∑ t ∈ Finset.range 4096, E ⟨r.val % 8, Nat.mod_lt _ (by decide)⟩ (4 * t + r.val / 8) := by
    rw [← sum_lanes _ _ hk]
    unfold headSum
    refine Finset.sum_congr rfl fun l _ => ?_
    rw [ValueLoop.sum_apply w' X' b B hs hlt h v18 v20 v22 v24 mc E hEB o1 i1 o2 i2 ho2 sv st0 stS 8 le_rfl]
  have hA := ValueLoop.acc_apply w' X' b B hs hlt h v18 v20 v22 v24 h0 h1 h2 h3 mc E hEB o1 i1 o2 i2 ho1 ho2 sv st0 stS 8 le_rfl r d
  have hW : ∑ c ∈ Finset.range 16384, W hs E (View.read (Elt Ideal) w' X') r d c
      = ∑ t ∈ Finset.range 4096, E ⟨r.val % 8, Nat.mod_lt _ (by decide)⟩ (4 * t + r.val / 8) * row (View.read (Elt Ideal) w' X') (16 * t + 4 * hs + r.val / 8) d := by
    refine Eq.trans (Finset.sum_congr rfl fun c _ => ?_) ((sum_tokens
      (fun c => E ⟨r.val % 8, Nat.mod_lt _ (by decide)⟩ c * row (View.read (Elt Ideal) w' X') (16 * (c / 4) + 4 * hs + c % 4) d) _ hk 4096).trans
      (Finset.sum_congr rfl fun t _ => ?_))
    · unfold W
      by_cases e : c % 4 = r.val / 8
      · rw [if_pos e, if_pos e]
      · rw [if_neg e, if_neg e, zero_mul]
    · exact congrArg (fun n => E ⟨r.val % 8, Nat.mod_lt _ (by decide)⟩ (4 * t + r.val / 8) * row (View.read (Elt Ideal) w' X') n d)
        (by omega : 16 * ((4 * t + r.val / 8) / 4) + 4 * hs + (4 * t + r.val / 8) % 4 = 16 * t + 4 * hs + r.val / 8)
  rw [out_apply v18 v20 v22 v24 h0 h1 h2 h3 off (4 * hs) hoff ho (by omega) q kc vc (st 8).1 (sv 8).1 (sv 8).2 krow vrow r d _ _ _ rfl rfl rfl,
    hA.1, hA.2, show 4 * 8 = 32 from rfl, sum_halves, hW, hL, hM _ hk]
  have e4 : ∀ t, (4 * t + r.val / 8) % 4 = r.val / 8 := fun t => by omega
  simp only [hE, e4, hM _ hk]
  rfl

end

end Cert.KernelIdeal.HeadSet

end
-- ==== Proof.Value.Softmax.lean ====
/- The two ways of the softmax over extended reals: all exponentials at the maximum of all tokens, or those of the cached tokens
   at their own maximum and rescaled; the scales of keys and values inside the sums or outside; base e or base two. -/
module

public import proofs.«01_k».proof.Proof.KernelIdeal.HeadSet

@[expose] public section

noncomputable section

namespace Cert.Softmax

open Idealize.ShloMosaic Cert.KernelIdeal.HeadSet Cert.KernelIdeal.Finish

/-- A nonnegative real factor moves out of a finite sum of extended reals, whatever infinities the sum holds. -/
theorem sum_mul {ι : Type} (s : Finset ι) (f : ι → EReal) {k : EReal} (h0 : 0 ≤ k) (ht : k ≠ ⊤) :
    (∑ i ∈ s, f i) * k = ∑ i ∈ s, f i * k := by
  classical
  induction s using Finset.induction_on with
  | empty => simp
  | insert a s ha ih =>
    rw [Finset.sum_insert ha, Finset.sum_insert ha, EReal.right_distrib_of_nonneg_of_ne_top h0 ht, ih]

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- Powers of two are exponentials, with the exponent over log 2. -/
theorem exp2_eq (x : EReal) : Ideal.exp2 (x * (((Real.log 2)⁻¹ : ℝ) : EReal)) = Ideal.exp x := by
  have hl : 0 < (Real.log 2)⁻¹ := inv_pos.mpr (Real.log_pos (by norm_num))
  induction x using EReal.rec with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = ((Real.exp r : ℝ) : EReal)
    refine congrArg _ ?_
    show (2 : ℝ) ^ (r * (Real.log 2)⁻¹) = _
    rw [Real.rpow_def_of_pos (by norm_num), mul_comm r, ← mul_assoc,
      mul_inv_cancel₀ (Real.log_pos (by norm_num)).ne', one_mul]

/-- A difference scales by a positive real. -/
theorem sub_mul_coe (x y : EReal) {k : ℝ} (hk : 0 < k) : (x - y) * (k : EReal) = x * (k : EReal) - y * (k : EReal) := by
  rw [sub_eq_add_neg, sub_eq_add_neg,
    EReal.right_distrib_of_nonneg_of_ne_top (EReal.coe_nonneg.mpr hk.le) (EReal.coe_ne_top k), EReal.neg_mul]

/-- A maximum scales by a nonnegative factor. -/
theorem max_mul {k : EReal} (hk : 0 ≤ k) (x y : EReal) : max x y * k = max (x * k) (y * k) :=
  Monotone.map_max (f := fun a : EReal => a * k) fun _ _ h => mul_le_mul_of_nonneg_right h hk

/-- A finite maximum scales by a positive real. -/
theorem sup_mul (n : ℕ) (s : ℕ → EReal) {k : ℝ} (hk : 0 < k) :
    (Finset.range n).sup s * (k : EReal) = (Finset.range n).sup fun t => s t * (k : EReal) := by
  induction n with
  | zero => simpa using EReal.bot_mul_coe_of_pos hk
  | succ n ih =>
    rw [Finset.range_add_one, Finset.sup_insert, Finset.sup_insert, ← ih]
    exact max_mul (EReal.coe_nonneg.mpr hk.le) _ _

/-- Rescaling an exponential from one reference point to a greater one. -/
theorem exp_rescale {s M T : EReal} (h : s ≤ M) (h' : M ≤ T) : Ideal.exp (s - M) * Ideal.exp (M - T) = Ideal.exp (s - T) := by
  have e0 : Ideal.exp ⊥ = 0 := rfl
  have hT : ∀ x : EReal, x - ⊤ = ⊥ := fun x => by simp [sub_eq_add_neg]
  by_cases hs : s = ⊥
  · subst hs; simp [sub_eq_add_neg, e0]
  by_cases hT' : T = ⊤
  · subst hT'; rw [hT, hT, e0, mul_zero]
  have hM : M ≠ ⊥ := fun h0 => hs (le_bot_iff.mp (h0 ▸ h))
  have hTb : T ≠ ⊥ := fun h0 => hM (le_bot_iff.mp (h0 ▸ h'))
  have hM' : M ≠ ⊤ := fun h0 => hT' (top_le_iff.mp (h0 ▸ h'))
  have hs' : s ≠ ⊤ := fun h0 => hM' (top_le_iff.mp (h0 ▸ h))
  lift s to ℝ using ⟨hs', hs⟩
  lift M to ℝ using ⟨hM', hM⟩
  lift T to ℝ using ⟨hT', hTb⟩
  rw [← EReal.coe_sub, ← EReal.coe_sub, ← EReal.coe_sub]
  show ((Real.exp _ : ℝ) : EReal) * ((Real.exp _ : ℝ) : EReal) = ((Real.exp _ : ℝ) : EReal)
  rw [← EReal.coe_mul, ← Real.exp_add]
  congr 2; ring

/-- The factor of a rescaling is not infinite. -/
theorem exp_ne_top {M T : EReal} (h : M ≤ T) : Ideal.exp (M - T) ≠ ⊤ := by
  by_cases hM : M = ⊥
  · subst hM; rw [sub_eq_add_neg, EReal.bot_add]; exact EReal.zero_ne_top
  by_cases hT : T = ⊤
  · subst hT; rw [sub_eq_add_neg, EReal.neg_top, EReal.add_bot]; exact EReal.zero_ne_top
  have hTb : T ≠ ⊥ := fun h0 => hM (le_bot_iff.mp (h0 ▸ h))
  have hM' : M ≠ ⊤ := fun h0 => hT (top_le_iff.mp (h0 ▸ h))
  lift M to ℝ using ⟨hM', hM⟩
  lift T to ℝ using ⟨hT, hTb⟩
  rw [← EReal.coe_sub]
  exact EReal.coe_ne_top _

/-- Attention of one query row in the plain form: scores `s` and `sn`, values `v` and `vn`, all exponentials at the one maximum. -/
def plain (s v : ℕ → EReal) (sn vn : EReal) : EReal :=
  let T := max ((Finset.range 4096).sup s) sn
  Ideal.div ((∑ t ∈ Finset.range 4096, Ideal.exp (s t - T) * v t) + Ideal.exp (sn - T) * vn)
    ((∑ t ∈ Finset.range 4096, Ideal.exp (s t - T)) + Ideal.exp (sn - T))

/-- The two forms agree: scores in base two are scores over log 2, and a finite nonnegative scale of the values may be
    multiplied into the result. -/
theorem attend_eq (s v : ℕ → EReal) (sn vn : EReal) {k : EReal} (h0 : 0 ≤ k) (ht : k ≠ ⊤) :
    attend (fun t => s t * (((Real.log 2)⁻¹ : ℝ) : EReal)) v (sn * (((Real.log 2)⁻¹ : ℝ) : EReal)) vn k
      = plain s (fun t => v t * k) sn (vn * k) := by
  have hl : 0 < (Real.log 2)⁻¹ := inv_pos.mpr (Real.log_pos (by norm_num))
  unfold attend plain
  dsimp only
  rw [← sup_mul 4096 s hl, ← max_mul (EReal.coe_nonneg.mpr hl.le)]
  show Ideal.div (((∑ t ∈ Finset.range 4096, Ideal.exp2 _ * v t) * Ideal.exp2 _ + Ideal.exp2 _ * vn) * k)
    ((∑ t ∈ Finset.range 4096, Ideal.exp2 _) * Ideal.exp2 _ + Ideal.exp2 _) = _
  simp only [← sub_mul_coe _ _ hl, exp2_eq]
  set M := (Finset.range 4096).sup s with hM
  set T := max M sn with hT
  have hMT : M ≤ T := le_max_left _ _
  have hsM : ∀ t ∈ Finset.range 4096, s t ≤ M := fun t h => Finset.le_sup h
  refine congrArg₂ Ideal.div ?_ ?_
  · rw [sum_mul _ _ (exp_nonneg _) (exp_ne_top hMT), EReal.right_distrib_of_nonneg_of_ne_top h0 ht, sum_mul _ _ h0 ht, mul_assoc _ vn k]
    refine congrArg₂ (· + ·) (Finset.sum_congr rfl fun t h => ?_) rfl
    rw [← exp_rescale (hsM t h) hMT]
    ac_rfl
  · rw [sum_mul _ _ (exp_nonneg _) (exp_ne_top hMT)]
    exact congrArg₂ (· + ·) (Finset.sum_congr rfl fun t h => exp_rescale (hsM t h) hMT) rfl

/-- A score with its key scale inside the sum and the softmax scale outside, in base two. -/
theorem score_eq {n : ℕ} (q c : Fin n → EReal) {k : EReal} (h0 : 0 ≤ k) (ht : k ≠ ⊤) :
    (∑ e, q e * c e) * (k * scale)
      = (∑ e, q e * (c e * k)) * (((Real.sqrt 128)⁻¹ : ℝ) : EReal) * (((Real.log 2)⁻¹ : ℝ) : EReal) := by
  rw [scale, EReal.coe_mul, ← mul_assoc, ← mul_assoc, sum_mul _ _ h0 ht]
  simp only [mul_assoc]

end Cert.Softmax

end
-- ==== Proof.KernelIdeal.BodyValue.lean ====
/- What the body computes for one batch entry, from the blocks of its operands: the attention rows, and the codes of the new keys
   and values. -/
module

public import proofs.«01_k».proof.Proof.KernelIdeal.HeadSet
public import Idealize.ShloMosaic.Lib.VecWindow

@[expose] public section

noncomputable section

namespace Cert.KernelIdeal.BodyValue

open Cert.KernelIdeal Cert.KernelIdeal.Gen Cert.KernelIdeal.Tile Cert.KernelIdeal.Finish Cert.KernelIdeal.HeadSet
open Idealize.ShloMosaic

/-- Attention row `R` of a batch entry at column `d`: from its queries, the column and row scales, the cached codes `x8` of its
    keys and `x9` of its values, and the codes `kc` and `vc` of the new key and value. -/
def rowOut (x0 : Vec Ideal S1x128x128 .bf16) (x5 : Vec Ideal S4x8x128 .f32) (x6 x7 : Vec Ideal S128x128 .f32)
    (x8 x9 : Vec Ideal S1x65536x128 .fp8e4m3) (kc vc : FVec Ideal S16x128 .fp8e4m3) (R d : Fin 128) : EReal :=
  attend
    (fun t => (∑ e : Fin 128, x0 (ix3 0 R e) * row x8 (16 * t + R.val / 8) e)
      * (x5 (ix3 (⟨R.val / 32, by have := R.isLt; omega⟩ : Fin 4) (⟨R.val % 8, by omega⟩ : Fin 8) (⟨(4 * t + R.val / 8 % 4) % 128, by omega⟩ : Fin 128)) * scale))
    (fun t => row x9 (16 * t + R.val / 8) d)
    ((∑ e : Fin 128, x0 (ix3 0 R e) * kc (ix2 (⟨R.val / 8, by have := R.isLt; omega⟩ : Fin 16) e)) * (x6 (ix2 R 0) * scale))
    (vc (ix2 (⟨R.val / 8, by have := R.isLt; omega⟩ : Fin 16) d)) (x7 (ix2 R d))

/-- Row `r` of head set `hs`, among all rows. -/
def at_ (hs : ℕ) (hlt : hs < 4) (r : Fin 32) : Fin 128 := ⟨32 * hs + r.val, by have := r.isLt; omega⟩

section
variable {κ κ' : Kind} {sp sp' : Space} (w w' : View sig κ sp S1x65536x128 .fp8e4m3) (X : BufTy.Contents (Elt Ideal) w.ty)
variable (X' : BufTy.Contents (Elt Ideal) w'.ty)
variable (b : View sig κ' sp' S4x8x16384 .f32) (B : BufTy.Contents (Elt Ideal) b.ty)
variable (hs : ℕ) (hlt : hs < 4) (h : S64x4x4x128.Slices ![0, hs, 0, 0] S64x1x4x128)
variable (q : FVec Ideal S32x128 .bf16) (cs mc : FVec Ideal S8x128 .f32)
variable (st : ℕ → FVec Ideal S8x128 .f32 × List (View.Piece (Elt Ideal) S4x8x16384 .f32))
variable (hst : ScoreRun w X hs h k0_pay367 k0_pay368 k0_pay369 q cs st)
variable (f : BufTy.Contents (Elt Ideal) b.ty) (hB : B = b.writes (Elt Ideal) f (st 8).2)
variable (hmc : mc = laneMax k0_pay367 k0_pay368 k0_pay369 k0_pay370 (st 8).1)
variable (sv : ℕ → FVec Ideal S8x128 .f32 × FVec Ideal S64x256 .f32)
variable (hsv : ValueRun w' X' b B hs h k0_pay367 k0_pay368 k0_pay369 k0_pay370 mc sv)
variable (x0 : Vec Ideal S1x128x128 .bf16) (x5 : Vec Ideal S4x8x128 .f32) (x6 x7 : Vec Ideal S128x128 .f32)
variable (x8 x9 : Vec Ideal S1x65536x128 .fp8e4m3) (kc vc : FVec Ideal S16x128 .fp8e4m3)
variable (krow : Vec Ideal S32x1 .f32) (vrow : Vec Ideal S32x128 .f32)
variable (hX : View.read (Elt Ideal) w X = x8) (hX' : View.read (Elt Ideal) w' X' = x9)
variable (hq : ∀ r e, (q (ix2 r e) : EReal) = x0 (ix3 0 (at_ hs hlt r) e))
variable (hcs : ∀ g l, (cs (ix2 g l) : EReal) = x5 (ix3 (⟨hs, hlt⟩ : Fin 4) g l) * scale)
variable (hkrow : ∀ r, (krow (ix2 r 0) : EReal) = x6 (ix2 (at_ hs hlt r) 0))
variable (hvrow : ∀ r d, (vrow (ix2 r d) : EReal) = x7 (ix2 (at_ hs hlt r) d))

include hst hB hmc hsv hX hX' hq hcs hkrow hvrow in
/-- The rows that the body stores for a head set are its attention rows. -/
theorem rows_apply (off : Fin 2 → ℕ) (ho : off = ![4 * hs, 0]) (hoff : S16x128.Slices off S4x128) (r : Fin 32) (d : Fin 128) :
    (out off hoff k0_pay367 k0_pay368 k0_pay369 k0_pay370 q kc vc (st 8).1 (sv 8).1 (sv 8).2 krow vrow (ix3 0 r d) : EReal)
      = rowOut x0 x5 x6 x7 x8 x9 kc vc (at_ hs hlt r) d := by
  have hr := r.isLt
  rw [row_apply w w' X X' b B hs h _ _ _ _ q cs mc hlt mask0 mask1 mask2 mask3 st hst f hB hmc sv hsv off ho hoff kc vc krow vrow r d, hX, hX']
  unfold rowOut
  have e1 : (at_ hs hlt r).val = 32 * hs + r.val := rfl
  have e2 : (⟨(at_ hs hlt r).val / 8, by rw [e1]; omega⟩ : Fin 16) = ⟨4 * hs + r.val / 8, by omega⟩ := Fin.ext (by dsimp only; omega)
  have e3 : (⟨(at_ hs hlt r).val / 32, by rw [e1]; omega⟩ : Fin 4) = ⟨hs, hlt⟩ := Fin.ext (by dsimp only; omega)
  have e4 : (⟨(at_ hs hlt r).val % 8, by omega⟩ : Fin 8) = ⟨r.val % 8, by omega⟩ := Fin.ext (by dsimp only; omega)
  have eS : (fun t => S hs q x8 cs ⟨r.val % 8, Nat.mod_lt _ (by decide)⟩ (4 * t + r.val / 8))
      = fun t => (∑ e : Fin 128, x0 (ix3 0 (at_ hs hlt r) e) * row x8 (16 * t + (at_ hs hlt r).val / 8) e)
        * (x5 (ix3 (⟨hs, hlt⟩ : Fin 4) (⟨r.val % 8, by omega⟩ : Fin 8) (⟨(4 * t + (at_ hs hlt r).val / 8 % 4) % 128, by omega⟩ : Fin 128)) * scale) := by
    funext t
    unfold S
    rw [hcs]
    refine congrArg₂ (· * ·) (Finset.sum_congr rfl fun e _ => ?_) ?_
    · rw [hq]
      refine congrArg₂ (· * ·) (congrArg (fun i => x0 (ix3 0 i e)) (Fin.ext ?_)) (congrArg (fun n => row x8 n e) ?_)
      · show 32 * hs + (8 * ((4 * t + r.val / 8) % 4) + r.val % 8) = 32 * hs + r.val
        omega
      · omega
    · refine congrArg (fun i => x5 (ix3 (⟨hs, hlt⟩ : Fin 4) (⟨r.val % 8, by omega⟩ : Fin 8) i) * scale) (Fin.ext ?_)
      dsimp only
      omega
  have eV : (fun t => row x9 (16 * t + 4 * hs + r.val / 8) d) = fun t => row x9 (16 * t + (at_ hs hlt r).val / 8) d :=
    funext fun t => congrArg (fun n => row x9 n d) (by omega)
  rw [e2, e3, e4, eS, eV, hkrow, hvrow, Finset.sum_congr rfl fun e _ => congrArg (· * _) (hq r e)]

end

section
variable {κ κ' : Kind} {sp sp' : Space} {w w' : View sig κ sp S1x65536x128 .fp8e4m3} {X : BufTy.Contents (Elt Ideal) w.ty}
variable {X' : BufTy.Contents (Elt Ideal) w'.ty}
variable {b : View sig κ' sp' S4x8x16384 .f32} {B : BufTy.Contents (Elt Ideal) b.ty}
variable {lq : Vec Ideal S1x32x128 .bf16} {lc : Vec Ideal S1x8x128 .f32} {mc : FVec Ideal S8x128 .f32}
variable {st : ℕ → FVec Ideal S8x128 .f32 × List (View.Piece (Elt Ideal) S4x8x16384 .f32)}
variable {f : BufTy.Contents (Elt Ideal) b.ty}
variable {sv : ℕ → FVec Ideal S8x128 .f32 × FVec Ideal S64x256 .f32} {n n' : ℕ}
variable {x0 : Vec Ideal S1x128x128 .bf16} {x5 : Vec Ideal S4x8x128 .f32} {x6 x7 : Vec Ideal S128x128 .f32}
variable {x8 x9 : Vec Ideal S1x65536x128 .fp8e4m3} {kc vc : FVec Ideal S16x128 .fp8e4m3}
variable {krow : Vec Ideal S32x1 .f32} {vrow : Vec Ideal S32x128 .f32}

/-- The queries of a head set without their leading unit axis. -/
theorem queries_apply (r : Fin 32) (e : Fin 128) : (k0_pay377 lq (ix2 r e) : EReal) = lq (ix3 0 r e) := by
  pointwise [k0_pay377]

/-- The column scales of a head set, in base two. -/
theorem colScale_apply (g : Fin 8) (l : Fin 128) : (k0_pay379 lc (ix2 g l) : EReal) = lc (ix3 0 g l) * scale := by
  pointwise [k0_pay379]
  rw [score_scale]

/-- What the body stores for head set 0. -/
theorem stored0 (hst : ScoreRun w X 0 slices_S64x4x4x128_o0_0_0_0_S64x1x4x128 k0_pay367 k0_pay368 k0_pay369 (k0_pay377 lq) (k0_pay379 lc) st)
    (hsv : ValueRun w' X' b B 0 slices_S64x4x4x128_o0_0_0_0_S64x1x4x128 k0_pay367 k0_pay368 k0_pay369 k0_pay370 mc sv)
    (hn : n = 8) (hn' : n' = 8)
    (hB : B = b.writes (Elt Ideal) f (st n).2) (hmc : mc = laneMax k0_pay367 k0_pay368 k0_pay369 k0_pay370 (st n).1)
    (hX : View.read (Elt Ideal) w X = x8) (hX' : View.read (Elt Ideal) w' X' = x9)
    (hq : ∀ r e, (lq (ix3 0 r e) : EReal) = x0 (ix3 0 (at_ 0 (by decide) r) e))
    (hcs : ∀ g l, (lc (ix3 0 g l) : EReal) = x5 (ix3 0 g l))
    (hkrow : ∀ r, (krow (ix2 r 0) : EReal) = x6 (ix2 (at_ 0 (by decide) r) 0))
    (hvrow : ∀ r d, (vrow (ix2 r d) : EReal) = x7 (ix2 (at_ 0 (by decide) r) d)) (r : Fin 32) (d : Fin 128) :
    (k0_pay400 k0_pay370 kc vc (k0_pay377 lq) (k0_pay384 k0_pay367 (st n).1) (k0_pay386 k0_pay368 (st n).1 k0_pay385) (k0_pay387 k0_pay369 (st n).1) (k0_pay388 k0_pay370 (st n).1) (sv n').1 (k0_pay395 (sv n').2) (k0_pay396 k0_pay367 (sv n').1) (k0_pay397 k0_pay368 (sv n').1) (k0_pay398 k0_pay369 (sv n').1) k0_pay399 krow vrow (ix3 0 r d) : EReal)
      = rowOut x0 x5 x6 x7 x8 x9 kc vc (at_ 0 (by decide) r) d := by
  subst hn hn'
  exact (congrFun (out0 lq kc vc (st 8).1 (sv 8).1 (sv 8).2 krow vrow k0_pay367 k0_pay368 k0_pay369 k0_pay370) (ix3 0 r d)).trans
    (rows_apply w w' X X' b B 0 (by decide) _ _ _ mc st hst f hB hmc sv hsv x0 x5 x6 x7 x8 x9 kc vc krow vrow hX hX'
      (fun r e => (queries_apply r e).trans (hq r e)) (fun g l => (colScale_apply g l).trans (congrArg (· * scale) (hcs g l))) hkrow hvrow
      _ rfl _ r d)

/-- What the body stores for head set 1. -/
theorem stored1 (hst : ScoreRun w X 1 slices_S64x4x4x128_o0_1_0_0_S64x1x4x128 k0_pay367 k0_pay368 k0_pay369 (k0_pay377 lq) (k0_pay379 lc) st)
    (hsv : ValueRun w' X' b B 1 slices_S64x4x4x128_o0_1_0_0_S64x1x4x128 k0_pay367 k0_pay368 k0_pay369 k0_pay370 mc sv)
    (hn : n = 8) (hn' : n' = 8)
    (hB : B = b.writes (Elt Ideal) f (st n).2) (hmc : mc = laneMax k0_pay367 k0_pay368 k0_pay369 k0_pay370 (st n).1)
    (hX : View.read (Elt Ideal) w X = x8) (hX' : View.read (Elt Ideal) w' X' = x9)
    (hq : ∀ r e, (lq (ix3 0 r e) : EReal) = x0 (ix3 0 (at_ 1 (by decide) r) e))
    (hcs : ∀ g l, (lc (ix3 0 g l) : EReal) = x5 (ix3 1 g l))
    (hkrow : ∀ r, (krow (ix2 r 0) : EReal) = x6 (ix2 (at_ 1 (by decide) r) 0))
    (hvrow : ∀ r d, (vrow (ix2 r d) : EReal) = x7 (ix2 (at_ 1 (by decide) r) d)) (r : Fin 32) (d : Fin 128) :
    (k0_pay424 (k0_pay418 (sv n').2) (k0_pay419 k0_pay367 k0_pay368 k0_pay369 k0_pay370 (sv n').1) (k0_pay420 (k0_pay408 k0_pay367 (st n).1) (k0_pay409 k0_pay368 (st n).1) (k0_pay410 k0_pay369 (st n).1) (k0_pay411 k0_pay370 (st n).1)) (k0_pay421 vc) (k0_pay422 kc (k0_pay401 lq)) (k0_pay423 krow) vrow (ix3 0 r d) : EReal)
      = rowOut x0 x5 x6 x7 x8 x9 kc vc (at_ 1 (by decide) r) d := by
  subst hn hn'
  exact (congrFun (out1 lq kc vc (st 8).1 (sv 8).1 (sv 8).2 krow vrow k0_pay367 k0_pay368 k0_pay369 k0_pay370) (ix3 0 r d)).trans
    (rows_apply w w' X X' b B 1 (by decide) _ _ _ mc st hst f hB hmc sv hsv x0 x5 x6 x7 x8 x9 kc vc krow vrow hX hX'
      (fun r e => (queries_apply r e).trans (hq r e)) (fun g l => (colScale_apply g l).trans (congrArg (· * scale) (hcs g l))) hkrow hvrow
      _ rfl _ r d)

/-- What the body stores for head set 2. -/
theorem stored2 (hst : ScoreRun w X 2 slices_S64x4x4x128_o0_2_0_0_S64x1x4x128 k0_pay367 k0_pay368 k0_pay369 (k0_pay377 lq) (k0_pay379 lc) st)
    (hsv : ValueRun w' X' b B 2 slices_S64x4x4x128_o0_2_0_0_S64x1x4x128 k0_pay367 k0_pay368 k0_pay369 k0_pay370 mc sv)
    (hn : n = 8) (hn' : n' = 8)
    (hB : B = b.writes (Elt Ideal) f (st n).2) (hmc : mc = laneMax k0_pay367 k0_pay368 k0_pay369 k0_pay370 (st n).1)
    (hX : View.read (Elt Ideal) w X = x8) (hX' : View.read (Elt Ideal) w' X' = x9)
    (hq : ∀ r e, (lq (ix3 0 r e) : EReal) = x0 (ix3 0 (at_ 2 (by decide) r) e))
    (hcs : ∀ g l, (lc (ix3 0 g l) : EReal) = x5 (ix3 2 g l))
    (hkrow : ∀ r, (krow (ix2 r 0) : EReal) = x6 (ix2 (at_ 2 (by decide) r) 0))
    (hvrow : ∀ r d, (vrow (ix2 r d) : EReal) = x7 (ix2 (at_ 2 (by decide) r) d)) (r : Fin 32) (d : Fin 128) :
    (k0_pay448 k0_pay370 kc vc (k0_pay425 lq) (k0_pay432 k0_pay367 (st n).1) (k0_pay434 k0_pay368 (st n).1 k0_pay433) (k0_pay435 k0_pay369 (st n).1) (k0_pay436 k0_pay370 (st n).1) (sv n').1 (k0_pay443 (sv n').2) (k0_pay444 k0_pay367 (sv n').1) (k0_pay445 k0_pay368 (sv n').1) (k0_pay446 k0_pay369 (sv n').1) k0_pay447 krow vrow (ix3 0 r d) : EReal)
      = rowOut x0 x5 x6 x7 x8 x9 kc vc (at_ 2 (by decide) r) d := by
  subst hn hn'
  exact (congrFun (out2 lq kc vc (st 8).1 (sv 8).1 (sv 8).2 krow vrow k0_pay367 k0_pay368 k0_pay369 k0_pay370) (ix3 0 r d)).trans
    (rows_apply w w' X X' b B 2 (by decide) _ _ _ mc st hst f hB hmc sv hsv x0 x5 x6 x7 x8 x9 kc vc krow vrow hX hX'
      (fun r e => (queries_apply r e).trans (hq r e)) (fun g l => (colScale_apply g l).trans (congrArg (· * scale) (hcs g l))) hkrow hvrow
      _ rfl _ r d)

/-- What the body stores for head set 3. -/
theorem stored3 (hst : ScoreRun w X 3 slices_S64x4x4x128_o0_3_0_0_S64x1x4x128 k0_pay367 k0_pay368 k0_pay369 (k0_pay377 lq) (k0_pay379 lc) st)
    (hsv : ValueRun w' X' b B 3 slices_S64x4x4x128_o0_3_0_0_S64x1x4x128 k0_pay367 k0_pay368 k0_pay369 k0_pay370 mc sv)
    (hn : n = 8) (hn' : n' = 8)
    (hB : B = b.writes (Elt Ideal) f (st n).2) (hmc : mc = laneMax k0_pay367 k0_pay368 k0_pay369 k0_pay370 (st n).1)
    (hX : View.read (Elt Ideal) w X = x8) (hX' : View.read (Elt Ideal) w' X' = x9)
    (hq : ∀ r e, (lq (ix3 0 r e) : EReal) = x0 (ix3 0 (at_ 3 (by decide) r) e))
    (hcs : ∀ g l, (lc (ix3 0 g l) : EReal) = x5 (ix3 3 g l))
    (hkrow : ∀ r, (krow (ix2 r 0) : EReal) = x6 (ix2 (at_ 3 (by decide) r) 0))
    (hvrow : ∀ r d, (vrow (ix2 r d) : EReal) = x7 (ix2 (at_ 3 (by decide) r) d)) (r : Fin 32) (d : Fin 128) :
    (k0_pay1 (k0_pay466 (sv n').2) (k0_pay467 k0_pay367 k0_pay368 k0_pay369 k0_pay370 (sv n').1) (k0_pay468 (k0_pay456 k0_pay367 (st n).1) (k0_pay457 k0_pay368 (st n).1) (k0_pay458 k0_pay369 (st n).1) (k0_pay459 k0_pay370 (st n).1)) (k0_pay469 vc) (k0_pay470 kc (k0_pay449 lq)) (k0_pay471 krow) vrow (ix3 0 r d) : EReal)
      = rowOut x0 x5 x6 x7 x8 x9 kc vc (at_ 3 (by decide) r) d := by
  subst hn hn'
  exact (congrFun (out3 lq kc vc (st 8).1 (sv 8).1 (sv 8).2 krow vrow k0_pay367 k0_pay368 k0_pay369 k0_pay370) (ix3 0 r d)).trans
    (rows_apply w w' X X' b B 3 (by decide) _ _ _ mc st hst f hB hmc sv hsv x0 x5 x6 x7 x8 x9 kc vc krow vrow hX hX'
      (fun r e => (queries_apply r e).trans (hq r e)) (fun g l => (colScale_apply g l).trans (congrArg (· * scale) (hcs g l))) hkrow hvrow
      _ rfl _ r d)

end

/-! ## The stores and the loads of the body -/

/-- Four stores of 32 rows each leave one array of 128 rows. -/
theorem read_four {κ : Kind} {sp : Space} (v : View sig κ sp S1x128x128 .bf16) (f : BufTy.Contents (Elt Ideal) v.ty)
    (i3 : ∀ a, ![0, 96, 0] a + ![1, 32, 128] a ≤ S1x128x128.size a) (i2 : ∀ a, ![0, 64, 0] a + ![1, 32, 128] a ≤ S1x128x128.size a)
    (i1 : ∀ a, ![0, 32, 0] a + ![1, 32, 128] a ≤ S1x128x128.size a) (i0 : ∀ a, ![0, 0, 0] a + ![1, 32, 128] a ≤ S1x128x128.size a)
    (p3 p2 p1 p0 : Vec Ideal S1x32x128 .bf16) (G : Fin 128 → Fin 128 → EReal)
    (h3 : ∀ r d, (p3 (ix3 0 r d) : EReal) = G (at_ 3 (by decide) r) d) (h2 : ∀ r d, (p2 (ix3 0 r d) : EReal) = G (at_ 2 (by decide) r) d)
    (h1 : ∀ r d, (p1 (ix3 0 r d) : EReal) = G (at_ 1 (by decide) r) d) (h0 : ∀ r d, (p0 (ix3 0 r d) : EReal) = G (at_ 0 (by decide) r) d) :
    View.read (Elt Ideal) v (v.writes (Elt Ideal) f [⟨Rect.unit ![0, 96, 0] ![1, 32, 128] i3, p3⟩, ⟨Rect.unit ![0, 64, 0] ![1, 32, 128] i2, p2⟩,
      ⟨Rect.unit ![0, 32, 0] ![1, 32, 128] i1, p1⟩, ⟨Rect.unit ![0, 0, 0] ![1, 32, 128] i0, p0⟩]) = fun y : S1x128x128.Idx => G (y 1) (y 2) := by
  have key : ∀ (hs : ℕ) (hlt : hs < 4) (off : Fin 3 → ℕ) (ho : off = ![0, 32 * hs, 0]) (i : ∀ a, off a + ![1, 32, 128] a ≤ S1x128x128.size a)
      (p : Vec Ideal S1x32x128 .bf16) (h : ∀ r d, (p (ix3 0 r d) : EReal) = G (at_ hs hlt r) d) (x : S1x32x128.Idx),
      p x = (fun y : S1x128x128.Idx => G (y 1) (y 2)) ((Rect.unit (s := S1x128x128) off ![1, 32, 128] i).emb x) := by
    intro hs hlt off ho i p h x
    subst ho
    have hx : x = ix3 0 (x 1) (x 2) := by
      funext a
      fin_cases a
      · exact Subsingleton.elim (α := Fin 1) _ _
      · rfl
      · rfl
    refine (congrArg p hx).trans ((h (x 1) (x 2)).trans (congrArg₂ G (Fin.ext ?_) (Fin.ext ?_)))
    · exact (Rect.idx_unit_val (s := S1x128x128) _ _ i x 1).symm
    · exact ((Rect.idx_unit_val (s := S1x128x128) _ _ i x 2).trans (Nat.zero_add _)).symm
  funext y
  refine View.read_writes_apply_of_pieces (Val := Elt Ideal) (v := v) (f := f) (fun y : S1x128x128.Idx => G (y 1) (y 2)) _ ?_ y ?_
  · intro p hp x
    simp only [List.mem_cons, List.not_mem_nil, or_false] at hp
    rcases hp with rfl | rfl | rfl | rfl
    · exact key 3 (by decide) _ rfl i3 p3 h3 x
    · exact key 2 (by decide) _ rfl i2 p2 h2 x
    · exact key 1 (by decide) _ rfl i1 p1 h1 x
    · exact key 0 (by decide) _ rfl i0 p0 h0 x
  · have y1 : (y 1).val < 128 := (y 1).isLt
    have y0 : (y 0).val < 1 := (y 0).isLt
    have y2 : (y 2).val < 128 := (y 2).isLt
    have inRect : ∀ (a : ℕ) (i : ∀ k, ![0, a, 0] k + ![1, 32, 128] k ≤ S1x128x128.size k), a ≤ (y 1).val → (y 1).val < a + 32 →
        y ∈ (Rect.unit (s := S1x128x128) ![0, a, 0] ![1, 32, 128] i).set := by
      intro a i lo hi
      refine (Rect.mem_set_unit (s := S1x128x128) (inb := i)).mpr fun k => ?_
      fin_cases k
      · exact ⟨Nat.zero_le _, y0⟩
      · exact ⟨lo, hi⟩
      · exact ⟨Nat.zero_le _, y2⟩
    rcases (by omega : (y 1).val < 32 ∨ (32 ≤ (y 1).val ∧ (y 1).val < 64) ∨ (64 ≤ (y 1).val ∧ (y 1).val < 96) ∨ 96 ≤ (y 1).val) with e | e | e | e
    · exact ⟨_, List.mem_cons_of_mem _ (List.mem_cons_of_mem _ (List.mem_cons_of_mem _ List.mem_cons_self)), inRect 0 i0 (by omega) (by omega)⟩
    · exact ⟨_, List.mem_cons_of_mem _ (List.mem_cons_of_mem _ List.mem_cons_self), inRect 32 i1 (by omega) (by omega)⟩
    · exact ⟨_, List.mem_cons_of_mem _ List.mem_cons_self, inRect 64 i2 (by omega) (by omega)⟩
    · exact ⟨_, List.mem_cons_self, inRect 96 i3 (by omega) (by omega)⟩

/-- A load of part of a buffer that holds `x` is that part of `x`. -/
theorem load_apply {κ : Kind} {sp : Space} {S : Shape} {e : EltTy} (arg : Memref sig κ sp S e) (harg : arg.IsWhole) (x : Vec Ideal S e)
    (off size : Fin S.rank → ℕ) (inb : ∀ a, off a + size a ≤ S.size a) (y : (Rect.unit off size inb).shape.Idx) (i : S.Idx)
    (hi : ∀ a, (i a : ℕ) = off a + y a) :
    View.readAt (Elt Ideal) arg.view (Rect.unit off size inb).toLoadRect (harg.unread x) y = x i := by
  rw [View.readAt_eq_ld, harg.read_unread]
  exact View.ld_unit_apply_of x off size inb y i hi

/-- A load of a whole buffer that holds `x` is `x`. -/
theorem load_whole {κ : Kind} {sp : Space} {S : Shape} {e : EltTy} (arg : Memref sig κ sp S e) (harg : arg.IsWhole) (x : Vec Ideal S e)
    (off : Fin S.rank → ℕ) (inb : ∀ a, off a + S.size a ≤ S.size a) :
    View.readAt (Elt Ideal) arg.view (Rect.unit off S.size inb).toLoadRect (harg.unread x) = x := by
  rw [View.readAt_full, harg.read_unread]

/-- The attention rows of a batch entry, from the blocks of the operands. -/
def attnRows (x0 : Vec Ideal S1x128x128 .bf16) (x1 x2 : Vec Ideal S1x16x128 .bf16) (x3 x4 : Vec Ideal S16x128 .f32) (x5 : Vec Ideal S4x8x128 .f32)
    (x6 x7 : Vec Ideal S128x128 .f32) (x8 x9 : Vec Ideal S1x65536x128 .fp8e4m3) : Vec Ideal S1x128x128 .bf16 :=
  fun y : S1x128x128.Idx => rowOut x0 x5 x6 x7 x8 x9 (k0_pay371 x1 x3) (k0_pay373 (k0_pay372 x2) x4) (y 1) (y 2)

/-- The codes of the new keys of a batch entry. -/
def keyRows (x1 : Vec Ideal S1x16x128 .bf16) (x3 : Vec Ideal S16x128 .f32) : Vec Ideal S1x16x128 .fp8e4m3 := k0_pay374 (k0_pay371 x1 x3)

/-- The codes of the new values of a batch entry. -/
def valueRows (x2 : Vec Ideal S1x16x128 .bf16) (x4 : Vec Ideal S16x128 .f32) : Vec Ideal S1x16x128 .fp8e4m3 := k0_pay375 (k0_pay372 x2) x4

section
variable (arg2 : Memref sig .tc .vmem S1x16x128 .bf16) (harg2 : arg2.IsWhole) (arg3 : Memref sig .tc .vmem S1x16x128 .bf16) (harg3 : arg3.IsWhole)
variable (arg4 : Memref sig .tc .vmem S16x128 .f32) (harg4 : arg4.IsWhole) (arg5 : Memref sig .tc .vmem S16x128 .f32) (harg5 : arg5.IsWhole)
variable (x0 : Vec Ideal S1x128x128 .bf16) (x1 x2 : Vec Ideal S1x16x128 .bf16) (x3 x4 : Vec Ideal S16x128 .f32) (x5 : Vec Ideal S4x8x128 .f32)
    (x6 x7 : Vec Ideal S128x128 .f32) (x8 x9 : Vec Ideal S1x65536x128 .fp8e4m3)
variable (i2 i3 : ∀ a, ![0, 0, 0] a + S1x16x128.size a ≤ S1x16x128.size a) (i4 i5 : ∀ a, ![0, 0] a + S16x128.size a ≤ S16x128.size a)

/-- The codes of the new keys, from what the body loads. -/
theorem keyRows_loads : k0_pay374 (k0_pay371 (View.readAt (Elt Ideal) arg2.view (Rect.unit ![0, 0, 0] S1x16x128.size i2).toLoadRect (harg2.unread x1))
      (View.readAt (Elt Ideal) arg4.view (Rect.unit ![0, 0] S16x128.size i4).toLoadRect (harg4.unread x3))) = keyRows x1 x3 := by
  rw [load_whole arg2 harg2, load_whole arg4 harg4]; rfl

/-- The codes of the new values, from what the body loads. -/
theorem valueRows_loads : k0_pay375 (k0_pay372 (View.readAt (Elt Ideal) arg3.view (Rect.unit ![0, 0, 0] S1x16x128.size i3).toLoadRect (harg3.unread x2)))
      (View.readAt (Elt Ideal) arg5.view (Rect.unit ![0, 0] S16x128.size i5).toLoadRect (harg5.unread x4)) = valueRows x2 x4 := by
  rw [load_whole arg3 harg3, load_whole arg5 harg5]; rfl

/-- The attention rows, with the new codes from what the body loads. -/
theorem attnRows_loads : (fun y : S1x128x128.Idx => rowOut x0 x5 x6 x7 x8 x9
      (k0_pay371 (View.readAt (Elt Ideal) arg2.view (Rect.unit ![0, 0, 0] S1x16x128.size i2).toLoadRect (harg2.unread x1))
        (View.readAt (Elt Ideal) arg4.view (Rect.unit ![0, 0] S16x128.size i4).toLoadRect (harg4.unread x3)))
      (k0_pay373 (k0_pay372 (View.readAt (Elt Ideal) arg3.view (Rect.unit ![0, 0, 0] S1x16x128.size i3).toLoadRect (harg3.unread x2)))
        (View.readAt (Elt Ideal) arg5.view (Rect.unit ![0, 0] S16x128.size i5).toLoadRect (harg5.unread x4))) (y 1) (y 2))
      = attnRows x0 x1 x2 x3 x4 x5 x6 x7 x8 x9 := by
  rw [load_whole arg2 harg2, load_whole arg3 harg3, load_whole arg4 harg4, load_whole arg5 harg5]; rfl
end

end Cert.KernelIdeal.BodyValue

end
-- ==== Proof.KernelIdeal.Trips.lean ====
/- Each loop's trip over the extended reals, as the generic trip of its head set. -/
module

public import proofs.«01_k».proof.Proof.Gen.KernelIdeal.Loops
public import proofs.«01_k».proof.Proof.KernelIdeal.ValueLoop

@[expose] public section

set_option maxRecDepth 16384

noncomputable section

namespace Cert.KernelIdeal.Trips

open Cert.KernelIdeal Cert.KernelIdeal.Gen Cert.KernelIdeal.Tile Cert.KernelIdeal.ScoreLoop Cert.KernelIdeal.ValueLoop
open Idealize.ShloMosaic Idealize.ShloMosaic.TcCoe

variable {F : FTy → Type} [FloatOps F] [Named F]

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v35 : FVec F S16x128 .fp8e4m3) (v38 : FVec F S16x128 .f32) (v54 : Vec F S1x32x128 .bf16) (v59 : Vec F S1x8x128 .f32) (X_arg9 : BufTy.Contents (Elt F) arg9.view.ty) (k : Fin k0_t1_loop.trips)

/-- A trip of score loop 0 raises the lane maxima by its sixteen parts. -/
theorem trip1_max (acc : FVec F S8x128 .f32) : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k acc
    = raise arg9.view X_arg9 (fun u b => k0_off1 k (BitVec.ofNat 32 u.val) (BitVec.ofNat 32 (64 * b.val))) (k0_off1_inb k)
        0 slices_S64x4x4x128_o0_0_0_0_S64x1x4x128 v18 v20 v22 (k0_pay378 v54) (k0_pay379 v59) acc := by
  unfold tripR_k0_t1 trip_k0_t1
  rfl

/-- A trip of score loop 0 stores its sixteen parts. -/
theorem trip1_pieces (acc : FVec F S8x128 .f32) : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k acc
    = pieces arg9.view X_arg9 (fun u b => k0_off1 k (BitVec.ofNat 32 u.val) (BitVec.ofNat 32 (64 * b.val))) (k0_off1_inb k)
        (fun u r => k0_off2 k (BitVec.ofNat 32 u.val) (BitVec.ofNat 32 (128 * r.val))) (k0_off2_inb k)
        0 slices_S64x4x4x128_o0_0_0_0_S64x1x4x128 v18 v20 v22 (k0_pay378 v54) (k0_pay379 v59) := by
  unfold tripL_k0_t1 trip_k0_t1
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v65 : FVec F S8x128 .f32) (v69 : FVec F S8x1 .f32) (v70 : FVec F S8x128 .f32) (X_arg10 : BufTy.Contents (Elt F) arg10.view.ty) (X_arg14 : BufTy.Contents (Elt F) arg14.view.ty) (k : Fin k0_t2_loop.trips)

/-- A trip of value loop 0 is one step of the two accumulators. -/
theorem trip2_step (acc : FVec F S8x128 .f32 × FVec F S64x256 .f32) : tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v65 v69 v70 X_arg10 X_arg14 k acc
    = step arg10.view X_arg10 arg14.view X_arg14 (fun u b => k0_off3 k (BitVec.ofNat 32 u.val) (BitVec.ofNat 32 (64 * b.val))) (k0_off3_inb k)
        (fun u r => k0_off4 k (BitVec.ofNat 32 u.val) (BitVec.ofNat 32 (128 * r.val))) (k0_off4_inb k)
        0 slices_S64x4x4x128_o0_0_0_0_S64x1x4x128 v18 v20 v22 v24 (k0_pay389 v18 v20 v22 v24 v65 v69 v70) acc := by
  unfold tripR_k0_t2 trip_k0_t2
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v53 : FVec F S32x128 .bf16) (v160 : Vec F S1x32x128 .bf16) (v165 : Vec F S1x8x128 .f32) (X_arg9 : BufTy.Contents (Elt F) arg9.view.ty) (k : Fin k0_t3_loop.trips)

/-- A trip of score loop 1 raises the lane maxima by its sixteen parts. -/
theorem trip3_max (acc : FVec F S8x128 .f32) : tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v53 v160 v165 X_arg9 k acc
    = raise arg9.view X_arg9 (fun u b => k0_off5 k (BitVec.ofNat 32 u.val) (BitVec.ofNat 32 (64 * b.val))) (k0_off5_inb k)
        1 slices_S64x4x4x128_o0_1_0_0_S64x1x4x128 v18 v20 v22 (k0_pay402 v53 v160) (k0_pay403 v165) acc := by
  unfold tripR_k0_t3 trip_k0_t3
  rfl

/-- A trip of score loop 1 stores its sixteen parts. -/
theorem trip3_pieces (acc : FVec F S8x128 .f32) : tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v53 v160 v165 X_arg9 k acc
    = pieces arg9.view X_arg9 (fun u b => k0_off5 k (BitVec.ofNat 32 u.val) (BitVec.ofNat 32 (64 * b.val))) (k0_off5_inb k)
        (fun u r => k0_off6 k (BitVec.ofNat 32 u.val) (BitVec.ofNat 32 (128 * r.val))) (k0_off6_inb k)
        1 slices_S64x4x4x128_o0_1_0_0_S64x1x4x128 v18 v20 v22 (k0_pay402 v53 v160) (k0_pay403 v165) := by
  unfold tripL_k0_t3 trip_k0_t3
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v35 : FVec F S16x128 .fp8e4m3) (v46 : FVec F S16x128 .fp8e4m3) (v161 : FVec F S32x128 .bf16) (v175 : FVec F S8x1 .f32) (v179 : FVec F S8x1 .f32) (v183 : FVec F S8x1 .f32) (v187 : FVec F S8x1 .f32) (v198 : FVec F S8x128 .f32) (v199 : FVec F S8x128 .f32) (cst_85 : F .f32) (X_arg10 : BufTy.Contents (Elt F) arg10.view.ty) (X_arg14 : BufTy.Contents (Elt F) arg14.view.ty) (k : Fin k0_t4_loop.trips)

/-- A trip of value loop 1 is one step of the two accumulators. -/
theorem trip4_step (acc : FVec F S8x128 .f32 × FVec F S64x256 .f32) : tripR_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v161 v175 v179 v183 v187 v198 v199 cst_85 X_arg10 X_arg14 k acc
    = step arg10.view X_arg10 arg14.view X_arg14 (fun u b => k0_off7 k (BitVec.ofNat 32 u.val) (BitVec.ofNat 32 (64 * b.val))) (k0_off7_inb k)
        (fun u r => k0_off8 k (BitVec.ofNat 32 u.val) (BitVec.ofNat 32 (128 * r.val))) (k0_off8_inb k)
        1 slices_S64x4x4x128_o0_1_0_0_S64x1x4x128 v18 v20 v22 v24 v198 acc := by
  unfold tripR_k0_t4 trip_k0_t4
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v53 : FVec F S32x128 .bf16) (v205 : FVec F S32x128 .f32) (v222 : FVec F S32x1 .f32) (v223 : FVec F S32x1 .f32) (v235 : FVec F S32x128 .f32) (v239 : FVec F S32x1 .f32) (v243 : FVec F S32x1 .f32) (v266 : Vec F S1x32x128 .bf16) (v271 : Vec F S1x8x128 .f32) (X_arg9 : BufTy.Contents (Elt F) arg9.view.ty) (k : Fin k0_t5_loop.trips)

/-- A trip of score loop 2 raises the lane maxima by its sixteen parts. -/
theorem trip5_max (acc : FVec F S8x128 .f32) : tripR_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v53 v205 v222 v223 v235 v239 v243 v266 v271 X_arg9 k acc
    = raise arg9.view X_arg9 (fun u b => k0_off9 k (BitVec.ofNat 32 u.val) (BitVec.ofNat 32 (64 * b.val))) (k0_off9_inb k)
        2 slices_S64x4x4x128_o0_2_0_0_S64x1x4x128 v18 v20 v22 (k0_pay426 v53 v266) (k0_pay427 v271) acc := by
  unfold tripR_k0_t5 trip_k0_t5
  rfl

/-- A trip of score loop 2 stores its sixteen parts. -/
theorem trip5_pieces (acc : FVec F S8x128 .f32) : tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v53 v205 v222 v223 v235 v239 v243 v266 v271 X_arg9 k acc
    = pieces arg9.view X_arg9 (fun u b => k0_off9 k (BitVec.ofNat 32 u.val) (BitVec.ofNat 32 (64 * b.val))) (k0_off9_inb k)
        (fun u r => k0_off10 k (BitVec.ofNat 32 u.val) (BitVec.ofNat 32 (128 * r.val))) (k0_off10_inb k)
        2 slices_S64x4x4x128_o0_2_0_0_S64x1x4x128 v18 v20 v22 (k0_pay426 v53 v266) (k0_pay427 v271) := by
  unfold tripL_k0_t5 trip_k0_t5
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v277 : FVec F S8x128 .f32) (v281 : FVec F S8x1 .f32) (v282 : FVec F S8x128 .f32) (X_arg10 : BufTy.Contents (Elt F) arg10.view.ty) (X_arg14 : BufTy.Contents (Elt F) arg14.view.ty) (k : Fin k0_t6_loop.trips)

/-- A trip of value loop 2 is one step of the two accumulators. -/
theorem trip6_step (acc : FVec F S8x128 .f32 × FVec F S64x256 .f32) : tripR_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v277 v281 v282 X_arg10 X_arg14 k acc
    = step arg10.view X_arg10 arg14.view X_arg14 (fun u b => k0_off11 k (BitVec.ofNat 32 u.val) (BitVec.ofNat 32 (64 * b.val))) (k0_off11_inb k)
        (fun u r => k0_off12 k (BitVec.ofNat 32 u.val) (BitVec.ofNat 32 (128 * r.val))) (k0_off12_inb k)
        2 slices_S64x4x4x128_o0_2_0_0_S64x1x4x128 v18 v20 v22 v24 (k0_pay437 v18 v20 v22 v24 v277 v281 v282) acc := by
  unfold tripR_k0_t6 trip_k0_t6
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v53 : FVec F S32x128 .bf16) (v372 : Vec F S1x32x128 .bf16) (v377 : Vec F S1x8x128 .f32) (X_arg9 : BufTy.Contents (Elt F) arg9.view.ty) (k : Fin k0_t7_loop.trips)

/-- A trip of score loop 3 raises the lane maxima by its sixteen parts. -/
theorem trip7_max (acc : FVec F S8x128 .f32) : tripR_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v53 v372 v377 X_arg9 k acc
    = raise arg9.view X_arg9 (fun u b => k0_off13 k (BitVec.ofNat 32 u.val) (BitVec.ofNat 32 (64 * b.val))) (k0_off13_inb k)
        3 slices_S64x4x4x128_o0_3_0_0_S64x1x4x128 v18 v20 v22 (k0_pay450 v53 v372) (k0_pay451 v377) acc := by
  unfold tripR_k0_t7 trip_k0_t7
  rfl

/-- A trip of score loop 3 stores its sixteen parts. -/
theorem trip7_pieces (acc : FVec F S8x128 .f32) : tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v53 v372 v377 X_arg9 k acc
    = pieces arg9.view X_arg9 (fun u b => k0_off13 k (BitVec.ofNat 32 u.val) (BitVec.ofNat 32 (64 * b.val))) (k0_off13_inb k)
        (fun u r => k0_off14 k (BitVec.ofNat 32 u.val) (BitVec.ofNat 32 (128 * r.val))) (k0_off14_inb k)
        3 slices_S64x4x4x128_o0_3_0_0_S64x1x4x128 v18 v20 v22 (k0_pay450 v53 v372) (k0_pay451 v377) := by
  unfold tripL_k0_t7 trip_k0_t7
  rfl

end

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v35 : FVec F S16x128 .fp8e4m3) (v46 : FVec F S16x128 .fp8e4m3) (v373 : FVec F S32x128 .bf16) (v387 : FVec F S8x1 .f32) (v391 : FVec F S8x1 .f32) (v395 : FVec F S8x1 .f32) (v399 : FVec F S8x1 .f32) (v410 : FVec F S8x128 .f32) (v411 : FVec F S8x128 .f32) (cst_167 : F .f32) (X_arg10 : BufTy.Contents (Elt F) arg10.view.ty) (X_arg14 : BufTy.Contents (Elt F) arg14.view.ty) (k : Fin k0_t8_loop.trips)

/-- A trip of value loop 3 is one step of the two accumulators. -/
theorem trip8_step (acc : FVec F S8x128 .f32 × FVec F S64x256 .f32) : tripR_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v373 v387 v391 v395 v399 v410 v411 cst_167 X_arg10 X_arg14 k acc
    = step arg10.view X_arg10 arg14.view X_arg14 (fun u b => k0_off15 k (BitVec.ofNat 32 u.val) (BitVec.ofNat 32 (64 * b.val))) (k0_off15_inb k)
        (fun u r => k0_off16 k (BitVec.ofNat 32 u.val) (BitVec.ofNat 32 (128 * r.val))) (k0_off16_inb k)
        3 slices_S64x4x4x128_o0_3_0_0_S64x1x4x128 v18 v20 v22 v24 v410 acc := by
  unfold tripR_k0_t8 trip_k0_t8
  rfl

end

end Cert.KernelIdeal.Trips

end
-- ==== Proof.KernelIdeal.Runs.lean ====
/- The eight loops of the body over the extended reals: each is the score loop or the value loop of its head set. -/
module

public import proofs.«01_k».proof.Proof.KernelIdeal.Trips
public import proofs.«01_k».proof.Proof.KernelIdeal.HeadSet

@[expose] public section

set_option maxRecDepth 16384

noncomputable section

namespace Cert.KernelIdeal.Runs

open Cert.KernelIdeal Cert.KernelIdeal.Gen Cert.KernelIdeal.Tile Cert.KernelIdeal.HeadSet Cert.KernelIdeal.Trips
open Idealize.ShloMosaic Idealize.ShloMosaic.TcCoe

/-- The lane maxima start below every score. -/
theorem start_max : (k0_pay380 : FVec Ideal S8x128 .f32) = fun _ => (⊥ : EReal) := funext fun _ => Finish.no_score

/-- The lane sums start at zero. -/
theorem start_sum : (k0_pay390 : FVec Ideal S8x128 .f32) = fun _ => (0 : EReal) := by
  funext i; pointwise [k0_pay390]

/-- The weighted sums start at zero. -/
theorem start_acc : (k0_pay391 : FVec Ideal S64x256 .f32) = fun _ => (0 : EReal) := by
  funext i; pointwise [k0_pay391]

/-- The offsets of loop 1's cache loads: tile by tile, half by half. -/
theorem cacheOff1 : ∀ (k : Fin 8) (u : Fin 4) (b : Fin 2), k0_off1 k (BitVec.ofNat 32 u.val) (BitVec.ofNat 32 (64 * b.val))
    = ![0, 2048 * (4 * k.val + u.val) + 1024 * b.val, 0] := by decide +kernel

/-- The offsets of loop 1's accesses of the score buffer: tile by tile, part by part. -/
theorem bufferOff1 : ∀ (k : Fin 8) (u : Fin 4) (r : Fin 4), k0_off2 k (BitVec.ofNat 32 u.val) (BitVec.ofNat 32 (128 * r.val))
    = ![0, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v35 : FVec Ideal S16x128 .fp8e4m3) (v38 : FVec Ideal S16x128 .f32) (v54 : Vec Ideal S1x32x128 .bf16) (v59 : Vec Ideal S1x8x128 .f32) (X_arg9 : BufTy.Contents (Elt Ideal) arg9.view.ty)

/-- Loop 1 is the score loop of head set 0. -/
theorem run1 : ScoreRun arg9.view X_arg9 0 slices_S64x4x4x128_o0_0_0_0_S64x1x4x128 v18 v20 v22 (k0_pay377 v54) (k0_pay379 v59)
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k0_pay380) :=
  ⟨fun k u b => k0_off1 k (BitVec.ofNat 32 u.val) (BitVec.ofNat 32 (64 * b.val)), fun k => k0_off1_inb k,
    fun k u r => k0_off2 k (BitVec.ofNat 32 u.val) (BitVec.ofNat 32 (128 * r.val)), fun k => k0_off2_inb k, cacheOff1, bufferOff1,
    start_max, rfl, fun k => (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k0_pay380 k).trans
      (congrArg₂ (fun a l => (a, l ++ _)) (trip1_max (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k _) (trip1_pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v35 v38 v54 v59 X_arg9 k _))⟩

end

/-- The offsets of loop 2's cache loads: tile by tile, half by half. -/
theorem cacheOff2 : ∀ (k : Fin 8) (u : Fin 4) (b : Fin 2), k0_off3 k (BitVec.ofNat 32 u.val) (BitVec.ofNat 32 (64 * b.val))
    = ![0, 2048 * (4 * k.val + u.val) + 1024 * b.val, 0] := by decide +kernel

/-- The offsets of loop 2's accesses of the score buffer: tile by tile, part by part. -/
theorem bufferOff2 : ∀ (k : Fin 8) (u : Fin 4) (r : Fin 4), k0_off4 k (BitVec.ofNat 32 u.val) (BitVec.ofNat 32 (128 * r.val))
    = ![0, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v65 : FVec Ideal S8x128 .f32) (v69 : FVec Ideal S8x1 .f32) (v70 : FVec Ideal S8x128 .f32) (X_arg10 : BufTy.Contents (Elt Ideal) arg10.view.ty) (X_arg14 : BufTy.Contents (Elt Ideal) arg14.view.ty)

/-- Loop 2 is the value loop of head set 0. -/
theorem run2 : ValueRun arg10.view X_arg10 arg14.view X_arg14 0 slices_S64x4x4x128_o0_0_0_0_S64x1x4x128 v18 v20 v22 v24 (k0_pay389 v18 v20 v22 v24 v65 v69 v70)
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v65 v69 v70 X_arg10 X_arg14 (k0_pay390, k0_pay391)) :=
  ⟨fun k u b => k0_off3 k (BitVec.ofNat 32 u.val) (BitVec.ofNat 32 (64 * b.val)), fun k => k0_off3_inb k,
    fun k u r => k0_off4 k (BitVec.ofNat 32 u.val) (BitVec.ofNat 32 (128 * r.val)), fun k => k0_off4_inb k, cacheOff2, bufferOff2,
    congrArg₂ Prod.mk start_sum start_acc, fun k => (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v65 v69 v70 X_arg10 X_arg14 (k0_pay390, k0_pay391) k).trans
      (trip2_step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v65 v69 v70 X_arg10 X_arg14 k _)⟩

end

/-- The offsets of loop 3's cache loads: tile by tile, half by half. -/
theorem cacheOff3 : ∀ (k : Fin 8) (u : Fin 4) (b : Fin 2), k0_off5 k (BitVec.ofNat 32 u.val) (BitVec.ofNat 32 (64 * b.val))
    = ![0, 2048 * (4 * k.val + u.val) + 1024 * b.val, 0] := by decide +kernel

/-- The offsets of loop 3's accesses of the score buffer: tile by tile, part by part. -/
theorem bufferOff3 : ∀ (k : Fin 8) (u : Fin 4) (r : Fin 4), k0_off6 k (BitVec.ofNat 32 u.val) (BitVec.ofNat 32 (128 * r.val))
    = ![1, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v160 : Vec Ideal S1x32x128 .bf16) (v165 : Vec Ideal S1x8x128 .f32) (X_arg9 : BufTy.Contents (Elt Ideal) arg9.view.ty)

/-- Loop 3 is the score loop of head set 1. -/
theorem run3 : ScoreRun arg9.view X_arg9 1 slices_S64x4x4x128_o0_1_0_0_S64x1x4x128 v18 v20 v22 (k0_pay377 v160) (k0_pay379 v165)
    (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v160 v165 X_arg9 k0_pay380) :=
  ⟨fun k u b => k0_off5 k (BitVec.ofNat 32 u.val) (BitVec.ofNat 32 (64 * b.val)), fun k => k0_off5_inb k,
    fun k u r => k0_off6 k (BitVec.ofNat 32 u.val) (BitVec.ofNat 32 (128 * r.val)), fun k => k0_off6_inb k, cacheOff3, bufferOff3,
    start_max, rfl, fun k => (st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v160 v165 X_arg9 k0_pay380 k).trans
      (congrArg₂ (fun a l => (a, l ++ _)) (trip3_max (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v160 v165 X_arg9 k _) (trip3_pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v160 v165 X_arg9 k _))⟩

end

/-- The offsets of loop 4's cache loads: tile by tile, half by half. -/
theorem cacheOff4 : ∀ (k : Fin 8) (u : Fin 4) (b : Fin 2), k0_off7 k (BitVec.ofNat 32 u.val) (BitVec.ofNat 32 (64 * b.val))
    = ![0, 2048 * (4 * k.val + u.val) + 1024 * b.val, 0] := by decide +kernel

/-- The offsets of loop 4's accesses of the score buffer: tile by tile, part by part. -/
theorem bufferOff4 : ∀ (k : Fin 8) (u : Fin 4) (r : Fin 4), k0_off8 k (BitVec.ofNat 32 u.val) (BitVec.ofNat 32 (128 * r.val))
    = ![1, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v35 : FVec Ideal S16x128 .fp8e4m3) (v46 : FVec Ideal S16x128 .fp8e4m3) (v161 : FVec Ideal S32x128 .bf16) (v175 : FVec Ideal S8x1 .f32) (v179 : FVec Ideal S8x1 .f32) (v183 : FVec Ideal S8x1 .f32) (v187 : FVec Ideal S8x1 .f32) (v198 : FVec Ideal S8x128 .f32) (v199 : FVec Ideal S8x128 .f32) (cst_85 : Ideal .f32) (X_arg10 : BufTy.Contents (Elt Ideal) arg10.view.ty) (X_arg14 : BufTy.Contents (Elt Ideal) arg14.view.ty)

/-- Loop 4 is the value loop of head set 1. -/
theorem run4 : ValueRun arg10.view X_arg10 arg14.view X_arg14 1 slices_S64x4x4x128_o0_1_0_0_S64x1x4x128 v18 v20 v22 v24 v198
    (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v161 v175 v179 v183 v187 v198 v199 cst_85 X_arg10 X_arg14 (k0_pay390, k0_pay391)) :=
  ⟨fun k u b => k0_off7 k (BitVec.ofNat 32 u.val) (BitVec.ofNat 32 (64 * b.val)), fun k => k0_off7_inb k,
    fun k u r => k0_off8 k (BitVec.ofNat 32 u.val) (BitVec.ofNat 32 (128 * r.val)), fun k => k0_off8_inb k, cacheOff4, bufferOff4,
    congrArg₂ Prod.mk start_sum start_acc, fun k => (st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v161 v175 v179 v183 v187 v198 v199 cst_85 X_arg10 X_arg14 (k0_pay390, k0_pay391) k).trans
      (trip4_step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v161 v175 v179 v183 v187 v198 v199 cst_85 X_arg10 X_arg14 k _)⟩

end

/-- The offsets of loop 5's cache loads: tile by tile, half by half. -/
theorem cacheOff5 : ∀ (k : Fin 8) (u : Fin 4) (b : Fin 2), k0_off9 k (BitVec.ofNat 32 u.val) (BitVec.ofNat 32 (64 * b.val))
    = ![0, 2048 * (4 * k.val + u.val) + 1024 * b.val, 0] := by decide +kernel

/-- The offsets of loop 5's accesses of the score buffer: tile by tile, part by part. -/
theorem bufferOff5 : ∀ (k : Fin 8) (u : Fin 4) (r : Fin 4), k0_off10 k (BitVec.ofNat 32 u.val) (BitVec.ofNat 32 (128 * r.val))
    = ![2, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v205 : FVec Ideal S32x128 .f32) (v222 : FVec Ideal S32x1 .f32) (v223 : FVec Ideal S32x1 .f32) (v235 : FVec Ideal S32x128 .f32) (v239 : FVec Ideal S32x1 .f32) (v243 : FVec Ideal S32x1 .f32) (v266 : Vec Ideal S1x32x128 .bf16) (v271 : Vec Ideal S1x8x128 .f32) (X_arg9 : BufTy.Contents (Elt Ideal) arg9.view.ty)

/-- Loop 5 is the score loop of head set 2. -/
theorem run5 : ScoreRun arg9.view X_arg9 2 slices_S64x4x4x128_o0_2_0_0_S64x1x4x128 v18 v20 v22 (k0_pay377 v266) (k0_pay379 v271)
    (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 k0_pay376 v205 v222 v223 v235 v239 v243 v266 v271 X_arg9 k0_pay380) :=
  ⟨fun k u b => k0_off9 k (BitVec.ofNat 32 u.val) (BitVec.ofNat 32 (64 * b.val)), fun k => k0_off9_inb k,
    fun k u r => k0_off10 k (BitVec.ofNat 32 u.val) (BitVec.ofNat 32 (128 * r.val)), fun k => k0_off10_inb k, cacheOff5, bufferOff5,
    start_max, rfl, fun k => (st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 k0_pay376 v205 v222 v223 v235 v239 v243 v266 v271 X_arg9 k0_pay380 k).trans
      (congrArg₂ (fun a l => (a, l ++ _)) (trip5_max (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 k0_pay376 v205 v222 v223 v235 v239 v243 v266 v271 X_arg9 k _) (trip5_pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 k0_pay376 v205 v222 v223 v235 v239 v243 v266 v271 X_arg9 k _))⟩

end

/-- The offsets of loop 6's cache loads: tile by tile, half by half. -/
theorem cacheOff6 : ∀ (k : Fin 8) (u : Fin 4) (b : Fin 2), k0_off11 k (BitVec.ofNat 32 u.val) (BitVec.ofNat 32 (64 * b.val))
    = ![0, 2048 * (4 * k.val + u.val) + 1024 * b.val, 0] := by decide +kernel

/-- The offsets of loop 6's accesses of the score buffer: tile by tile, part by part. -/
theorem bufferOff6 : ∀ (k : Fin 8) (u : Fin 4) (r : Fin 4), k0_off12 k (BitVec.ofNat 32 u.val) (BitVec.ofNat 32 (128 * r.val))
    = ![2, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v277 : FVec Ideal S8x128 .f32) (v281 : FVec Ideal S8x1 .f32) (v282 : FVec Ideal S8x128 .f32) (X_arg10 : BufTy.Contents (Elt Ideal) arg10.view.ty) (X_arg14 : BufTy.Contents (Elt Ideal) arg14.view.ty)

/-- Loop 6 is the value loop of head set 2. -/
theorem run6 : ValueRun arg10.view X_arg10 arg14.view X_arg14 2 slices_S64x4x4x128_o0_2_0_0_S64x1x4x128 v18 v20 v22 v24 (k0_pay437 v18 v20 v22 v24 v277 v281 v282)
    (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v277 v281 v282 X_arg10 X_arg14 (k0_pay390, k0_pay391)) :=
  ⟨fun k u b => k0_off11 k (BitVec.ofNat 32 u.val) (BitVec.ofNat 32 (64 * b.val)), fun k => k0_off11_inb k,
    fun k u r => k0_off12 k (BitVec.ofNat 32 u.val) (BitVec.ofNat 32 (128 * r.val)), fun k => k0_off12_inb k, cacheOff6, bufferOff6,
    congrArg₂ Prod.mk start_sum start_acc, fun k => (st_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v277 v281 v282 X_arg10 X_arg14 (k0_pay390, k0_pay391) k).trans
      (trip6_step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v277 v281 v282 X_arg10 X_arg14 k _)⟩

end

/-- The offsets of loop 7's cache loads: tile by tile, half by half. -/
theorem cacheOff7 : ∀ (k : Fin 8) (u : Fin 4) (b : Fin 2), k0_off13 k (BitVec.ofNat 32 u.val) (BitVec.ofNat 32 (64 * b.val))
    = ![0, 2048 * (4 * k.val + u.val) + 1024 * b.val, 0] := by decide +kernel

/-- The offsets of loop 7's accesses of the score buffer: tile by tile, part by part. -/
theorem bufferOff7 : ∀ (k : Fin 8) (u : Fin 4) (r : Fin 4), k0_off14 k (BitVec.ofNat 32 u.val) (BitVec.ofNat 32 (128 * r.val))
    = ![3, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v372 : Vec Ideal S1x32x128 .bf16) (v377 : Vec Ideal S1x8x128 .f32) (X_arg9 : BufTy.Contents (Elt Ideal) arg9.view.ty)

/-- Loop 7 is the score loop of head set 3. -/
theorem run7 : ScoreRun arg9.view X_arg9 3 slices_S64x4x4x128_o0_3_0_0_S64x1x4x128 v18 v20 v22 (k0_pay377 v372) (k0_pay379 v377)
    (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v372 v377 X_arg9 k0_pay380) :=
  ⟨fun k u b => k0_off13 k (BitVec.ofNat 32 u.val) (BitVec.ofNat 32 (64 * b.val)), fun k => k0_off13_inb k,
    fun k u r => k0_off14 k (BitVec.ofNat 32 u.val) (BitVec.ofNat 32 (128 * r.val)), fun k => k0_off14_inb k, cacheOff7, bufferOff7,
    start_max, rfl, fun k => (st_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v372 v377 X_arg9 k0_pay380 k).trans
      (congrArg₂ (fun a l => (a, l ++ _)) (trip7_max (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v372 v377 X_arg9 k _) (trip7_pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 k0_pay376 v372 v377 X_arg9 k _))⟩

end

/-- The offsets of loop 8's cache loads: tile by tile, half by half. -/
theorem cacheOff8 : ∀ (k : Fin 8) (u : Fin 4) (b : Fin 2), k0_off15 k (BitVec.ofNat 32 u.val) (BitVec.ofNat 32 (64 * b.val))
    = ![0, 2048 * (4 * k.val + u.val) + 1024 * b.val, 0] := by decide +kernel

/-- The offsets of loop 8's accesses of the score buffer: tile by tile, part by part. -/
theorem bufferOff8 : ∀ (k : Fin 8) (u : Fin 4) (r : Fin 4), k0_off16 k (BitVec.ofNat 32 u.val) (BitVec.ofNat 32 (128 * r.val))
    = ![3, 0, 512 * (4 * k.val + u.val) + 128 * r.val] := by decide +kernel

section
variable (𝒱 : Variants) (c : Dev nD) (bd : Option 𝒱.V) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole) (v18 : IVec S8x128 1) (v20 : IVec S8x128 1) (v22 : IVec S8x128 1) (v24 : IVec S8x128 1) (v35 : FVec Ideal S16x128 .fp8e4m3) (v46 : FVec Ideal S16x128 .fp8e4m3) (v373 : FVec Ideal S32x128 .bf16) (v387 : FVec Ideal S8x1 .f32) (v391 : FVec Ideal S8x1 .f32) (v395 : FVec Ideal S8x1 .f32) (v399 : FVec Ideal S8x1 .f32) (v410 : FVec Ideal S8x128 .f32) (v411 : FVec Ideal S8x128 .f32) (cst_167 : Ideal .f32) (X_arg10 : BufTy.Contents (Elt Ideal) arg10.view.ty) (X_arg14 : BufTy.Contents (Elt Ideal) arg14.view.ty)

/-- Loop 8 is the value loop of head set 3. -/
theorem run8 : ValueRun arg10.view X_arg10 arg14.view X_arg14 3 slices_S64x4x4x128_o0_3_0_0_S64x1x4x128 v18 v20 v22 v24 v410
    (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v373 v387 v391 v395 v399 v410 v411 cst_167 X_arg10 X_arg14 (k0_pay390, k0_pay391)) :=
  ⟨fun k u b => k0_off15 k (BitVec.ofNat 32 u.val) (BitVec.ofNat 32 (64 * b.val)), fun k => k0_off15_inb k,
    fun k u r => k0_off16 k (BitVec.ofNat 32 u.val) (BitVec.ofNat 32 (128 * r.val)), fun k => k0_off16_inb k, cacheOff8, bufferOff8,
    congrArg₂ Prod.mk start_sum start_acc, fun k => (st_k0_t8_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v373 v387 v391 v395 v399 v410 v411 cst_167 X_arg10 X_arg14 (k0_pay390, k0_pay391) k).trans
      (trip8_step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v18 v20 v22 v24 v35 v46 v373 v387 v391 v395 v399 v410 v411 cst_167 X_arg10 X_arg14 k _)⟩

end

end Cert.KernelIdeal.Runs

end
-- ==== Proof.KernelIdeal.BodyResult.lean ====
/- The triple of the whole body of the idealized kernel over the extended reals, with what it leaves in its outputs. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.BodyValue
public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Cert.KernelIdeal.BodyValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 16000000 in
/-- The body runs on any whole buffers: it leaves its inputs as they were, its outputs at the attention rows and the new codes of those
    inputs, and its scratch buffer at some contents. -/
theorem bodyResult (c : Dev nD) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x65536x128 .fp8e4m3) (harg9 : arg9.IsWhole) (arg10 : Memref sig .tc .vmem S1x65536x128 .fp8e4m3) (harg10 : arg10.IsWhole) (arg11 : Memref sig .tc .vmem S1x128x128 .bf16) (harg11 : arg11.IsWhole) (arg12 : Memref sig .tc .vmem S1x16x128 .fp8e4m3) (harg12 : arg12.IsWhole) (arg13 : Memref sig .tc .vmem S1x16x128 .fp8e4m3) (harg13 : arg13.IsWhole) (arg14 : Memref sig .tc .vmem S4x8x16384 .f32) (harg14 : arg14.IsWhole)
    (x0 : Vec Ideal S1x128x128 .bf16) (x1 : Vec Ideal S1x16x128 .bf16) (x2 : Vec Ideal S1x16x128 .bf16) (x3 : Vec Ideal S16x128 .f32) (x4 : Vec Ideal S16x128 .f32) (x5 : Vec Ideal S4x8x128 .f32) (x6 : Vec Ideal S128x128 .f32) (x7 : Vec Ideal S128x128 .f32) (x8 : Vec Ideal S1x65536x128 .fp8e4m3) (x9 : Vec Ideal S1x65536x128 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (attnRows x0 x1 x2 x3 x4 x5 x6 x7 x8 x9) ∗ owns (c : Thread nD τ) arg12 fullShare (keyRows x1 x3) ∗ owns (c : Thread nD τ) arg13 fullShare (valueRows x2 x4) ∗ (∃ d, owns (c : Thread nD τ) arg14 fullShare d)) -∗ K ⟨⟩))
          ⊢ wp frame (wpE (defs₀ (F := Ideal)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_gqa_decode_fp8_eq_skeleton]; unfold cc0_gqa_decode_fp8_skel
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      refine Eq.trans ?_ (attnRows_loads arg2 harg2 arg3 harg3 arg4 harg4 arg5 harg5 x0 x1 x2 x3 x4 x5 x6 x7 x8 x9
        inb_S1x16x128_S1x16x128_0_0_0 inb_S1x16x128_S1x16x128_0_0_0 inb_S16x128_S16x128_0_0 inb_S16x128_S16x128_0_0)
      refine read_four _ _ _ _ _ _ _ _ _ _ (rowOut x0 x5 x6 x7 x8 x9 _ _) ?_ ?_ ?_ ?_
      · intro r d
        exact stored3 (Runs.run7 ..) (Runs.run8 ..) (by decide) (by decide) (View.writes_append _ _ _ _) (Finish.laneMax3 _ _ _ _ _)
          (harg9.read_unread x8) (harg10.read_unread x9)
          (fun r e => load_apply arg1 harg1 x0 _ _ _ _ _ fun a => by
            fin_cases a; exacts [(Nat.zero_add _).symm, rfl, (Nat.zero_add _).symm])
          (fun g l => load_apply arg6 harg6 x5 _ _ _ _ _ fun a => by
            fin_cases a; exacts [rfl, (Nat.zero_add _).symm, (Nat.zero_add _).symm])
          (fun r => load_apply arg7 harg7 x6 _ _ _ _ _ fun a => by
            fin_cases a; exacts [rfl, (Nat.zero_add _).symm])
          (fun r d => load_apply arg8 harg8 x7 _ _ _ _ _ fun a => by
            fin_cases a; exacts [rfl, (Nat.zero_add _).symm]) r d
      · intro r d
        exact stored2 (Runs.run5 ..) (Runs.run6 ..) (by decide) (by decide) (View.writes_append _ _ _ _) (Finish.laneMax2 _ _ _ _ _)
          (harg9.read_unread x8) (harg10.read_unread x9)
          (fun r e => load_apply arg1 harg1 x0 _ _ _ _ _ fun a => by
            fin_cases a; exacts [(Nat.zero_add _).symm, rfl, (Nat.zero_add _).symm])
          (fun g l => load_apply arg6 harg6 x5 _ _ _ _ _ fun a => by
            fin_cases a; exacts [rfl, (Nat.zero_add _).symm, (Nat.zero_add _).symm])
          (fun r => load_apply arg7 harg7 x6 _ _ _ _ _ fun a => by
            fin_cases a; exacts [rfl, (Nat.zero_add _).symm])
          (fun r d => load_apply arg8 harg8 x7 _ _ _ _ _ fun a => by
            fin_cases a; exacts [rfl, (Nat.zero_add _).symm]) r d
      · intro r d
        exact stored1 (Runs.run3 ..) (Runs.run4 ..) (by decide) (by decide) (View.writes_append _ _ _ _) (Finish.laneMax1 _ _ _ _ _)
          (harg9.read_unread x8) (harg10.read_unread x9)
          (fun r e => load_apply arg1 harg1 x0 _ _ _ _ _ fun a => by
            fin_cases a; exacts [(Nat.zero_add _).symm, rfl, (Nat.zero_add _).symm])
          (fun g l => load_apply arg6 harg6 x5 _ _ _ _ _ fun a => by
            fin_cases a; exacts [rfl, (Nat.zero_add _).symm, (Nat.zero_add _).symm])
          (fun r => load_apply arg7 harg7 x6 _ _ _ _ _ fun a => by
            fin_cases a; exacts [rfl, (Nat.zero_add _).symm])
          (fun r d => load_apply arg8 harg8 x7 _ _ _ _ _ fun a => by
            fin_cases a; exacts [rfl, (Nat.zero_add _).symm]) r d
      · intro r d
        exact stored0 (Runs.run1 ..) (Runs.run2 ..) (by decide) (by decide) rfl rfl
          (harg9.read_unread x8) (harg10.read_unread x9)
          (fun r e => load_apply arg1 harg1 x0 _ _ _ _ _ fun a => by
            fin_cases a; exacts [(Nat.zero_add _).symm, rfl, (Nat.zero_add _).symm])
          (fun g l => load_apply arg6 harg6 x5 _ _ _ _ _ fun a => by
            fin_cases a; exacts [rfl, (Nat.zero_add _).symm, (Nat.zero_add _).symm])
          (fun r => load_apply arg7 harg7 x6 _ _ _ _ _ fun a => by
            fin_cases a; exacts [rfl, (Nat.zero_add _).symm])
          (fun r d => load_apply arg8 harg8 x7 _ _ _ _ _ fun a => by
            fin_cases a; exacts [rfl, (Nat.zero_add _).symm]) r d
    isplitl [H11]
    · iexists _; isplitr; swap; · iexact H11
      ipureintro
      exact (View.read_writes_full _ _ _ _ _).trans (keyRows_loads arg2 harg2 arg4 harg4 x1 x3 _ _)
    isplitl [H12]
    · iexists _; isplitr; swap; · iexact H12
      ipureintro
      exact (View.read_writes_full _ _ _ _ _).trans (valueRows_loads arg3 harg3 arg5 harg5 x2 x4 _ _)
    iexists _, _; isplitr; swap; · iexact HS0
    ipureintro; rfl

end Cert.KernelIdeal.Run

end
-- ==== Proof.KernelIdeal.Launch.lean ====
/- The launch of the idealized kernel over the extended reals, with what it leaves in every array. -/
module

public import proofs.«01_k».proof.Proof.KernelIdeal.BodyResult
public import proofs.«01_k».proof.Proof.KernelIdeal.Frame
public import Idealize.ShloMosaic.Lib.Claim

@[expose] public section

-- membership in a rectangle of production extents (`View.cover_of_tiled`): the elaborator's structural look
-- recurses once per coordinate of the long axes
set_option maxRecDepth 16384

noncomputable section

namespace Cert.KernelIdeal.Launch

open Cert.KernelIdeal Cert.KernelIdeal.Gen Cert.KernelIdeal.BodyValue Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- What holds at each point of the launch on core `c`: the arrays start as the launch finds them; after the body every input's buffer
    holds its block, and the outputs' buffers hold the attention rows and the new codes of that point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => attnRows (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => keyRows (iblk m c 1 t) (iblk m c 3 t)
    | ⟨12, _⟩ => valueRows (iblk m c 2 t) (iblk m c 4 t)
  Φ _ := Pipeline.ΦA spec0 c
  q _ := fullShare
  owed _ := 0

/-- The arrays start as the launch finds them. -/
theorem A_eq (c : Dev nD) (w : Fin cfg0.W) : (dats m 0 c).A w = V m c (Pipeline.arrRef spec0 w) := by
  dsimp only [dats]

/-- What the body leaves in operand 0's buffer. -/
theorem after0_0 (c : Dev nD) (t : Fin cfg0.N) : (dats m 0 c).after 0 t = iblk m c 0 t := by dsimp only [dats]
/-- What the body leaves in operand 1's buffer. -/
theorem after0_1 (c : Dev nD) (t : Fin cfg0.N) : (dats m 0 c).after 1 t = iblk m c 1 t := by dsimp only [dats]
/-- What the body leaves in operand 2's buffer. -/
theorem after0_2 (c : Dev nD) (t : Fin cfg0.N) : (dats m 0 c).after 2 t = iblk m c 2 t := by dsimp only [dats]
/-- What the body leaves in operand 3's buffer. -/
theorem after0_3 (c : Dev nD) (t : Fin cfg0.N) : (dats m 0 c).after 3 t = iblk m c 3 t := by dsimp only [dats]
/-- What the body leaves in operand 4's buffer. -/
theorem after0_4 (c : Dev nD) (t : Fin cfg0.N) : (dats m 0 c).after 4 t = iblk m c 4 t := by dsimp only [dats]
/-- What the body leaves in operand 5's buffer. -/
theorem after0_5 (c : Dev nD) (t : Fin cfg0.N) : (dats m 0 c).after 5 t = iblk m c 5 t := by dsimp only [dats]
/-- What the body leaves in operand 6's buffer. -/
theorem after0_6 (c : Dev nD) (t : Fin cfg0.N) : (dats m 0 c).after 6 t = iblk m c 6 t := by dsimp only [dats]
/-- What the body leaves in operand 7's buffer. -/
theorem after0_7 (c : Dev nD) (t : Fin cfg0.N) : (dats m 0 c).after 7 t = iblk m c 7 t := by dsimp only [dats]
/-- What the body leaves in operand 8's buffer. -/
theorem after0_8 (c : Dev nD) (t : Fin cfg0.N) : (dats m 0 c).after 8 t = iblk m c 8 t := by dsimp only [dats]
/-- What the body leaves in operand 9's buffer. -/
theorem after0_9 (c : Dev nD) (t : Fin cfg0.N) : (dats m 0 c).after 9 t = iblk m c 9 t := by dsimp only [dats]
/-- What the body leaves in operand 10's buffer. -/
theorem after0_10 (c : Dev nD) (t : Fin cfg0.N) : (dats m 0 c).after 10 t = attnRows (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- What the body leaves in operand 11's buffer. -/
theorem after0_11 (c : Dev nD) (t : Fin cfg0.N) : (dats m 0 c).after 11 t = keyRows (iblk m c 1 t) (iblk m c 3 t) := by dsimp only [dats]
/-- What the body leaves in operand 12's buffer. -/
theorem after0_12 (c : Dev nD) (t : Fin cfg0.N) : (dats m 0 c).after 12 t = valueRows (iblk m c 2 t) (iblk m c 4 t) := by dsimp only [dats]

/-- What the body finds in operand 0's buffer. -/
theorem before0_0 (c : Dev nD) (t : Fin cfg0.N) (d) : (dats m 0 c).before 0 t d = iblk m c 0 t :=
  before0_0_of m (dats m 0 c) (A_eq m c 0) (after0_0 m c) t d
/-- What the body finds in operand 1's buffer. -/
theorem before0_1 (c : Dev nD) (t : Fin cfg0.N) (d) : (dats m 0 c).before 1 t d = iblk m c 1 t :=
  before0_1_of m (dats m 0 c) (A_eq m c 1) (after0_1 m c) t d
/-- What the body finds in operand 2's buffer. -/
theorem before0_2 (c : Dev nD) (t : Fin cfg0.N) (d) : (dats m 0 c).before 2 t d = iblk m c 2 t :=
  before0_2_of m (dats m 0 c) (A_eq m c 2) (after0_2 m c) t d
/-- What the body finds in operand 3's buffer. -/
theorem before0_3 (c : Dev nD) (t : Fin cfg0.N) (d) : (dats m 0 c).before 3 t d = iblk m c 3 t :=
  before0_3_of m (dats m 0 c) (A_eq m c 3) (after0_3 m c) t d
/-- What the body finds in operand 4's buffer. -/
theorem before0_4 (c : Dev nD) (t : Fin cfg0.N) (d) : (dats m 0 c).before 4 t d = iblk m c 4 t :=
  before0_4_of m (dats m 0 c) (A_eq m c 4) (after0_4 m c) t d
/-- What the body finds in operand 5's buffer. -/
theorem before0_5 (c : Dev nD) (t : Fin cfg0.N) (d) : (dats m 0 c).before 5 t d = iblk m c 5 t :=
  before0_5_of m (dats m 0 c) (A_eq m c 5) (after0_5 m c) t d
/-- What the body finds in operand 6's buffer. -/
theorem before0_6 (c : Dev nD) (t : Fin cfg0.N) (d) : (dats m 0 c).before 6 t d = iblk m c 6 t :=
  before0_6_of m (dats m 0 c) (A_eq m c 6) (after0_6 m c) t d
/-- What the body finds in operand 7's buffer. -/
theorem before0_7 (c : Dev nD) (t : Fin cfg0.N) (d) : (dats m 0 c).before 7 t d = iblk m c 7 t :=
  before0_7_of m (dats m 0 c) (A_eq m c 7) (after0_7 m c) t d
/-- What the body finds in operand 8's buffer. -/
theorem before0_8 (c : Dev nD) (t : Fin cfg0.N) (d) : (dats m 0 c).before 8 t d = iblk m c 8 t :=
  before0_8_of m (dats m 0 c) (A_eq m c 8) (after0_8 m c) t d
/-- What the body finds in operand 9's buffer. -/
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyResult c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The run with its values and with every semaphore counter at zero at the end. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with its values: every array of the pipeline ends at what the proof data give, every other buffer as the lines
    after the kernel region leave it. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Launch

end
-- ==== Proof.KernelIdeal.Entry.lean ====
/- What the idealized kernel finds in its operands: the host operations before the launch, read at an index. -/
module

public import proofs.«01_k».proof.Proof.KernelIdeal.Launch
public import Idealize.ShloMosaic.Lib.Pipeline.ValueKit
public import Idealize.ShloMosaic.Lib.Claim

@[expose] public section

set_option maxRecDepth 16384

noncomputable section

namespace Cert.KernelIdeal.Entry

open Cert.KernelIdeal Cert.KernelIdeal.Gen Cert.KernelIdeal.BodyValue
open Idealize.ShloMosaic Idealize.ShloMosaic.TcCoe Idealize.ShloMosaic.Tactic

variable (m : (ℓ : Loc nD τ sig) → Buf (Elt Ideal) ℓ) (c : Dev nD)

/-- The inverse of a power-of-two scale, element by element: the smallest entry of a table of powers whose bound
    `low` the magnitude of the scale reaches, and 2 where the scale is no normal finite number. -/
def inverse (low pow : Fin S254.numel → BitVec 32) (a : FVec Ideal S16 .f32) : FVec Ideal S16 .f32 :=
  select
    (andi (cmpf .oge (Host.absf a) (broadcastInDim S16 ![] bcast_S_S16 (constant S_ .f32 0x00800000#32)))
      (cmpf .olt (Host.absf a) (broadcastInDim S16 ![] bcast_S_S16 (constant S_ .f32 0x7F800000#32))))
    (Host.reduce FloatOps.minimumf
      (select
        (cmpf .oge
          (broadcastInDim S16x254 ![0, 1] bcast_S16x1_S16x254_0_1 (broadcastInDim S16x1 ![0] bcast_S16_S16x1_0 (Host.absf a)))
          (broadcastInDim S16x254 ![0, 1] bcast_S1x254_S16x254_0_1 (broadcastInDim S1x254 ![1] bcast_S254_S1x254_1
            (fun i => FloatOps.ofBits .f32 (low (S254.rowMajor i)) : FVec Ideal S254 .f32))))
        (broadcastInDim S16x254 ![1] bcast_S254_S16x254_1 (fun i => FloatOps.ofBits .f32 (pow (S254.rowMajor i)) : FVec Ideal S254 .f32))
        (broadcastInDim S16x254 ![] bcast_S_S16x254 (constant S_ .f32 0x7F800000#32)))
      (constant S_ .f32 0x7F800000#32) reducesTo_S16x254_S16_d1 h_S_)
    (broadcastInDim S16 ![] bcast_S_S16 (constant S_ .f32 0x40000000#32))

/-! ## The host's rearrangements, read at an index -/

/-- The queries, one row of 128 per query head. -/
theorem q_read (x : Vec Ideal S32x1x16384 .bf16) (b : Fin 32) (r e : Fin 128) :
    shapeCast S32x128x128 x shapeCasts_S32x1x16384_S32x128x128 (ix3 b r e) = x (ix3 b 0 ⟨r.val * 128 + e.val, by omega⟩) := by
  pointwise

/-- A cache, one row of 128 per token and head. -/
theorem cache_read (x : Vec Ideal S32x4096x16x128 .fp8e4m3) (b : Fin 32) (r : Fin 65536) (e : Fin 128) :
    shapeCast S32x65536x128 x shapeCasts_S32x4096x16x128_S32x65536x128 (ix3 b r e)
      = x (ix4 b ⟨r.val / 16, by omega⟩ ⟨r.val % 16, by omega⟩ e) := by
  pointwise

/-- The new keys or values, one row of 128 per head. -/
theorem new_read (x : Vec Ideal S32x1x16x128 .bf16) (b : Fin 32) (h : Fin 16) (e : Fin 128) :
    shapeCast S32x16x128 x shapeCasts_S32x1x16x128_S32x16x128 (ix3 b h e) = x (ix4 b 0 h e) := by
  pointwise

/-- A value per head, spread over the columns of a set's scores. -/
theorem col_read (x : FVec Ideal S16 .f32) (s : Fin 4) (u : Fin 8) (e : Fin 128) :
    broadcastInDim S4x8x128 ![0, 1, 2] bcast_S4x1x128_S4x8x128_0_1_2
      (shapeCast S4x1x128
        (broadcastInDim S1x4x1x1x32x4 ![0, 1, 2, 3, 4, 5] bcast_S1x4x1x1x1x4_S1x4x1x1x32x4_0_1_2_3_4_5
          (shapeCast S1x4x1x1x1x4
            (shapeCast S4x1x4 (extf .f32 (truncf .bf16 x bitsLt_bf16_f32) bitsLt_bf16_f32 : FVec Ideal S16 .f32) shapeCasts_S16_S4x1x4)
            shapeCasts_S4x1x4_S1x4x1x1x1x4)) shapeCasts_S1x4x1x1x32x4_S4x1x128) (ix3 s u e)
      = x (ix1 ⟨s.val * 4 + e.val % 4, by omega⟩) := by
  pointwise

/-- A value per head, spread over the rows of the query heads. -/
theorem row_read (x : FVec Ideal S16 .f32) (r d : Fin 128) :
    broadcastInDim S128x128 ![0, 1] bcast_S128x1_S128x128_0_1 (broadcastInDim S128x1 ![0] bcast_S128_S128x1_0
      (shapeCast S128 (broadcastInDim S16x8 ![0] bcast_S16_S16x8_0
        (extf .f32 (truncf .bf16 x bitsLt_bf16_f32) bitsLt_bf16_f32 : FVec Ideal S16 .f32)) shapeCasts_S16x8_S128)) (ix2 r d)
      = x (ix1 ⟨r.val / 8, by omega⟩) := by
  pointwise

/-- A value per head, spread over the lanes. -/
theorem lane_read (x : FVec Ideal S16 .f32) (h : Fin 16) (d : Fin 128) :
    broadcastInDim S16x128 ![0, 1] bcast_S16x1_S16x128_0_1 (broadcastInDim S16x1 ![0] bcast_S16_S16x1_0 x) (ix2 h d) = x (ix1 h) := by
  pointwise

/-- Both scales are inverted by the same tables. -/
theorem lit2_eq : lit2 = lit0 := rfl
/-- Both scales are inverted by the same tables. -/
theorem lit3_eq : lit3 = lit1 := rfl

/-! ## The arrays the launch finds -/

/-- The queries. -/
theorem V_main_v17 : V m c main_v17 = (shapeCast S32x128x128 (m (c, main_arg0)) shapeCasts_S32x1x16384_S32x128x128 : Vec Ideal S32x128x128 .bf16) := rfl
/-- The new keys. -/
theorem V_main_v18 : V m c main_v18 = (shapeCast S32x16x128 (m (c, main_arg1)) shapeCasts_S32x1x16x128_S32x16x128 : Vec Ideal S32x16x128 .bf16) := rfl
/-- The new values. -/
theorem V_main_v19 : V m c main_v19 = (shapeCast S32x16x128 (m (c, main_arg2)) shapeCasts_S32x1x16x128_S32x16x128 : Vec Ideal S32x16x128 .bf16) := rfl
/-- The inverse of the keys' scale. -/
theorem V_main_v35 : V m c main_v35 = (broadcastInDim S16x128 ![0, 1] bcast_S16x1_S16x128_0_1 (broadcastInDim S16x1 ![0] bcast_S16_S16x1_0 (inverse lit0 lit1 (m (c, main_arg4)))) : Vec Ideal S16x128 .f32) := rfl
/-- The inverse of the values' scale. -/
theorem V_main_v51 : V m c main_v51 = (broadcastInDim S16x128 ![0, 1] bcast_S16x1_S16x128_0_1 (broadcastInDim S16x1 ![0] bcast_S16_S16x1_0 (inverse lit2 lit3 (m (c, main_arg6)))) : Vec Ideal S16x128 .f32) := rfl
/-- The keys' scale over the columns of the scores. -/
theorem V_main_v8 : V m c main_v8 = (broadcastInDim S4x8x128 ![0, 1, 2] bcast_S4x1x128_S4x8x128_0_1_2
      (shapeCast S4x1x128
        (broadcastInDim S1x4x1x1x32x4 ![0, 1, 2, 3, 4, 5] bcast_S1x4x1x1x1x4_S1x4x1x1x32x4_0_1_2_3_4_5
          (shapeCast S1x4x1x1x1x4
            (shapeCast S4x1x4 (extf .f32 (truncf .bf16 (m (c, main_arg4) : FVec Ideal S16 .f32) bitsLt_bf16_f32) bitsLt_bf16_f32 : FVec Ideal S16 .f32) shapeCasts_S16_S4x1x4)
            shapeCasts_S4x1x4_S1x4x1x1x1x4)) shapeCasts_S1x4x1x1x32x4_S4x1x128) : Vec Ideal S4x8x128 .f32) := rfl
/-- The keys' scale over the rows. -/
theorem V_main_v12 : V m c main_v12 = (broadcastInDim S128x128 ![0, 1] bcast_S128x1_S128x128_0_1 (broadcastInDim S128x1 ![0] bcast_S128_S128x1_0
      (shapeCast S128 (broadcastInDim S16x8 ![0] bcast_S16_S16x8_0
        (extf .f32 (truncf .bf16 (m (c, main_arg4) : FVec Ideal S16 .f32) bitsLt_bf16_f32) bitsLt_bf16_f32 : FVec Ideal S16 .f32)) shapeCasts_S16x8_S128)) : Vec Ideal S128x128 .f32) := rfl
/-- The values' scale over the rows. -/
theorem V_main_v16 : V m c main_v16 = (broadcastInDim S128x128 ![0, 1] bcast_S128x1_S128x128_0_1 (broadcastInDim S128x1 ![0] bcast_S128_S128x1_0
      (shapeCast S128 (broadcastInDim S16x8 ![0] bcast_S16_S16x8_0
        (extf .f32 (truncf .bf16 (m (c, main_arg6) : FVec Ideal S16 .f32) bitsLt_bf16_f32) bitsLt_bf16_f32 : FVec Ideal S16 .f32)) shapeCasts_S16x8_S128)) : Vec Ideal S128x128 .f32) := rfl
/-- The cached keys. -/
theorem V_main_v52 : V m c main_v52 = (shapeCast S32x65536x128 (m (c, main_arg3)) shapeCasts_S32x4096x16x128_S32x65536x128 : Vec Ideal S32x65536x128 .fp8e4m3) := rfl
/-- The cached values. -/
theorem V_main_v53 : V m c main_v53 = (shapeCast S32x65536x128 (m (c, main_arg5)) shapeCasts_S32x4096x16x128_S32x65536x128 : Vec Ideal S32x65536x128 .fp8e4m3) := rfl

/-! ## The blocks of a batch entry -/

/-- Each point of the grid is a batch entry. -/
theorem points (t : Fin cfg0.N) : t.val < 32 := lt_of_lt_of_eq t.isLt (by decide +kernel)

/-- Where the blocks of operand 0 lie. -/
theorem idx_0 : ∀ t : Fin cfg0.N, win0_0.index t = ![t.val, 0, 0] := by decide +kernel
/-- Where the blocks of operand 1 lie. -/
theorem idx_1 : ∀ t : Fin cfg0.N, win0_1.index t = ![t.val, 0, 0] := by decide +kernel
/-- Where the blocks of operand 2 lie. -/
theorem idx_2 : ∀ t : Fin cfg0.N, win0_2.index t = ![t.val, 0, 0] := by decide +kernel
/-- Where the blocks of operand 3 lie. -/
theorem idx_3 : ∀ t : Fin cfg0.N, win0_3.index t = ![0, 0] := by decide +kernel
/-- Where the blocks of operand 4 lie. -/
theorem idx_4 : ∀ t : Fin cfg0.N, win0_4.index t = ![0, 0] := by decide +kernel
/-- Where the blocks of operand 5 lie. -/
theorem idx_5 : ∀ t : Fin cfg0.N, win0_5.index t = ![0, 0, 0] := by decide +kernel
/-- Where the blocks of operand 6 lie. -/
theorem idx_6 : ∀ t : Fin cfg0.N, win0_6.index t = ![0, 0] := by decide +kernel
/-- Where the blocks of operand 7 lie. -/
theorem idx_7 : ∀ t : Fin cfg0.N, win0_7.index t = ![0, 0] := by decide +kernel
/-- Where the blocks of operand 8 lie. -/
theorem idx_8 : ∀ t : Fin cfg0.N, win0_8.index t = ![t.val, 0, 0] := by decide +kernel
/-- Where the blocks of operand 9 lie. -/
theorem idx_9 : ∀ t : Fin cfg0.N, win0_9.index t = ![t.val, 0, 0] := by decide +kernel
/-- The block of operand 0. -/
theorem blk_0 (t : Fin cfg0.N) (r e : Fin 128) : iblk m c 0 t (ix3 0 r e) = m (c, main_arg0) (ix3 ⟨t.val, points t⟩ 0 ⟨r.val * 128 + e.val, by omega⟩) := by
  have h : iblk m c 0 t (ix3 0 r e) = V m c main_v17 (ix3 ⟨t.val, points t⟩ r e) := by
    blk_ext [iblk, idx_0 t]
  exact h.trans ((congrFun (V_main_v17 m c) _).trans (q_read _ _ _ _))
/-- The block of operand 1. -/
theorem blk_1 (t : Fin cfg0.N) (h : Fin 16) (e : Fin 128) : iblk m c 1 t (ix3 0 h e) = m (c, main_arg1) (ix4 ⟨t.val, points t⟩ 0 h e) := by
  have h : iblk m c 1 t (ix3 0 h e) = V m c main_v18 (ix3 ⟨t.val, points t⟩ h e) := by
    blk_ext [iblk, idx_1 t]
  exact h.trans ((congrFun (V_main_v18 m c) _).trans (new_read _ _ _ _))
/-- The block of operand 2. -/
theorem blk_2 (t : Fin cfg0.N) (h : Fin 16) (e : Fin 128) : iblk m c 2 t (ix3 0 h e) = m (c, main_arg2) (ix4 ⟨t.val, points t⟩ 0 h e) := by
  have h : iblk m c 2 t (ix3 0 h e) = V m c main_v19 (ix3 ⟨t.val, points t⟩ h e) := by
    blk_ext [iblk, idx_2 t]
  exact h.trans ((congrFun (V_main_v19 m c) _).trans (new_read _ _ _ _))
/-- The block of operand 3. -/
theorem blk_3 (t : Fin cfg0.N) (h : Fin 16) (e : Fin 128) : iblk m c 3 t (ix2 h e) = inverse lit0 lit1 (m (c, main_arg4)) (ix1 h) := by
  have h : iblk m c 3 t (ix2 h e) = V m c main_v35 (ix2 h e) := by
    blk_ext [iblk, idx_3 t]
  exact h.trans ((congrFun (V_main_v35 m c) _).trans (lane_read _ _ _))
/-- The block of operand 4. -/
theorem blk_4 (t : Fin cfg0.N) (h : Fin 16) (e : Fin 128) : iblk m c 4 t (ix2 h e) = inverse lit2 lit3 (m (c, main_arg6)) (ix1 h) := by
  have h : iblk m c 4 t (ix2 h e) = V m c main_v51 (ix2 h e) := by
    blk_ext [iblk, idx_4 t]
  exact h.trans ((congrFun (V_main_v51 m c) _).trans (lane_read _ _ _))
/-- The block of operand 5. -/
theorem blk_5 (t : Fin cfg0.N) (s : Fin 4) (u : Fin 8) (e : Fin 128) : iblk m c 5 t (ix3 s u e) = m (c, main_arg4) (ix1 ⟨s.val * 4 + e.val % 4, by omega⟩) := by
  have h : iblk m c 5 t (ix3 s u e) = V m c main_v8 (ix3 s u e) := by
    blk_ext [iblk, idx_5 t]
  exact h.trans ((congrFun (V_main_v8 m c) _).trans (col_read _ _ _ _))
/-- The block of operand 6. -/
theorem blk_6 (t : Fin cfg0.N) (r d : Fin 128) : iblk m c 6 t (ix2 r d) = m (c, main_arg4) (ix1 ⟨r.val / 8, by omega⟩) := by
  have h : iblk m c 6 t (ix2 r d) = V m c main_v12 (ix2 r d) := by
    blk_ext [iblk, idx_6 t]
  exact h.trans ((congrFun (V_main_v12 m c) _).trans (row_read _ _ _))
/-- The block of operand 7. -/
theorem blk_7 (t : Fin cfg0.N) (r d : Fin 128) : iblk m c 7 t (ix2 r d) = m (c, main_arg6) (ix1 ⟨r.val / 8, by omega⟩) := by
  have h : iblk m c 7 t (ix2 r d) = V m c main_v16 (ix2 r d) := by
    blk_ext [iblk, idx_7 t]
  exact h.trans ((congrFun (V_main_v16 m c) _).trans (row_read _ _ _))
/-- The block of operand 8. -/
theorem blk_8 (t : Fin cfg0.N) (r : Fin 65536) (e : Fin 128) : iblk m c 8 t (ix3 0 r e) = m (c, main_arg3) (ix4 ⟨t.val, points t⟩ ⟨r.val / 16, by omega⟩ ⟨r.val % 16, by omega⟩ e) := by
  have h : iblk m c 8 t (ix3 0 r e) = V m c main_v52 (ix3 ⟨t.val, points t⟩ r e) := by
    blk_ext [iblk, idx_8 t]
  exact h.trans ((congrFun (V_main_v52 m c) _).trans (cache_read _ _ _ _))
/-- The block of operand 9. -/
theorem blk_9 (t : Fin cfg0.N) (r : Fin 65536) (e : Fin 128) : iblk m c 9 t (ix3 0 r e) = m (c, main_arg5) (ix4 ⟨t.val, points t⟩ ⟨r.val / 16, by omega⟩ ⟨r.val % 16, by omega⟩ e) := by
  have h : iblk m c 9 t (ix3 0 r e) = V m c main_v53 (ix3 ⟨t.val, points t⟩ r e) := by
    blk_ext [iblk, idx_9 t]
  exact h.trans ((congrFun (V_main_v53 m c) _).trans (cache_read _ _ _ _))

end Cert.KernelIdeal.Entry

end
-- ==== Proof.Value.Attention.lean ====
/- The results of one decode step as functions of its arguments, element by element. -/
module

public import proofs.«01_k».proof.Proof.Value.Softmax
public import proofs.«01_k».proof.Proof.KernelIdeal.Entry

@[expose] public section

noncomputable section

namespace Cert.Attention

open Cert.KernelIdeal Cert.Softmax
open Idealize.ShloMosaic

/-- The code of a value: the value times the inverse of its scale, held within the range of the codes. -/
def code (x inv : EReal) : EReal :=
  min (Ideal.ofBits .f32 0x43E00000#32) (max (Ideal.ofBits .f32 0xC3E00000#32) (x * inv))

/-- The codes of the new tokens, from their values and the inverses of the scales. -/
def codes (x : Vec Ideal S32x1x16x128 .bf16) (inv : FVec Ideal S16 .f32) (b : Fin 32) (h : Fin 16) (e : Fin 128) : EReal :=
  code (x (ix4 b 0 h e)) (inv (ix1 h))

/-- What a cache holds of token `t`. -/
def tok (X : Vec Ideal S32x4096x16x128 .fp8e4m3) (b : Fin 32) (h : Fin 16) (e : Fin 128) (t : ℕ) : EReal :=
  if ht : t < 4096 then X (ix4 b ⟨t, ht⟩ h e) else 0

/-- The head whose keys and values query head `r` reads. -/
def headOf (r : Fin 128) : Fin 16 := ⟨r.val / 8, by omega⟩

/-- The softmax scale. -/
def sm : EReal := (((Real.sqrt 128)⁻¹ : ℝ) : EReal)

/-- Attention of query head `r` of batch entry `b` at column `d`, with keys and values dequantised before they are used. -/
def attention (q : Vec Ideal S32x1x16384 .bf16) (kn vn : Vec Ideal S32x1x16x128 .bf16) (kc vc : Vec Ideal S32x4096x16x128 .fp8e4m3)
    (ks vs kinv vinv : FVec Ideal S16 .f32) (b : Fin 32) (r d : Fin 128) : EReal :=
  plain
    (fun t => (∑ e : Fin 128, q (ix3 b 0 ⟨r.val * 128 + e.val, by omega⟩) * (tok kc b (headOf r) e t * ks (ix1 (headOf r)))) * sm)
    (fun t => tok vc b (headOf r) d t * vs (ix1 (headOf r)))
    ((∑ e : Fin 128, q (ix3 b 0 ⟨r.val * 128 + e.val, by omega⟩) * (codes kn kinv b (headOf r) e * ks (ix1 (headOf r)))) * sm)
    (codes vn vinv b (headOf r) d * vs (ix1 (headOf r)))

end Cert.Attention

end
-- ==== Proof.Value.Results.lean ====
/- The results, as functions of the arguments. -/
module

public import proofs.«01_k».proof.Proof.Value.Attention

@[expose] public section

set_option maxRecDepth 16384

noncomputable section

namespace Cert.Attention

open Cert.KernelIdeal Cert.KernelIdeal.Gen Cert.KernelIdeal.Entry
open Idealize.ShloMosaic Idealize.ShloMosaic.TcCoe Idealize.ShloMosaic.Tactic

/-- The attention rows, head after head: `q` the queries, `kn` and `vn` the new keys and values, `kc` and `vc` the caches, `ks` and `vs`
    their scales. -/
def attended (q : Vec Ideal S32x1x16384 .bf16) (kn vn : Vec Ideal S32x1x16x128 .bf16) (kc : Vec Ideal S32x4096x16x128 .fp8e4m3) (ks : FVec Ideal S16 .f32)
    (vc : Vec Ideal S32x4096x16x128 .fp8e4m3) (vs : FVec Ideal S16 .f32) : Vec Ideal S32x1x16384 .bf16 := fun i =>
  attention q kn vn kc vc ks vs (inverse lit0 lit1 ks) (inverse lit2 lit3 vs) (i 0) ⟨(i 2).val / 128, by idx_bounds i; omega⟩ ⟨(i 2).val % 128, by omega⟩

/-- The codes of new keys or values `x` with scales `a`, inverted by the tables `low` and `pow`. -/
def stored (low pow : Fin S254.numel → BitVec 32) (x : Vec Ideal S32x1x16x128 .bf16) (a : FVec Ideal S16 .f32) : Vec Ideal S32x1x16x128 .fp8e4m3 := fun i =>
  codes x (inverse low pow a) (i 0) (i 2) (i 3)

/-- Rows of 128 per query head, laid out head after head. -/
theorem rows_read (A : Vec Ideal S32x128x128 .bf16) (h : S32x128x128.ShapeCasts S32x1x16384) (i : S32x1x16384.Idx) :
    shapeCast S32x1x16384 A h i = A (ix3 (i 0) ⟨(i 2).val / 128, by idx_bounds i; omega⟩ ⟨(i 2).val % 128, by omega⟩) := by
  pointwise

/-- Rows of 128 per head, with the token's axis put back. -/
theorem codes_read (A : Vec Ideal S32x16x128 .fp8e4m3) (h : S32x16x128.ShapeCasts S32x1x16x128) (i : S32x1x16x128.Idx) :
    shapeCast S32x1x16x128 A h i = A (ix3 (i 0) (i 2) (i 3)) := by
  pointwise

end Cert.Attention

end
-- ==== Proof.KernelIdeal.Result.lean ====
/- What the idealized kernel returns, as functions of its arguments. -/
module

public import proofs.«01_k».proof.Proof.Value.Attention

@[expose] public section

set_option maxRecDepth 16384

noncomputable section

namespace Cert.KernelIdeal.Result

open Cert.KernelIdeal Cert.KernelIdeal.Gen Cert.KernelIdeal.BodyValue Cert.KernelIdeal.Entry Cert.KernelIdeal.HeadSet Cert.KernelIdeal.Tile
open Cert.Attention Cert.Softmax
open Idealize.ShloMosaic Idealize.ShloMosaic.TcCoe Idealize.ShloMosaic.Tactic Idealize.SL.Sem

variable (m : (ℓ : Loc nD τ sig) → Buf (Elt Ideal) ℓ) (c : Dev nD)

/-! ## The codes of the new tokens -/

/-- The code of a new key. -/
theorem pay371_apply (x : Vec Ideal S1x16x128 .bf16) (v : Vec Ideal S16x128 .f32) (h : Fin 16) (e : Fin 128) :
    k0_pay371 x v (ix2 h e) = code (x (ix3 0 h e)) (v (ix2 h e)) := by
  unfold k0_pay371 code
  pointwise

/-- The code of a new value. -/
theorem pay373_apply (x : Vec Ideal S1x16x128 .bf16) (v : Vec Ideal S16x128 .f32) (h : Fin 16) (e : Fin 128) :
    k0_pay373 (k0_pay372 x) v (ix2 h e) = code (x (ix3 0 h e)) (v (ix2 h e)) := by
  unfold k0_pay373 k0_pay372 code
  pointwise

/-- The stored codes of the keys are the computed ones. -/
theorem keyRows_apply (x : Vec Ideal S1x16x128 .bf16) (v : Vec Ideal S16x128 .f32) (y : S1x16x128.Idx) :
    keyRows x v y = k0_pay371 x v (ix2 (y 1) (y 2)) := by
  unfold keyRows k0_pay374
  pointwise

/-- The stored codes of the values are the computed ones. -/
theorem valueRows_apply (x : Vec Ideal S1x16x128 .bf16) (v : Vec Ideal S16x128 .f32) (y : S1x16x128.Idx) :
    valueRows x v y = k0_pay373 (k0_pay372 x) v (ix2 (y 1) (y 2)) := by
  unfold valueRows k0_pay375
  pointwise

/-- The batch entry of a point of the grid. -/
def entry (t : Fin cfg0.N) : Fin 32 := ⟨t.val, points t⟩

/-- The codes of the new keys of a batch entry. -/
theorem keyCodes (t : Fin cfg0.N) (h : Fin 16) (e : Fin 128) :
    k0_pay371 (iblk m c 1 t) (iblk m c 3 t) (ix2 h e) = codes (m (c, main_arg1)) (inverse lit0 lit1 (m (c, main_arg4))) (entry t) h e :=
  (pay371_apply _ _ h e).trans (congrArg₂ code (blk_1 m c t h e) (blk_3 m c t h e))

/-- The codes of the new values of a batch entry. -/
theorem valueCodes (t : Fin cfg0.N) (h : Fin 16) (e : Fin 128) :
    k0_pay373 (k0_pay372 (iblk m c 2 t)) (iblk m c 4 t) (ix2 h e)
      = codes (m (c, main_arg2)) (inverse lit2 lit3 (m (c, main_arg6))) (entry t) h e :=
  (pay373_apply _ _ h e).trans (congrArg₂ code (blk_2 m c t h e) (blk_4 m c t h e))

/-! ## The attention rows -/

/-- A row of a batch entry's block of a cache is what the cache holds of that token and head. -/
theorem row_tok (X : Vec Ideal S1x65536x128 .fp8e4m3) (A : Vec Ideal S32x4096x16x128 .fp8e4m3) (b : Fin 32)
    (hX : ∀ (r : Fin 65536) (e : Fin 128), X (ix3 0 r e) = A (ix4 b ⟨r.val / 16, by omega⟩ ⟨r.val % 16, by omega⟩ e))
    (h : Fin 16) (e : Fin 128) (t : ℕ) : row X (16 * t + h.val) e = tok A b h e t := by
  unfold row tok
  by_cases ht : t < 4096
  · rw [dif_pos (by omega), dif_pos ht, hX]
    congr 1
    refine congrArg₂ (fun a a' => ix4 b a a' e) (Fin.ext ?_) (Fin.ext ?_) <;> dsimp only <;> omega
  · rw [dif_neg (by omega), dif_neg ht]

/-- The two forms of attention agree where their scores, values and scales do. -/
theorem attend_congr {s s' v v' : ℕ → EReal} {sn sn' vn vn' k k' : EReal} (hs : s = s') (hv : v = v') (hsn : sn = sn') (hvn : vn = vn')
    (hk : k = k') : attend s v sn vn k = attend s' v' sn' vn' k' := by
  subst hs hv hsn hvn hk; rfl

section
variable (hk0 : ∀ h : Fin 16, (0 : EReal) ≤ (m (c, main_arg4) : FVec Ideal S16 .f32) (ix1 h)) (hkt : ∀ h : Fin 16, (m (c, main_arg4) : FVec Ideal S16 .f32) (ix1 h) ≠ (⊤ : EReal))
variable (hv0 : ∀ h : Fin 16, (0 : EReal) ≤ (m (c, main_arg6) : FVec Ideal S16 .f32) (ix1 h)) (hvt : ∀ h : Fin 16, (m (c, main_arg6) : FVec Ideal S16 .f32) (ix1 h) ≠ (⊤ : EReal))

/-- The attention of every query head, from the arguments. -/
def attn (b : Fin 32) (r d : Fin 128) : EReal :=
  attention (m (c, main_arg0)) (m (c, main_arg1)) (m (c, main_arg2)) (m (c, main_arg3)) (m (c, main_arg5)) (m (c, main_arg4)) (m (c, main_arg6))
    (inverse lit0 lit1 (m (c, main_arg4))) (inverse lit2 lit3 (m (c, main_arg6))) b r d

include hk0 hkt hv0 hvt in
/-- An attention row of a batch entry. -/
theorem attnRow (t : Fin cfg0.N) (r d : Fin 128) :
    rowOut (iblk m c 0 t) (iblk m c 5 t) (iblk m c 6 t) (iblk m c 7 t) (iblk m c 8 t) (iblk m c 9 t)
      (k0_pay371 (iblk m c 1 t) (iblk m c 3 t)) (k0_pay373 (k0_pay372 (iblk m c 2 t)) (iblk m c 4 t)) r d
      = attn m c (entry t) r d := by
  unfold attn attention rowOut
  refine Eq.trans (attend_congr ?_ ?_ ?_ ?_ ?_) (attend_eq _ _ _ _ (hv0 (headOf r)) (hvt (headOf r)))
  · funext n
    refine Eq.trans ?_ (score_eq _ _ (hk0 (headOf r)) (hkt (headOf r)))
    refine congrArg₂ (· * ·) (Finset.sum_congr rfl fun e _ => congrArg₂ (· * ·) (blk_0 m c t r e) ?_) (congrArg₂ (· * ·) ?_ rfl)
    · exact row_tok _ _ (entry t) (blk_8 m c t) (headOf r) e n
    · refine (blk_5 m c t _ _ _).trans (congrArg (fun a => (m (c, main_arg4) : FVec Ideal S16 .f32) (ix1 a)) (Fin.ext ?_))
      unfold headOf
      dsimp only
      omega
  · funext n
    exact row_tok _ _ (entry t) (blk_9 m c t) (headOf r) d n
  · refine Eq.trans ?_ (score_eq _ _ (hk0 (headOf r)) (hkt (headOf r)))
    exact congrArg₂ (· * ·) (Finset.sum_congr rfl fun e _ => congrArg₂ (· * ·) (blk_0 m c t r e) (keyCodes m c t (headOf r) e))
      (congrArg₂ (· * ·) (blk_6 m c t r 0) rfl)
  · exact valueCodes m c t (headOf r) d
  · exact blk_7 m c t r d

include hk0 hkt hv0 hvt in
/-- The stored attention rows of a batch entry. -/
theorem attnRows_apply (t : Fin cfg0.N) (y : S1x128x128.Idx) :
    attnRows (iblk m c 0 t) (iblk m c 1 t) (iblk m c 2 t) (iblk m c 3 t) (iblk m c 4 t) (iblk m c 5 t) (iblk m c 6 t) (iblk m c 7 t)
      (iblk m c 8 t) (iblk m c 9 t) y = attn m c (entry t) (y 1) (y 2) := by
  unfold attnRows
  exact attnRow m c hk0 hkt hv0 hvt t (y 1) (y 2)

/-- The attention of every batch entry, as the kernel lays it out. -/
def attnArray : Vec Ideal S32x128x128 .bf16 := fun i => attn m c (i 0) (i 1) (i 2)

/-! ## The output arrays -/

/-- Where the blocks of output 10 lie. -/
theorem idx_10 : ∀ t : Fin cfg0.N, win0_10.index t = ![t.val, 0, 0] := by decide +kernel
/-- Where the blocks of output 11 lie. -/
theorem idx_11 : ∀ t : Fin cfg0.N, win0_11.index t = ![t.val, 0, 0] := by decide +kernel
/-- Where the blocks of output 12 lie. -/
theorem idx_12 : ∀ t : Fin cfg0.N, win0_12.index t = ![t.val, 0, 0] := by decide +kernel

/-- An array that agrees with the stored rows at every batch entry is the first output. -/
theorem arrAt_10_of (G : Vec Ideal S32x128x128 .bf16)
    (hG : ∀ (t : Fin cfg0.N) (y : S1x128x128.Idx), attnRows (iblk m c 0 t) (iblk m c 1 t) (iblk m c 2 t) (iblk m c 3 t) (iblk m c 4 t)
      (iblk m c 5 t) (iblk m c 6 t) (iblk m c 7 t) (iblk m c 8 t) (iblk m c 9 t) y = G (ix3 ⟨t.val, points t⟩ (y 1) (y 2))) :
    (Launch.dats m 0 c).arrAt 10 cfg0.N = G := by
  refine (Launch.dats m 0 c).arrAt_eq_of_covers 10 G (by decide +kernel) fun t hf y => ?_
  blk_simp
  rw [Launch.after0_10]
  refine (hG t y).trans (congrArg G ?_)
  blk_ext [idx_10 t]

include hk0 hkt hv0 hvt in
/-- The attention of every batch entry. -/
theorem arrAt_10 : (Launch.dats m 0 c).arrAt 10 cfg0.N = attnArray m c :=
  arrAt_10_of m c (attnArray m c) fun t y => attnRows_apply m c hk0 hkt hv0 hvt t y

/-- The codes of the new keys of every batch entry. -/
theorem arrAt_11 : (Launch.dats m 0 c).arrAt 11 cfg0.N
    = fun i : S32x16x128.Idx => codes (m (c, main_arg1)) (inverse lit0 lit1 (m (c, main_arg4))) (i 0) (i 1) (i 2) := by
  refine (Launch.dats m 0 c).arrAt_eq_of_covers 11 _ (by decide +kernel) fun t hf y => ?_
  blk_simp
  rw [Launch.after0_11]
  refine ((keyRows_apply _ _ _).trans (keyCodes m c t _ _)).trans
    (congrArg (fun i : S32x16x128.Idx => codes (m (c, main_arg1)) (inverse lit0 lit1 (m (c, main_arg4))) (i 0) (i 1) (i 2)) (?_ : ix3 (entry t) (y 1) (y 2) = _))
  unfold entry
  blk_ext [idx_11 t]

/-- The codes of the new values of every batch entry. -/
theorem arrAt_12 : (Launch.dats m 0 c).arrAt 12 cfg0.N
    = fun i : S32x16x128.Idx => codes (m (c, main_arg2)) (inverse lit2 lit3 (m (c, main_arg6))) (i 0) (i 1) (i 2) := by
  refine (Launch.dats m 0 c).arrAt_eq_of_covers 12 _ (by decide +kernel) fun t hf y => ?_
  blk_simp
  rw [Launch.after0_12]
  refine ((valueRows_apply _ _ _).trans (valueCodes m c t _ _)).trans
    (congrArg (fun i : S32x16x128.Idx => codes (m (c, main_arg2)) (inverse lit2 lit3 (m (c, main_arg6))) (i 0) (i 1) (i 2)) (?_ : ix3 (entry t) (y 1) (y 2) = _))
  unfold entry
  blk_ext [idx_12 t]
end

end Cert.KernelIdeal.Result

end
-- ==== Proof.KernelIdeal.Run.lean ====
/- The run of the idealized kernel, with its results as functions of its arguments. -/
module

public import proofs.«01_k».proof.Proof.Value.Results
public import proofs.«01_k».proof.Proof.KernelIdeal.Result
public import Idealize.ShloMosaic.Lib.StableHlo.Run
public import Idealize.ShloMosaic.Lib.Pipeline.FrameSuffix

@[expose] public section

set_option maxRecDepth 16384

noncomputable section

namespace Cert.KernelIdeal.Result

open Cert.KernelIdeal Cert.KernelIdeal.Gen Cert.KernelIdeal.Entry
open Cert.Attention
open Idealize.ShloMosaic Idealize.ShloMosaic.TcCoe Idealize.ShloMosaic.Tactic Idealize.SL.Sem Idealize.ShloMosaic.StableHlo

variable (m : (ℓ : Loc nD τ sig) → Buf (Elt Ideal) ℓ)

/-! ## The operations after the launch -/

/-- The first result is a rearrangement of the launch's first array. -/
theorem tail_main_v55 (V0 : Valuation τ sig (Elt Ideal)) : after (List.flatten [hostOps1]) V0 (Proc.devRef .tc main_v55)
    = (shapeCast S32x1x16384 (V0 (Proc.devRef .tc main_v54_0)) shapeCasts_S32x128x128_S32x1x16384 : Vec Ideal S32x1x16384 .bf16) := by
  simp only [hostOps1, List.flatten_cons, List.flatten_nil, List.append_nil]
  after_results_simp <;> rfl

/-- The second result is a rearrangement of the launch's second array. -/
theorem tail_main_v56 (V0 : Valuation τ sig (Elt Ideal)) : after (List.flatten [hostOps1]) V0 (Proc.devRef .tc main_v56)
    = (shapeCast S32x1x16x128 (V0 (Proc.devRef .tc main_v54_1)) shapeCasts_S32x16x128_S32x1x16x128 : Vec Ideal S32x1x16x128 .fp8e4m3) := by
  simp only [hostOps1, List.flatten_cons, List.flatten_nil, List.append_nil]
  after_results_simp <;> rfl

/-- The fourth result is a rearrangement of the launch's third array. -/
theorem tail_main_v57 (V0 : Valuation τ sig (Elt Ideal)) : after (List.flatten [hostOps1]) V0 (Proc.devRef .tc main_v57)
    = (shapeCast S32x1x16x128 (V0 (Proc.devRef .tc main_v54_2)) shapeCasts_S32x16x128_S32x1x16x128 : Vec Ideal S32x1x16x128 .fp8e4m3) := by
  simp only [hostOps1, List.flatten_cons, List.flatten_nil, List.append_nil]
  after_results_simp <;> rfl

/-- What the buffers hold when the launch is over. -/
abbrev exitV (c : Dev nD) : Valuation τ sig (Elt Ideal) :=
  Pipeline.withArrays spec0 c (V0 m c) fun w => (Launch.dats m 0 c).arrAt w cfg0.N

/-- The launch's first array. -/
theorem exit_main_v54_0 (c : Dev nD) : exitV m c (Proc.devRef .tc main_v54_0) = (Launch.dats m 0 c).arrAt 10 cfg0.N :=
  Pipeline.withArrays_arr spec0 launch0.win.arr_inj c (V0 m c) _ 10
/-- The launch's second array. -/
theorem exit_main_v54_1 (c : Dev nD) : exitV m c (Proc.devRef .tc main_v54_1) = (Launch.dats m 0 c).arrAt 11 cfg0.N :=
  Pipeline.withArrays_arr spec0 launch0.win.arr_inj c (V0 m c) _ 11
/-- The launch's third array. -/
theorem exit_main_v54_2 (c : Dev nD) : exitV m c (Proc.devRef .tc main_v54_2) = (Launch.dats m 0 c).arrAt 12 cfg0.N :=
  Pipeline.withArrays_arr spec0 launch0.win.arr_inj c (V0 m c) _ 12

section
variable (c : Dev nD)
variable (hk0 : ∀ h : Fin 16, (0 : EReal) ≤ (m (c, main_arg4) : FVec Ideal S16 .f32) (ix1 h)) (hkt : ∀ h : Fin 16, (m (c, main_arg4) : FVec Ideal S16 .f32) (ix1 h) ≠ (⊤ : EReal))
variable (hv0 : ∀ h : Fin 16, (0 : EReal) ≤ (m (c, main_arg6) : FVec Ideal S16 .f32) (ix1 h)) (hvt : ∀ h : Fin 16, (m (c, main_arg6) : FVec Ideal S16 .f32) (ix1 h) ≠ (⊤ : EReal))

include hk0 hkt hv0 hvt in
/-- The first result is the attention rows. -/
theorem fin_main_v55 : Pipeline.afterTail₀ cfgs (Launch.dats m) 0 (V0 m) [hostOps1] c main_v55
    = attended (m (c, main_arg0)) (m (c, main_arg1)) (m (c, main_arg2)) (m (c, main_arg3)) (m (c, main_arg4)) (m (c, main_arg5)) (m (c, main_arg6)) := by
  refine (tail_main_v55 (exitV m c)).trans ?_
  refine (congrArg (fun A : Vec Ideal S32x128x128 .bf16 => shapeCast S32x1x16384 A shapeCasts_S32x128x128_S32x1x16384)
    ((exit_main_v54_0 m c).trans (arrAt_10 m c hk0 hkt hv0 hvt))).trans ?_
  exact funext fun i => rows_read (attnArray m c) _ i

/-- The second result is the codes of the new keys. -/
theorem fin_main_v56 : Pipeline.afterTail₀ cfgs (Launch.dats m) 0 (V0 m) [hostOps1] c main_v56
    = stored lit0 lit1 (m (c, main_arg1)) (m (c, main_arg4)) := by
  refine (tail_main_v56 (exitV m c)).trans ?_
  refine (congrArg (fun A : Vec Ideal S32x16x128 .fp8e4m3 => shapeCast S32x1x16x128 A shapeCasts_S32x16x128_S32x1x16x128)
    ((exit_main_v54_1 m c).trans (arrAt_11 m c))).trans ?_
  exact funext fun i => codes_read _ _ i

/-- The fourth result is the codes of the new values. -/
theorem fin_main_v57 : Pipeline.afterTail₀ cfgs (Launch.dats m) 0 (V0 m) [hostOps1] c main_v57
    = stored lit2 lit3 (m (c, main_arg2)) (m (c, main_arg6)) := by
  refine (tail_main_v57 (exitV m c)).trans ?_
  refine (congrArg (fun A : Vec Ideal S32x16x128 .fp8e4m3 => shapeCast S32x1x16x128 A shapeCasts_S32x16x128_S32x1x16x128)
    ((exit_main_v54_2 m c).trans (arrAt_12 m c))).trans ?_
  exact funext fun i => codes_read _ _ i

end

/-- Every run of the idealized kernel ends with the attention rows and the new codes, and leaves its arguments as they were, where the
    scales are finite and not negative. -/
theorem run (ρ : Dev nD → PrngReg)
    (hk0 : ∀ (c : Dev nD) (h : Fin 16), (0 : EReal) ≤ (m (c, main_arg4) : FVec Ideal S16 .f32) (ix1 h))
    (hkt : ∀ (c : Dev nD) (h : Fin 16), (m (c, main_arg4) : FVec Ideal S16 .f32) (ix1 h) ≠ (⊤ : EReal))
    (hv0 : ∀ (c : Dev nD) (h : Fin 16), (0 : EReal) ≤ (m (c, main_arg6) : FVec Ideal S16 .f32) (ix1 h))
    (hvt : ∀ (c : Dev nD) (h : Fin 16), (m (c, main_arg6) : FVec Ideal S16 .f32) (ix1 h) ≠ (⊤ : EReal)) :
    θ_run defs (onTc (τ := τ) (main (F := Ideal))) ⟨m, fun _ => 0, ρ⟩ fun r => ∀ c : Dev nD,
      r.2.mem ((c.tc : Thread nD τ).loc main_v55) = attended (m (c, main_arg0)) (m (c, main_arg1)) (m (c, main_arg2)) (m (c, main_arg3)) (m (c, main_arg4)) (m (c, main_arg5)) (m (c, main_arg6))
      ∧ r.2.mem ((c.tc : Thread nD τ).loc main_v56) = stored lit0 lit1 (m (c, main_arg1)) (m (c, main_arg4))
      ∧ r.2.mem ((c.tc : Thread nD τ).loc main_arg4) = m ((c.tc : Thread nD τ).loc main_arg4)
      ∧ r.2.mem ((c.tc : Thread nD τ).loc main_v57) = stored lit2 lit3 (m (c, main_arg2)) (m (c, main_arg6))
      ∧ r.2.mem ((c.tc : Thread nD τ).loc main_arg6) = m ((c.tc : Thread nD τ).loc main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v55 (Pipeline.mem_restRefs_of main_v55 (by decide) (by decide))).trans (fin_main_v55 m c (hk0 c) (hkt c) (hv0 c) (hvt c)),
      ((h c).2 main_v56 (Pipeline.mem_restRefs_of main_v56 (by decide) (by decide))).trans (fin_main_v56 m c),
      ((h c).2 main_arg4 (Pipeline.mem_restRefs_of main_arg4 (by decide) (by decide))).trans (W_main_arg4 m (Launch.dats m) c),
      ((h c).2 main_v57 (Pipeline.mem_restRefs_of main_v57 (by decide) (by decide))).trans (fin_main_v57 m c),
      ((h c).2 main_arg6 (Pipeline.mem_restRefs_of main_arg6 (by decide) (by decide))).trans (W_main_arg6 m (Launch.dats m) c),
      ((h c).2 main_arg0 (Pipeline.mem_restRefs_of main_arg0 (by decide) (by decide))).trans (W_main_arg0 m (Launch.dats m) c),
      ((h c).2 main_arg1 (Pipeline.mem_restRefs_of main_arg1 (by decide) (by decide))).trans (W_main_arg1 m (Launch.dats m) c),
      ((h c).2 main_arg2 (Pipeline.mem_restRefs_of main_arg2 (by decide) (by decide))).trans (W_main_arg2 m (Launch.dats m) c),
      ((h c).2 main_arg3 (Pipeline.mem_restRefs_of main_arg3 (by decide) (by decide))).trans (W_main_arg3 m (Launch.dats m) c),
      ((h c).2 main_arg4 (Pipeline.mem_restRefs_of main_arg4 (by decide) (by decide))).trans (W_main_arg4 m (Launch.dats m) c),
      ((h c).2 main_arg5 (Pipeline.mem_restRefs_of main_arg5 (by decide) (by decide))).trans (W_main_arg5 m (Launch.dats m) c),
      ((h c).2 main_arg6 (Pipeline.mem_restRefs_of main_arg6 (by decide) (by decide))).trans (W_main_arg6 m (Launch.dats m) c)⟩)
    (Launch.run_main m ρ)

end Cert.KernelIdeal.Result

end
-- ==== Proof.ReferenceIdeal.Entry.lean ====
/- The reference's launch over the extended reals: what it finds in its operands and what it leaves in its arrays. -/
module

public import proofs.«01_k».proof.Proof.Value.Attention
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Entry

open Cert.ReferenceIdeal Cert.ReferenceIdeal.Gen
open Cert.KernelIdeal.Entry (inverse)
open Cert.Attention
open Idealize.ShloMosaic Idealize.ShloMosaic.TcCoe Idealize.ShloMosaic.Tactic

variable (m : (ℓ : Loc nD τ sig) → Buf (Elt Ideal) ℓ) (c : Dev nD)

/-! ## The host's rearrangements, read at an index -/

/-- The new keys or values, one row of 128 per head. -/
theorem new_read (x : Vec Ideal S32x1x16x128 .bf16) (b : Fin 32) (h : Fin 16) (e : Fin 128) :
    shapeCast S32x16x128 x shapeCasts_S32x1x16x128_S32x16x128 (ix3 b h e) = x (ix4 b 0 h e) := by
  pointwise

/-- A value per head, spread over the lanes. -/
theorem lane_read (x : FVec Ideal S16 .f32) (h : Fin 16) (d : Fin 128) :
    broadcastInDim S16x128 ![0, 1] bcast_S16x1_S16x128_0_1 (broadcastInDim S16x1 ![0] bcast_S16_S16x1_0 x) (ix2 h d) = x (ix1 h) := by
  pointwise

/-- The inverse of the keys' scale. -/
def kinv : FVec Ideal S16 .f32 := inverse lit0 lit1 (m (c, main_arg4))
/-- The inverse of the values' scale. -/
def vinv : FVec Ideal S16 .f32 := inverse lit2 lit3 (m (c, main_arg6))

/-! ## The arrays the launch finds -/

/-- The new keys. -/
theorem V_main_v0 : V m c main_v0 = (shapeCast S32x16x128 (m (c, main_arg1)) shapeCasts_S32x1x16x128_S32x16x128 : Vec Ideal S32x16x128 .bf16) := rfl
/-- The new values. -/
theorem V_main_v1 : V m c main_v1 = (shapeCast S32x16x128 (m (c, main_arg2)) shapeCasts_S32x1x16x128_S32x16x128 : Vec Ideal S32x16x128 .bf16) := rfl
/-- The inverse of the keys' scale. -/
theorem V_main_v17 : V m c main_v17 = (broadcastInDim S16x128 ![0, 1] bcast_S16x1_S16x128_0_1 (broadcastInDim S16x1 ![0] bcast_S16_S16x1_0 (kinv m c)) : Vec Ideal S16x128 .f32) := rfl
/-- The inverse of the values' scale. -/
theorem V_main_v33 : V m c main_v33 = (broadcastInDim S16x128 ![0, 1] bcast_S16x1_S16x128_0_1 (broadcastInDim S16x1 ![0] bcast_S16_S16x1_0 (vinv m c)) : Vec Ideal S16x128 .f32) := rfl
/-- The keys' scale. -/
theorem V_main_v35 : V m c main_v35 = (broadcastInDim S16x128 ![0, 1] bcast_S16x1_S16x128_0_1 (broadcastInDim S16x1 ![0] bcast_S16_S16x1_0 (m (c, main_arg4) : FVec Ideal S16 .f32)) : Vec Ideal S16x128 .f32) := rfl
/-- The values' scale. -/
theorem V_main_v37 : V m c main_v37 = (broadcastInDim S16x128 ![0, 1] bcast_S16x1_S16x128_0_1 (broadcastInDim S16x1 ![0] bcast_S16_S16x1_0 (m (c, main_arg6) : FVec Ideal S16 .f32)) : Vec Ideal S16x128 .f32) := rfl

/-! ## The blocks -/

/-- The block of operand 0 is the whole array. -/
theorem idx_0 : ∀ t : Fin cfg0.N, win0_0.index t = ![0, 0, 0] := by decide +kernel
/-- The block of operand 1 is the whole array. -/
theorem idx_1 : ∀ t : Fin cfg0.N, win0_1.index t = ![0, 0, 0] := by decide +kernel
/-- The block of operand 2 is the whole array. -/
theorem idx_2 : ∀ t : Fin cfg0.N, win0_2.index t = ![0, 0] := by decide +kernel
/-- The block of operand 3 is the whole array. -/
theorem idx_3 : ∀ t : Fin cfg0.N, win0_3.index t = ![0, 0] := by decide +kernel
/-- The block of operand 4 is the whole array. -/
theorem idx_4 : ∀ t : Fin cfg0.N, win0_4.index t = ![0, 0] := by decide +kernel
/-- The block of operand 5 is the whole array. -/
theorem idx_5 : ∀ t : Fin cfg0.N, win0_5.index t = ![0, 0] := by decide +kernel
/-- The block of operand 6 is the whole array. -/
theorem idx_6 : ∀ t : Fin cfg0.N, win0_6.index t = ![0, 0, 0, 0] := by decide +kernel
/-- The block of operand 7 is the whole array. -/
theorem idx_7 : ∀ t : Fin cfg0.N, win0_7.index t = ![0, 0, 0, 0] := by decide +kernel
/-- The block of operand 8 is the whole array. -/
theorem idx_8 : ∀ t : Fin cfg0.N, win0_8.index t = ![0, 0, 0] := by decide +kernel
/-- The block of operand 9 is the whole array. -/
theorem idx_9 : ∀ t : Fin cfg0.N, win0_9.index t = ![0, 0, 0] := by decide +kernel
/-- The block of operand 10 is the whole array. -/
theorem idx_10 : ∀ t : Fin cfg0.N, win0_10.index t = ![0, 0, 0] := by decide +kernel
/-- The block of operand 11 is the whole array. -/
theorem idx_11 : ∀ t : Fin cfg0.N, win0_11.index t = ![0, 0, 0] := by decide +kernel
/-- The block of operand 12 is the whole array. -/
theorem idx_12 : ∀ t : Fin cfg0.N, win0_12.index t = ![0, 0, 0, 0] := by decide +kernel
/-- The block of operand 13 is the whole array. -/
theorem idx_13 : ∀ t : Fin cfg0.N, win0_13.index t = ![0, 0, 0, 0] := by decide +kernel
/-- The block of operand 14 is the whole array. -/
theorem idx_14 : ∀ t : Fin cfg0.N, win0_14.index t = ![0, 0] := by decide +kernel
/-- The block of operand 0. -/
theorem blk_0 (t : Fin cfg0.N) (b : Fin 32) (h : Fin 16) (e : Fin 128) : iblk m c 0 t (ix3 b h e) = m (c, main_arg1) (ix4 b 0 h e) := by
  have h : iblk m c 0 t (ix3 b h e) = V m c main_v0 (ix3 b h e) := by
    blk_ext [iblk, idx_0 t]
  exact h.trans ((congrFun (V_main_v0 m c) _).trans (new_read _ _ _ _))
/-- The block of operand 1. -/
theorem blk_1 (t : Fin cfg0.N) (b : Fin 32) (h : Fin 16) (e : Fin 128) : iblk m c 1 t (ix3 b h e) = m (c, main_arg2) (ix4 b 0 h e) := by
  have h : iblk m c 1 t (ix3 b h e) = V m c main_v1 (ix3 b h e) := by
    blk_ext [iblk, idx_1 t]
  exact h.trans ((congrFun (V_main_v1 m c) _).trans (new_read _ _ _ _))
/-- The block of operand 2. -/
theorem blk_2 (t : Fin cfg0.N) (h : Fin 16) (e : Fin 128) : iblk m c 2 t (ix2 h e) = kinv m c (ix1 h) := by
  have h : iblk m c 2 t (ix2 h e) = V m c main_v17 (ix2 h e) := by
    blk_ext [iblk, idx_2 t]
  exact h.trans ((congrFun (V_main_v17 m c) _).trans (lane_read _ _ _))
/-- The block of operand 3. -/
theorem blk_3 (t : Fin cfg0.N) (h : Fin 16) (e : Fin 128) : iblk m c 3 t (ix2 h e) = vinv m c (ix1 h) := by
  have h : iblk m c 3 t (ix2 h e) = V m c main_v33 (ix2 h e) := by
    blk_ext [iblk, idx_3 t]
  exact h.trans ((congrFun (V_main_v33 m c) _).trans (lane_read _ _ _))
/-- The block of operand 4. -/
theorem blk_4 (t : Fin cfg0.N) (h : Fin 16) (e : Fin 128) : iblk m c 4 t (ix2 h e) = (m (c, main_arg4) : FVec Ideal S16 .f32) (ix1 h) := by
  have h : iblk m c 4 t (ix2 h e) = V m c main_v35 (ix2 h e) := by
    blk_ext [iblk, idx_4 t]
  exact h.trans ((congrFun (V_main_v35 m c) _).trans (lane_read _ _ _))
/-- The block of operand 5. -/
theorem blk_5 (t : Fin cfg0.N) (h : Fin 16) (e : Fin 128) : iblk m c 5 t (ix2 h e) = (m (c, main_arg6) : FVec Ideal S16 .f32) (ix1 h) := by
  have h : iblk m c 5 t (ix2 h e) = V m c main_v37 (ix2 h e) := by
    blk_ext [iblk, idx_5 t]
  exact h.trans ((congrFun (V_main_v37 m c) _).trans (lane_read _ _ _))
/-- The block of operand 6. -/
theorem blk_6 (t : Fin cfg0.N) (b : Fin 32) (t' : Fin 4096) (h : Fin 16) (e : Fin 128) : iblk m c 6 t (ix4 b t' h e) = m (c, main_arg3) (ix4 b t' h e) := by
  have h : iblk m c 6 t (ix4 b t' h e) = V m c main_arg3 (ix4 b t' h e) := by
    blk_ext [iblk, idx_6 t]
  exact h.trans (congrFun (V_main_arg3 m c) _)
/-- The block of operand 7. -/
theorem blk_7 (t : Fin cfg0.N) (b : Fin 32) (t' : Fin 4096) (h : Fin 16) (e : Fin 128) : iblk m c 7 t (ix4 b t' h e) = m (c, main_arg5) (ix4 b t' h e) := by
  have h : iblk m c 7 t (ix4 b t' h e) = V m c main_arg5 (ix4 b t' h e) := by
    blk_ext [iblk, idx_7 t]
  exact h.trans (congrFun (V_main_arg5 m c) _)

/-! ## What the body stores, read at an index -/

/-- The code of a new key. -/
theorem pay1_apply (x : Vec Ideal S32x16x128 .bf16) (v : Vec Ideal S16x128 .f32) (b : Fin 32) (h : Fin 16) (e : Fin 128) :
    k0_pay1 x v (ix3 b h e) = code (x (ix3 b h e)) (v (ix2 h e)) := by
  unfold k0_pay1 code
  pointwise

/-- The code of a new value. -/
theorem pay2_apply (x : Vec Ideal S32x16x128 .bf16) (v : Vec Ideal S16x128 .f32) (b : Fin 32) (h : Fin 16) (e : Fin 128) :
    k0_pay2 x v (ix3 b h e) = code (x (ix3 b h e)) (v (ix2 h e)) := by
  unfold k0_pay2 code
  pointwise

/-- A new key, dequantised. -/
theorem pay3_apply (x : Vec Ideal S32x16x128 .bf16) (v s : Vec Ideal S16x128 .f32) (b : Fin 32) (h : Fin 16) (e : Fin 128) :
    k0_pay3 x v s (ix3 b h e) = code (x (ix3 b h e)) (v (ix2 h e)) * s (ix2 h e) := by
  rw [← pay1_apply]
  unfold k0_pay3
  pointwise

/-- A new value, dequantised. -/
theorem pay4_apply (x : Vec Ideal S32x16x128 .fp8e4m3) (s : Vec Ideal S16x128 .f32) (b : Fin 32) (h : Fin 16) (e : Fin 128) :
    k0_pay4 x s (ix3 b h e) = x (ix3 b h e) * s (ix2 h e) := by
  unfold k0_pay4
  pointwise

/-- A cached key, dequantised. -/
theorem pay5_apply (x : Vec Ideal S32x4096x16x128 .fp8e4m3) (s : Vec Ideal S16x128 .f32) (b : Fin 32) (t : Fin 4096) (h : Fin 16) (e : Fin 128) :
    k0_pay5 x s (ix4 b t h e) = x (ix4 b t h e) * s (ix2 h e) := by
  unfold k0_pay5
  pointwise

/-- A cached value, dequantised. -/
theorem pay6_apply (x : Vec Ideal S32x4096x16x128 .fp8e4m3) (s : Vec Ideal S16x128 .f32) (b : Fin 32) (t : Fin 4096) (h : Fin 16) (e : Fin 128) :
    k0_pay6 x s (ix4 b t h e) = x (ix4 b t h e) * s (ix2 h e) := by
  unfold k0_pay6
  pointwise

/-- The softmax scale. -/
theorem pay7_apply (i : S16x8.Idx) : k0_pay7 (F := Ideal) i = sm := by
  unfold k0_pay7
  exact IdealRules.named_const.ideal_named_scalar _ _ _ _ rfl

/-! ## The output arrays -/

/-- The codes of the new keys. -/
def kCodes : Vec Ideal S32x16x128 .fp8e4m3 := fun i => codes (m (c, main_arg1)) (kinv m c) (i 0) (i 1) (i 2)
/-- The codes of the new values. -/
def vCodes : Vec Ideal S32x16x128 .fp8e4m3 := fun i => codes (m (c, main_arg2)) (vinv m c) (i 0) (i 1) (i 2)
/-- The new keys, dequantised. -/
def kNew : Vec Ideal S32x16x128 .bf16 := fun i => kCodes m c i * (m (c, main_arg4) : FVec Ideal S16 .f32) (ix1 (i 1))
/-- The new values, dequantised. -/
def vNew : Vec Ideal S32x16x128 .bf16 := fun i => vCodes m c i * (m (c, main_arg6) : FVec Ideal S16 .f32) (ix1 (i 1))
/-- A cache times the scale of each head. -/
def deq (X : FVec Ideal S32x4096x16x128 .fp8e4m3) (s : FVec Ideal S16 .f32) : FVec Ideal S32x4096x16x128 .bf16 := fun i => (X i : EReal) * s (ix1 (i 2))
/-- The cached keys, dequantised. -/
def kAll : FVec Ideal S32x4096x16x128 .bf16 := deq (m (c, main_arg3)) (m (c, main_arg4))
/-- The cached values, dequantised. -/
def vAll : FVec Ideal S32x4096x16x128 .bf16 := deq (m (c, main_arg5)) (m (c, main_arg6))

/-- The codes of the new keys, as the body computes them. -/
theorem pay_8 (t : Fin cfg0.N) (b : Fin 32) (h : Fin 16) (e : Fin 128) : k0_pay1 (iblk m c 0 t) (iblk m c 2 t) (ix3 b h e) = kCodes m c (ix3 b h e) :=
  (pay1_apply _ _ b h e).trans (congrArg₂ code (blk_0 m c t b h e) (blk_2 m c t h e))

/-- The codes of the new keys, in the array the launch leaves. -/
theorem arrAt_8 : (dats m 0 c).arrAt 8 cfg0.N = kCodes m c := by
  refine (dats m 0 c).arrAt_eq_of_covers 8 (kCodes m c) (by decide +kernel) fun t hf y => ?_
  blk_simp
  rw [after0_8]
  frame_out
  refine ((congrArg (k0_pay1 (iblk m c 0 t) (iblk m c 2 t)) (?_ : (y : S32x16x128.Idx) = ix3 (y 0) (y 1) (y 2))).trans (pay_8 m c t (y 0) (y 1) (y 2))).trans (congrArg (kCodes m c) (?_ : ix3 (y 0) (y 1) (y 2) = _))
  · blk_ext
  · blk_ext [idx_8 t]

/-- The codes of the new values, as the body computes them. -/
theorem pay_9 (t : Fin cfg0.N) (b : Fin 32) (h : Fin 16) (e : Fin 128) : k0_pay2 (iblk m c 1 t) (iblk m c 3 t) (ix3 b h e) = vCodes m c (ix3 b h e) :=
  (pay2_apply _ _ b h e).trans (congrArg₂ code (blk_1 m c t b h e) (blk_3 m c t h e))

/-- The codes of the new values, in the array the launch leaves. -/
theorem arrAt_9 : (dats m 0 c).arrAt 9 cfg0.N = vCodes m c := by
  refine (dats m 0 c).arrAt_eq_of_covers 9 (vCodes m c) (by decide +kernel) fun t hf y => ?_
  blk_simp
  rw [after0_9]
  frame_out
  refine ((congrArg (k0_pay2 (iblk m c 1 t) (iblk m c 3 t)) (?_ : (y : S32x16x128.Idx) = ix3 (y 0) (y 1) (y 2))).trans (pay_9 m c t (y 0) (y 1) (y 2))).trans (congrArg (vCodes m c) (?_ : ix3 (y 0) (y 1) (y 2) = _))
  · blk_ext
  · blk_ext [idx_9 t]

/-- The new keys, as the body computes them. -/
theorem pay_10 (t : Fin cfg0.N) (b : Fin 32) (h : Fin 16) (e : Fin 128) : k0_pay3 (iblk m c 0 t) (iblk m c 2 t) (iblk m c 4 t) (ix3 b h e) = kNew m c (ix3 b h e) :=
  (pay3_apply _ _ _ b h e).trans (congrArg₂ (fun a a' : EReal => a * a') (congrArg₂ code (blk_0 m c t b h e) (blk_2 m c t h e)) (blk_4 m c t h e))

/-- The new keys, in the array the launch leaves. -/
theorem arrAt_10 : (dats m 0 c).arrAt 10 cfg0.N = kNew m c := by
  refine (dats m 0 c).arrAt_eq_of_covers 10 (kNew m c) (by decide +kernel) fun t hf y => ?_
  blk_simp
  rw [after0_10]
  frame_out
  refine ((congrArg (k0_pay3 (iblk m c 0 t) (iblk m c 2 t) (iblk m c 4 t)) (?_ : (y : S32x16x128.Idx) = ix3 (y 0) (y 1) (y 2))).trans (pay_10 m c t (y 0) (y 1) (y 2))).trans (congrArg (kNew m c) (?_ : ix3 (y 0) (y 1) (y 2) = _))
  · blk_ext
  · blk_ext [idx_10 t]

/-- The new values, as the body computes them. -/
theorem pay_11 (t : Fin cfg0.N) (b : Fin 32) (h : Fin 16) (e : Fin 128) : k0_pay4 (k0_pay2 (iblk m c 1 t) (iblk m c 3 t)) (iblk m c 5 t) (ix3 b h e) = vNew m c (ix3 b h e) :=
  (pay4_apply _ _ b h e).trans (congrArg₂ (fun a a' : EReal => a * a') ((pay2_apply _ _ b h e).trans (congrArg₂ code (blk_1 m c t b h e) (blk_3 m c t h e))) (blk_5 m c t h e))

/-- The new values, in the array the launch leaves. -/
theorem arrAt_11 : (dats m 0 c).arrAt 11 cfg0.N = vNew m c := by
  refine (dats m 0 c).arrAt_eq_of_covers 11 (vNew m c) (by decide +kernel) fun t hf y => ?_
  blk_simp
  rw [after0_11]
  frame_out
  refine ((congrArg (k0_pay4 (k0_pay2 (iblk m c 1 t) (iblk m c 3 t)) (iblk m c 5 t)) (?_ : (y : S32x16x128.Idx) = ix3 (y 0) (y 1) (y 2))).trans (pay_11 m c t (y 0) (y 1) (y 2))).trans (congrArg (vNew m c) (?_ : ix3 (y 0) (y 1) (y 2) = _))
  · blk_ext
  · blk_ext [idx_11 t]

/-- The cached keys, as the body computes them. -/
theorem pay_12 (t : Fin cfg0.N) (b : Fin 32) (t' : Fin 4096) (h : Fin 16) (e : Fin 128) : k0_pay5 (iblk m c 6 t) (iblk m c 4 t) (ix4 b t' h e) = kAll m c (ix4 b t' h e) :=
  (pay5_apply _ _ b t' h e).trans (congrArg₂ (fun a a' : EReal => a * a') (blk_6 m c t b t' h e) (blk_4 m c t h e))

/-- The cached keys, in the array the launch leaves. -/
theorem arrAt_12 : (dats m 0 c).arrAt 12 cfg0.N = kAll m c := by
  refine (dats m 0 c).arrAt_eq_of_covers 12 (kAll m c) (by decide +kernel) fun t hf y => ?_
  blk_simp
  rw [after0_12]
  frame_out
  refine ((congrArg (k0_pay5 (iblk m c 6 t) (iblk m c 4 t)) (?_ : (y : S32x4096x16x128.Idx) = ix4 (y 0) (y 1) (y 2) (y 3))).trans (pay_12 m c t (y 0) (y 1) (y 2) (y 3))).trans (congrArg (kAll m c) (?_ : ix4 (y 0) (y 1) (y 2) (y 3) = _))
  · blk_ext
  · blk_ext [idx_12 t]

/-- The cached values, as the body computes them. -/
theorem pay_13 (t : Fin cfg0.N) (b : Fin 32) (t' : Fin 4096) (h : Fin 16) (e : Fin 128) : k0_pay6 (iblk m c 7 t) (iblk m c 5 t) (ix4 b t' h e) = vAll m c (ix4 b t' h e) :=
  (pay6_apply _ _ b t' h e).trans (congrArg₂ (fun a a' : EReal => a * a') (blk_7 m c t b t' h e) (blk_5 m c t h e))

/-- The cached values, in the array the launch leaves. -/
theorem arrAt_13 : (dats m 0 c).arrAt 13 cfg0.N = vAll m c := by
  refine (dats m 0 c).arrAt_eq_of_covers 13 (vAll m c) (by decide +kernel) fun t hf y => ?_
  blk_simp
  rw [after0_13]
  frame_out
  refine ((congrArg (k0_pay6 (iblk m c 7 t) (iblk m c 5 t)) (?_ : (y : S32x4096x16x128.Idx) = ix4 (y 0) (y 1) (y 2) (y 3))).trans (pay_13 m c t (y 0) (y 1) (y 2) (y 3))).trans (congrArg (vAll m c) (?_ : ix4 (y 0) (y 1) (y 2) (y 3) = _))
  · blk_ext
  · blk_ext [idx_13 t]

/-- The softmax scale, in the array the launch leaves. -/
theorem arrAt_14 : (dats m 0 c).arrAt 14 cfg0.N = fun _ : S16x8.Idx => sm := by
  refine (dats m 0 c).arrAt_eq_of_covers 14 _ (by decide +kernel) fun t hf y => ?_
  blk_simp
  rw [after0_14]
  frame_out
  exact pay7_apply _

end Cert.ReferenceIdeal.Entry

end
-- ==== Proof.ReferenceIdeal.Tail.lean ====
/- What the reference computes after its launch. -/
module

public import proofs.«01_k».proof.Proof.ReferenceIdeal.Entry
public import Idealize.ShloMosaic.Lib.Pipeline.ValueKit
public import Idealize.ShloMosaic.Lib.Claim

@[expose] public section

set_option maxRecDepth 16384

noncomputable section

namespace Cert.ReferenceIdeal.Tail

open Cert.ReferenceIdeal Cert.ReferenceIdeal.Gen
open Cert.Attention Cert.Softmax Cert.ReferenceIdeal.Entry
open Idealize.ShloMosaic Idealize.ShloMosaic.TcCoe Idealize.ShloMosaic.Tactic

/-- The least value. -/
theorem ofBits_bot : Ideal.ofBits .f32 0xFF800000#32 = ⊥ := by
  simp [Ideal.ofBits, Ideal.ieee]

/-- A maximum along the last of four axes. -/
theorem max_read {n0 n1 n2 n3 : ℕ} (h : (⟨4, ![n0, n1, n2, n3]⟩ : Shape).ReducesTo [3] ⟨3, ![n0, n1, n2]⟩) (x : FVec Ideal ⟨4, ![n0, n1, n2, n3]⟩ .f32)
    (hu : 0 < S_.numel) (b : Fin n0) (c : Fin n1) (d : Fin n2) :
    Host.reduce FloatOps.maximumf x (constant (F := Ideal) S_ .f32 0xFF800000#32) h hu (ix3 b c d) = Finset.univ.sup fun k => x (ix4 b c d k) := by
  rw [Host.reduce_eq_fold, h.fold_fiber_r4_a3]
  unfold Finset.sup
  refine Eq.trans ?_ (congrArg (fun z : EReal => Finset.fold max z (fun k => x (ix4 b c d k)) Finset.univ) ofBits_bot)
  rfl

/-- The greater of a maximum along the last of four axes and another value. -/
theorem max_max_read {n0 n1 n2 n3 : ℕ} (h : (⟨4, ![n0, n1, n2, n3]⟩ : Shape).ReducesTo [3] ⟨3, ![n0, n1, n2]⟩) (x : FVec Ideal ⟨4, ![n0, n1, n2, n3]⟩ .f32)
    (hu : 0 < S_.numel) (y : FVec Ideal ⟨3, ![n0, n1, n2]⟩ .f32) (b : Fin n0) (c : Fin n1) (d : Fin n2) :
    maximumf (Host.reduce FloatOps.maximumf x (constant (F := Ideal) S_ .f32 0xFF800000#32) h hu) y (ix3 b c d)
      = max (Finset.univ.sup fun k => x (ix4 b c d k)) (y (ix3 b c d)) :=
  congrArg₂ max (max_read h x hu b c d) rfl

/-! ## The operations after the launch -/

section
variable (q : FVec Ideal S32x1x16384 .bf16) (kn vn : FVec Ideal S32x16x128 .bf16) (kc vc : FVec Ideal S32x4096x16x128 .bf16) (sc : FVec Ideal S16x8 .f32)

/-- The queries, one row per head and query of the head. -/
def heads : FVec Ideal S32x16x8x128 .bf16 := shapeCast S32x16x8x128 q shapeCasts_S32x1x16384_S32x16x8x128

/-- The scores of the cached tokens. -/
def s : FVec Ideal S32x16x8x4096 .f32 :=
  mulf (Host.dotGeneral dot_S32x16x8x128_S32x4096x16x128_S32x16x8x4096_3_3_2_1_01_02 none (heads q) kc)
    (broadcastInDim S32x16x8x4096 ![0, 1, 2, 3] bcast_S1x16x8x1_S32x16x8x4096_0_1_2_3
      (broadcastInDim S1x16x8x1 ![1, 2, 3] bcast_S16x8x1_S1x16x8x1_1_2_3 (broadcastInDim S16x8x1 ![0, 1] bcast_S16x8_S16x8x1_0_1 sc)))

/-- The score of the new token. -/
def sn : FVec Ideal S32x16x8 .f32 :=
  mulf (Host.dotGeneral dot_S32x16x8x128_S32x16x128_S32x16x8_3_2_2_n_01_01 none (heads q) kn)
    (broadcastInDim S32x16x8 ![0, 1, 2] bcast_S1x16x8_S32x16x8_0_1_2 (broadcastInDim S1x16x8 ![1, 2] bcast_S16x8_S1x16x8_1_2 sc))

/-- The maximum of the scores. -/
def top : FVec Ideal S32x16x8 .f32 :=
  maximumf (Host.reduce FloatOps.maximumf (s q kc sc) (constant S_ .f32 0xFF800000#32) reducesTo_S32x16x8x4096_S32x16x8_d3 h_S_) (sn q kn sc)

/-- The exponentials of the cached tokens. -/
def p : FVec Ideal S32x16x8x4096 .f32 :=
  Host.exp (subf (s q kc sc) (broadcastInDim S32x16x8x4096 ![0, 1, 2, 3] bcast_S32x16x8x1_S32x16x8x4096_0_1_2_3
    (broadcastInDim S32x16x8x1 ![0, 1, 2] bcast_S32x16x8_S32x16x8x1_0_1_2 (top q kn kc sc))))

/-- The exponential of the new token. -/
def pn : FVec Ideal S32x16x8 .f32 := Host.exp (subf (sn q kn sc) (top q kn kc sc))

/-- The sum of the exponentials. -/
def den : FVec Ideal S32x16x8 .f32 :=
  addf (Host.reduceAdd (p q kn kc sc) (constant S_ .f32 0x00000000#32) reducesTo_S32x16x8x4096_S32x16x8_d3 h_S_) (pn q kn kc sc)

/-- The sum of the values under the exponentials. -/
def num : FVec Ideal S32x16x8x128 .f32 :=
  addf (Host.dotGeneral dot_S32x16x8x4096_S32x4096x16x128_S32x16x8x128_3_1_2_3_01_02 none (p q kn kc sc) (extf .f32 vc bitsLt_bf16_f32))
    (mulf
      (broadcastInDim S32x16x8x128 ![0, 1, 2, 3] bcast_S32x16x8x1_S32x16x8x128_0_1_2_3
        (broadcastInDim S32x16x8x1 ![0, 1, 2] bcast_S32x16x8_S32x16x8x1_0_1_2 (pn q kn kc sc)))
      (broadcastInDim S32x16x8x128 ![0, 1, 2, 3] bcast_S32x16x1x128_S32x16x8x128_0_1_2_3
        (broadcastInDim S32x16x1x128 ![0, 1, 3] bcast_S32x16x128_S32x16x1x128_0_1_3 (extf .f32 vn bitsLt_bf16_f32))))

/-- The attention rows. -/
def rows : FVec Ideal S32x16x8x128 .f32 :=
  Host.divf (num q kn vn kc vc sc) (broadcastInDim S32x16x8x128 ![0, 1, 2, 3] bcast_S32x16x8x1_S32x16x8x128_0_1_2_3
    (broadcastInDim S32x16x8x1 ![0, 1, 2] bcast_S32x16x8_S32x16x8x1_0_1_2 (den q kn kc sc)))

/-- The first result. -/
def out : FVec Ideal S32x1x16384 .bf16 := truncf .bf16 (shapeCast S32x1x16384 (rows q kn vn kc vc sc) shapeCasts_S32x16x8x128_S32x1x16384) bitsLt_bf16_f32

/-! ## Read at an index -/

/-- The queries. -/
theorem heads_apply (b : Fin 32) (h : Fin 16) (g : Fin 8) (e : Fin 128) :
    heads q (ix4 b h g e) = q (ix3 b 0 ⟨h.val * 1024 + g.val * 128 + e.val, by omega⟩) := by
  unfold heads
  pointwise

/-- The score of a cached token. -/
theorem s_apply (b : Fin 32) (h : Fin 16) (g : Fin 8) (t : Fin 4096) :
    s q kc sc (ix4 b h g t) = (∑ e : Fin 128, heads q (ix4 b h g e) * kc (ix4 b t h e)) * sc (ix2 h g) := by
  unfold s
  pointwise

/-- The score of the new token. -/
theorem sn_apply (b : Fin 32) (h : Fin 16) (g : Fin 8) :
    sn q kn sc (ix3 b h g) = (∑ e : Fin 128, heads q (ix4 b h g e) * kn (ix3 b h e)) * sc (ix2 h g) := by
  unfold sn
  pointwise

/-- The maximum of the scores. -/
theorem top_apply (b : Fin 32) (h : Fin 16) (g : Fin 8) :
    top q kn kc sc (ix3 b h g) = max (Finset.univ.sup fun t => s q kc sc (ix4 b h g t)) (sn q kn sc (ix3 b h g)) := by
  unfold top
  exact max_max_read _ _ _ _ b h g

/-- The exponential of a cached token. -/
theorem p_apply (b : Fin 32) (h : Fin 16) (g : Fin 8) (t : Fin 4096) :
    p q kn kc sc (ix4 b h g t) = Ideal.exp (s q kc sc (ix4 b h g t) - top q kn kc sc (ix3 b h g)) := by
  unfold p
  pointwise

/-- The exponential of the new token. -/
theorem pn_apply (b : Fin 32) (h : Fin 16) (g : Fin 8) :
    pn q kn kc sc (ix3 b h g) = Ideal.exp (sn q kn sc (ix3 b h g) - top q kn kc sc (ix3 b h g)) := by
  unfold pn
  pointwise

/-- The sum of the exponentials. -/
theorem den_apply (b : Fin 32) (h : Fin 16) (g : Fin 8) :
    den q kn kc sc (ix3 b h g) = (∑ t : Fin 4096, p q kn kc sc (ix4 b h g t)) + pn q kn kc sc (ix3 b h g) := by
  unfold den
  pointwise

/-- The sum of the values under the exponentials. -/
theorem num_apply (b : Fin 32) (h : Fin 16) (g : Fin 8) (d : Fin 128) :
    num q kn vn kc vc sc (ix4 b h g d) = (∑ t : Fin 4096, p q kn kc sc (ix4 b h g t) * vc (ix4 b t h d)) + pn q kn kc sc (ix3 b h g) * vn (ix3 b h d) := by
  unfold num
  pointwise

/-- An attention row. -/
theorem rows_apply (b : Fin 32) (h : Fin 16) (g : Fin 8) (d : Fin 128) :
    rows q kn vn kc vc sc (ix4 b h g d) = Ideal.div (num q kn vn kc vc sc (ix4 b h g d)) (den q kn kc sc (ix3 b h g)) := by
  unfold rows
  pointwise

/-- The first result is the attention rows, head after head. -/
theorem out_apply (i : S32x1x16384.Idx) :
    out q kn vn kc vc sc i = rows q kn vn kc vc sc (ix4 (i 0) ⟨(i 2).val / 1024, by idx_bounds i; omega⟩ ⟨(i 2).val / 128 % 8, by omega⟩ ⟨(i 2).val % 128, by omega⟩) := by
  unfold out
  pointwise

end

/-! ## The plain form of attention -/

/-- A supremum over the numbers below `n` is one over `Fin n`. -/
theorem sup_range (n : ℕ) (f : ℕ → EReal) : (Finset.range n).sup f = Finset.univ.sup fun i : Fin n => f i :=
  le_antisymm (Finset.sup_le fun i hi => Finset.le_sup (f := fun i : Fin n => f i) (Finset.mem_univ (⟨i, Finset.mem_range.mp hi⟩ : Fin n)))
    (Finset.sup_le fun i _ => Finset.le_sup (f := f) (Finset.mem_range.mpr i.isLt))

/-- The plain form over the cached tokens. -/
theorem plain_fin (s v : ℕ → EReal) (sn vn : EReal) : plain s v sn vn =
    Ideal.div ((∑ t : Fin 4096, Ideal.exp (s t - max (Finset.univ.sup fun t : Fin 4096 => s t) sn) * v t)
        + Ideal.exp (sn - max (Finset.univ.sup fun t : Fin 4096 => s t) sn) * vn)
      ((∑ t : Fin 4096, Ideal.exp (s t - max (Finset.univ.sup fun t : Fin 4096 => s t) sn))
        + Ideal.exp (sn - max (Finset.univ.sup fun t : Fin 4096 => s t) sn)) := by
  unfold plain
  dsimp only
  rw [sup_range, Finset.sum_range, Finset.sum_range]

/-- The attention rows in the plain form, from scores and values that agree with `S` and `V`. -/
theorem rows_plain (q : FVec Ideal S32x1x16384 .bf16) (kn vn : FVec Ideal S32x16x128 .bf16) (kc vc : FVec Ideal S32x4096x16x128 .bf16)
    (sc : FVec Ideal S16x8 .f32) (b : Fin 32) (h : Fin 16) (g : Fin 8) (d : Fin 128) (S V : ℕ → EReal) (Sn Vn : EReal)
    (hS : ∀ t : Fin 4096, s q kc sc (ix4 b h g t) = S t) (hV : ∀ t : Fin 4096, vc (ix4 b t h d) = V t)
    (hSn : sn q kn sc (ix3 b h g) = Sn) (hVn : vn (ix3 b h d) = Vn) : rows q kn vn kc vc sc (ix4 b h g d) = plain S V Sn Vn := by
  rw [rows_apply, num_apply, den_apply, plain_fin]
  simp only [p_apply, pn_apply, top_apply, hS, hV, hSn, hVn]

/-- What a cache holds of a token, dequantised. -/
theorem deq_tok (X : FVec Ideal S32x4096x16x128 .fp8e4m3) (k : FVec Ideal S16 .f32) (b : Fin 32) (t : Fin 4096) (h : Fin 16) (e : Fin 128) :
    deq X k (ix4 b t h e) = tok X b h e t * k (ix1 h) := by
  unfold deq tok
  rw [dif_pos t.isLt]
  rfl

section
variable (m : (ℓ : Loc nD τ sig) → Buf (Elt Ideal) ℓ) (c : Dev nD)

/-- The attention of every query head, from the arguments. -/
def attn (b : Fin 32) (r d : Fin 128) : EReal :=
  attention (m (c, main_arg0)) (m (c, main_arg1)) (m (c, main_arg2)) (m (c, main_arg3)) (m (c, main_arg5)) (m (c, main_arg4)) (m (c, main_arg6))
    (kinv m c) (vinv m c) b r d

/-- The reference's attention rows, from its arguments. -/
theorem rows_attn (b : Fin 32) (r d : Fin 128) :
    rows (m (c, main_arg0)) (kNew m c) (vNew m c) (kAll m c) (vAll m c) (fun _ => sm) (ix4 b (headOf r) ⟨r.val % 8, by omega⟩ d) = attn m c b r d := by
  unfold attn attention
  have hq : ∀ e : Fin 128, heads (m (c, main_arg0)) (ix4 b (headOf r) ⟨r.val % 8, by omega⟩ e)
      = (m (c, main_arg0) : FVec Ideal S32x1x16384 .bf16) (ix3 b 0 ⟨r.val * 128 + e.val, by omega⟩) := fun e => by
    refine (heads_apply _ _ _ _ _).trans (congrArg (fun a => (m (c, main_arg0) : FVec Ideal S32x1x16384 .bf16) (ix3 b 0 a)) (Fin.ext ?_))
    unfold headOf
    dsimp only
    omega
  refine rows_plain _ _ _ _ _ _ _ _ _ _ _ _ _ _ (fun t => ?_) (fun t => ?_) ?_ ?_
  · refine (s_apply _ _ _ _ _ _ _).trans (congrArg₂ (fun a a' : EReal => a * a') (Finset.sum_congr rfl fun e _ => ?_) rfl)
    exact congrArg₂ (fun a a' : EReal => a * a') (hq e) (deq_tok _ _ _ _ _ _)
  · exact deq_tok _ _ _ _ _ _
  · refine (sn_apply _ _ _ _ _ _).trans (congrArg₂ (fun a a' : EReal => a * a') (Finset.sum_congr rfl fun e _ => ?_) rfl)
    exact congrArg₂ (fun a a' : EReal => a * a') (hq e) rfl
  · rfl
end

/-- The first result, from what the operations after the launch find. -/
theorem tail (V0 : Valuation τ sig (Elt Ideal)) :
    StableHlo.after (List.flatten [hostOps1 (F := Ideal)]) V0 (Proc.devRef .tc main_v72)
      = out (V0 (Proc.devRef .tc main_arg0)) (V0 (Proc.devRef .tc main_v38_2)) (V0 (Proc.devRef .tc main_v38_3)) (V0 (Proc.devRef .tc main_v38_4))
          (V0 (Proc.devRef .tc main_v38_5)) (V0 (Proc.devRef .tc main_v38_6)) := by
  simp only [hostOps1, List.flatten_cons, List.flatten_nil, List.append_nil]
  after_results_simp
  rfl

end Cert.ReferenceIdeal.Tail

end
-- ==== Proof.ReferenceIdeal.Run.lean ====
/- The run of the idealized reference, with its results as functions of its arguments. -/
module

public import proofs.«01_k».proof.Proof.Value.Results
public import proofs.«01_k».proof.Proof.ReferenceIdeal.Tail
public import Idealize.ShloMosaic.Lib.StableHlo.Run
public import Idealize.ShloMosaic.Lib.Pipeline.FrameSuffix

@[expose] public section

set_option maxRecDepth 16384

noncomputable section

namespace Cert.ReferenceIdeal.Result

open Cert.ReferenceIdeal Cert.ReferenceIdeal.Gen Cert.ReferenceIdeal.Entry Cert.ReferenceIdeal.Tail
open Cert.Attention
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! ## The tables -/

/-- The reference inverts the scales by the same tables as the kernel. -/
theorem lit0_eq : lit0 = Cert.KernelIdeal.lit0 := rfl
/-- The reference inverts the scales by the same tables as the kernel. -/
theorem lit1_eq : lit1 = Cert.KernelIdeal.lit1 := rfl
/-- The reference inverts the scales by the same tables as the kernel. -/
theorem lit2_eq : lit2 = Cert.KernelIdeal.lit2 := rfl
/-- The reference inverts the scales by the same tables as the kernel. -/
theorem lit3_eq : lit3 = Cert.KernelIdeal.lit3 := rfl

/-! ## The operations after the launch -/

/-- The second result is a rearrangement of the launch's first array. -/
theorem tail_main_v73 (V0 : Valuation τ sig (Elt Ideal)) : after (List.flatten [hostOps1]) V0 (Proc.devRef .tc main_v73)
    = (shapeCast S32x1x16x128 (V0 (Proc.devRef .tc main_v38_0)) shapeCasts_S32x16x128_S32x1x16x128 : Vec Ideal S32x1x16x128 .fp8e4m3) := by
  simp only [hostOps1, List.flatten_cons, List.flatten_nil, List.append_nil]
  after_results_simp <;> rfl

/-- The fourth result is a rearrangement of the launch's second array. -/
theorem tail_main_v74 (V0 : Valuation τ sig (Elt Ideal)) : after (List.flatten [hostOps1]) V0 (Proc.devRef .tc main_v74)
    = (shapeCast S32x1x16x128 (V0 (Proc.devRef .tc main_v38_1)) shapeCasts_S32x16x128_S32x1x16x128 : Vec Ideal S32x1x16x128 .fp8e4m3) := by
  simp only [hostOps1, List.flatten_cons, List.flatten_nil, List.append_nil]
  after_results_simp <;> rfl

/-- What the buffers hold when the launch is over. -/
abbrev exitV : Valuation τ sig (Elt Ideal) :=
  Pipeline.withArrays spec0 c (V0 m c) fun w => (dats m 0 c).arrAt w cfg0.N

/-- The queries are as they were. -/
theorem exit_main_arg0 : exitV m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)
/-- The launch's array 0. -/
theorem exit_main_v38_0 : exitV m c (Proc.devRef .tc main_v38_0) = (dats m 0 c).arrAt 8 cfg0.N :=
  Pipeline.withArrays_arr spec0 launch0.win.arr_inj c (V0 m c) _ 8
/-- The launch's array 1. -/
theorem exit_main_v38_1 : exitV m c (Proc.devRef .tc main_v38_1) = (dats m 0 c).arrAt 9 cfg0.N :=
  Pipeline.withArrays_arr spec0 launch0.win.arr_inj c (V0 m c) _ 9
/-- The launch's array 2. -/
theorem exit_main_v38_2 : exitV m c (Proc.devRef .tc main_v38_2) = (dats m 0 c).arrAt 10 cfg0.N :=
  Pipeline.withArrays_arr spec0 launch0.win.arr_inj c (V0 m c) _ 10
/-- The launch's array 3. -/
theorem exit_main_v38_3 : exitV m c (Proc.devRef .tc main_v38_3) = (dats m 0 c).arrAt 11 cfg0.N :=
  Pipeline.withArrays_arr spec0 launch0.win.arr_inj c (V0 m c) _ 11
/-- The launch's array 4. -/
theorem exit_main_v38_4 : exitV m c (Proc.devRef .tc main_v38_4) = (dats m 0 c).arrAt 12 cfg0.N :=
  Pipeline.withArrays_arr spec0 launch0.win.arr_inj c (V0 m c) _ 12
/-- The launch's array 5. -/
theorem exit_main_v38_5 : exitV m c (Proc.devRef .tc main_v38_5) = (dats m 0 c).arrAt 13 cfg0.N :=
  Pipeline.withArrays_arr spec0 launch0.win.arr_inj c (V0 m c) _ 13
/-- The launch's array 6. -/
theorem exit_main_v38_6 : exitV m c (Proc.devRef .tc main_v38_6) = (dats m 0 c).arrAt 14 cfg0.N :=
  Pipeline.withArrays_arr spec0 launch0.win.arr_inj c (V0 m c) _ 14

/-- The first result from equal operands. -/
theorem out_congr {q q' : FVec Ideal S32x1x16384 .bf16} {kn kn' vn vn' : FVec Ideal S32x16x128 .bf16} {kc kc' vc vc' : FVec Ideal S32x4096x16x128 .bf16}
    {sc sc' : FVec Ideal S16x8 .f32} (h0 : q = q') (h1 : kn = kn') (h2 : vn = vn') (h3 : kc = kc') (h4 : vc = vc') (h5 : sc = sc') :
    out q kn vn kc vc sc = out q' kn' vn' kc' vc' sc' := by
  rw [h0, h1, h2, h3, h4, h5]

/-- The first result is the attention rows. -/
theorem fin_main_v72 : Pipeline.afterTail₀ cfgs (dats m) 0 (V0 m) [hostOps1] c main_v72
    = attended (m (c, main_arg0)) (m (c, main_arg1)) (m (c, main_arg2)) (m (c, main_arg3)) (m (c, main_arg4)) (m (c, main_arg5)) (m (c, main_arg6)) := by
  refine (tail (exitV m c)).trans ?_
  refine (out_congr (exit_main_arg0 m c) ((exit_main_v38_2 m c).trans (arrAt_10 m c)) ((exit_main_v38_3 m c).trans (arrAt_11 m c))
    ((exit_main_v38_4 m c).trans (arrAt_12 m c)) ((exit_main_v38_5 m c).trans (arrAt_13 m c)) ((exit_main_v38_6 m c).trans (arrAt_14 m c))).trans ?_
  refine funext fun i => (out_apply _ _ _ _ _ _ i).trans ?_
  refine Eq.trans ?_ (rows_attn m c (i 0) ⟨(i 2).val / 128, by idx_bounds i; omega⟩ ⟨(i 2).val % 128, by omega⟩)
  refine congrArg₂ (fun h g => rows (m (c, main_arg0)) (kNew m c) (vNew m c) (kAll m c) (vAll m c) (fun _ => sm)
    (ix4 (i 0) h g ⟨(i 2).val % 128, by omega⟩)) (Fin.ext ?_) (Fin.ext rfl)
  unfold headOf
  dsimp only
  omega

/-- The second result is the codes of the new keys. -/
theorem fin_main_v73 : Pipeline.afterTail₀ cfgs (dats m) 0 (V0 m) [hostOps1] c main_v73
    = stored Cert.KernelIdeal.lit0 Cert.KernelIdeal.lit1 (m (c, main_arg1)) (m (c, main_arg4)) := by
  refine (tail_main_v73 (exitV m c)).trans ?_
  refine (congrArg (fun A : Vec Ideal S32x16x128 .fp8e4m3 => shapeCast S32x1x16x128 A shapeCasts_S32x16x128_S32x1x16x128)
    ((exit_main_v38_0 m c).trans (arrAt_8 m c))).trans ?_
  exact funext fun i => codes_read (kCodes m c) _ i

/-- The fourth result is the codes of the new values. -/
theorem fin_main_v74 : Pipeline.afterTail₀ cfgs (dats m) 0 (V0 m) [hostOps1] c main_v74
    = stored Cert.KernelIdeal.lit2 Cert.KernelIdeal.lit3 (m (c, main_arg2)) (m (c, main_arg6)) := by
  refine (tail_main_v74 (exitV m c)).trans ?_
  refine (congrArg (fun A : Vec Ideal S32x16x128 .fp8e4m3 => shapeCast S32x1x16x128 A shapeCasts_S32x16x128_S32x1x16x128)
    ((exit_main_v38_1 m c).trans (arrAt_9 m c))).trans ?_
  exact funext fun i => codes_read (vCodes m c) _ i

/-- Every run of the idealized reference ends with the attention rows and the new codes, and leaves its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v72) = attended (m (c, main_arg0)) (m (c, main_arg1)) (m (c, main_arg2)) (m (c, main_arg3)) (m (c, main_arg4)) (m (c, main_arg5)) (m (c, main_arg6))
      ∧ r.2.mem ((c.tc : Thread nD τ).loc main_v73) = stored Cert.KernelIdeal.lit0 Cert.KernelIdeal.lit1 (m (c, main_arg1)) (m (c, main_arg4))
      ∧ r.2.mem ((c.tc : Thread nD τ).loc main_arg4) = m ((c.tc : Thread nD τ).loc main_arg4)
      ∧ r.2.mem ((c.tc : Thread nD τ).loc main_v74) = stored Cert.KernelIdeal.lit2 Cert.KernelIdeal.lit3 (m (c, main_arg2)) (m (c, main_arg6))
      ∧ r.2.mem ((c.tc : Thread nD τ).loc main_arg6) = m ((c.tc : Thread nD τ).loc main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v72 (Pipeline.mem_restRefs_of main_v72 (by decide) (by decide))).trans (fin_main_v72 m c),
      ((h c).2 main_v73 (Pipeline.mem_restRefs_of main_v73 (by decide) (by decide))).trans (fin_main_v73 m c),
      ((h c).2 main_arg4 (Pipeline.mem_restRefs_of main_arg4 (by decide) (by decide))).trans (W_main_arg4 m (dats m) c),
      ((h c).2 main_v74 (Pipeline.mem_restRefs_of main_v74 (by decide) (by decide))).trans (fin_main_v74 m c),
      ((h c).2 main_arg6 (Pipeline.mem_restRefs_of main_arg6 (by decide) (by decide))).trans (W_main_arg6 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 6).trans (((dats m 0 c).arrAt_in 6 rfl _).trans ((A_eq m c 6).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c)⟩)
    (run_main m ρ)

end Cert.ReferenceIdeal.Result

end
-- ==== Proof.Value.Precondition.lean ====
/- The precondition, read back: the scales are finite and not negative. -/
module

public import proofs.«01_k».proof.Pre_scales_are_finite_and_nonnegative
public import Idealize.ShloMosaic.Lib.Affine
public import Idealize.ShloMosaic.Lib.ReduceAll
public import Idealize.ShloMosaic.Lib.Exec
public import Idealize.ShloMosaic.Lib.Claim
public import Idealize.ShloMosaic.Lib.Pipeline.ValueKit

@[expose] public section

set_option maxRecDepth 16384

noncomputable section

namespace Cert.Precondition

open Cert.Pre_scales_are_finite_and_nonnegative
open Idealize.ShloMosaic Idealize.ShloMosaic.Tactic

/-- The side conditions of the operations the precondition is written with. -/
instance facts : Cert.Pre_scales_are_finite_and_nonnegative.Facts where
  bcast_S_S16 := by decide
  reducesTo_S16_S_d0 := by decide
  h_S_ := by decide

/-- The zero. -/
theorem ofBits_zero : Ideal.ofBits .f32 0x00000000#32 = 0 := by
  simp [Ideal.ofBits, Ideal.ieee]

/-- The greatest value. -/
theorem ofBits_top : Ideal.ofBits .f32 0x7F800000#32 = ⊤ := by
  simp [Ideal.ofBits, Ideal.ieee]

/-- A comparison "not less than" that holds. -/
theorem le_of_cmp {a b : EReal} (h : Ideal.cmp .oge a b = 1#1) : b ≤ a := by
  by_contra h'
  simp [Ideal.cmp, h'] at h

/-- A comparison "less than" that holds. -/
theorem lt_of_cmp {a b : EReal} (h : Ideal.cmp .olt a b = 1#1) : a < b := by
  by_contra h'
  simp [Ideal.cmp, h'] at h

/-- What the precondition says of the scales `k` and `v`: no element is negative and none is infinite. -/
theorem scales (a0 : FVec Ideal S32x1x16384 .bf16) (a1 a2 : FVec Ideal S32x1x16x128 .bf16) (a3 : FVec Ideal S32x4096x16x128 .fp8e4m3) (k : FVec Ideal S16 .f32)
    (a5 : FVec Ideal S32x4096x16x128 .fp8e4m3) (v : FVec Ideal S16 .f32) (H : fn (F := Ideal) a0 a1 a2 a3 k a5 v = fun _ => 1#1) (h : Fin 16) :
    ((0 : EReal) ≤ k (ix1 h) ∧ k (ix1 h) ≠ (⊤ : EReal)) ∧ ((0 : EReal) ≤ v (ix1 h) ∧ v (ix1 h) ≠ (⊤ : EReal)) := by
  dsimp only [fn] at H
  haveI : Subsingleton S_.Idx := ⟨fun a b => funext fun j => j.elim0⟩
  have e := Host.reduce_andi_all _ _ _ _ _ (congrFun H (fun j => j.elim0)) (ix1 h)
  obtain ⟨e, e4⟩ := IntOp.andi_eq_one.1 e
  obtain ⟨e, e3⟩ := IntOp.andi_eq_one.1 e
  obtain ⟨e1, e2⟩ := IntOp.andi_eq_one.1 e
  have e1' : Ideal.ofBits .f32 0x00000000#32 ≤ k (ix1 h) := le_of_cmp e1
  have e2' : k (ix1 h) < Ideal.ofBits .f32 0x7F800000#32 := lt_of_cmp e2
  have e3' : Ideal.ofBits .f32 0x00000000#32 ≤ v (ix1 h) := le_of_cmp e3
  have e4' : v (ix1 h) < Ideal.ofBits .f32 0x7F800000#32 := lt_of_cmp e4
  rw [ofBits_zero] at e1' e3'
  rw [ofBits_top] at e2' e4'
  exact ⟨⟨e1', ne_of_lt e2'⟩, e3', ne_of_lt e4'⟩

end Cert.Precondition

end
-- ==== Proof.lean ====
/- The claim: the kernel and the reference terminate without fault and leave their arguments as they were, the two ideal programs
   differ from the printed ones by the named constants alone, and over the extended reals the kernel returns what the reference
   returns wherever the scales are finite and not negative. -/
module

public import proofs.«01_k».proof.Defs
public import proofs.«01_k».proof.Proof.Kernel.Frame
public import proofs.«01_k».proof.Proof.KernelIdeal.Frame
public import proofs.«01_k».proof.Proof.KernelIdeal.Run
public import proofs.«01_k».proof.Proof.ReferenceIdeal.Run
public import proofs.«01_k».proof.Proof.Value.Precondition
public import proofs.«01_k».proof.Proof.Gen.ReferenceIdeal
public import proofs.«01_k».proof.Proof.Gen.ReferenceIdeal.Frame
public import proofs.«01_k».proof.Proof.Gen.Reference
public import proofs.«01_k».proof.Proof.Gen.Reference.Frame

@[expose] public section

noncomputable section

namespace Cert.Proof

open Cert.Attention
open Idealize.ShloMosaic Idealize.ShloMosaic.TcCoe Idealize.ShloMosaic.Tactic Idealize.SL.Sem

/-- The kernel's constants and the numbers they are read as. -/
theorem preserves_kernel : preserves_Kernel_KernelIdeal :=
  ⟨IdealRules.named_const.statement Cert.KernelIdeal.κ "score_scale" .f32 0x3E0293EE#32 _ rfl,
    IdealRules.named_const.statement Cert.KernelIdeal.κ "no_score" .f32 0xF149F2CA#32 _ rfl⟩

/-- The reference's constant and the number it is read as. -/
theorem preserves_reference : preserves_Reference_ReferenceIdeal :=
  IdealRules.named_const.statement Cert.ReferenceIdeal.κ "sm_scale" .f32 0x3DB504F3#32 _ rfl

/-- The attention rows of equal arguments. -/
theorem attended_congr {q q' : Vec Ideal Cert.KernelIdeal.S32x1x16384 .bf16} {kn kn' vn vn' : Vec Ideal Cert.KernelIdeal.S32x1x16x128 .bf16}
    {kc kc' vc vc' : Vec Ideal Cert.KernelIdeal.S32x4096x16x128 .fp8e4m3} {ks ks' vs vs' : FVec Ideal Cert.KernelIdeal.S16 .f32}
    (h0 : q = q') (h1 : kn = kn') (h2 : vn = vn') (h3 : kc = kc') (h4 : ks = ks') (h5 : vc = vc') (h6 : vs = vs') :
    attended q kn vn kc ks vc vs = attended q' kn' vn' kc' ks' vc' vs' := by
  rw [h0, h1, h2, h3, h4, h5, h6]

/-- The kernel returns what the reference returns, over the extended reals and for scales that are finite and not negative. -/
theorem algebraic : algebraic_KernelIdeal_ReferenceIdeal_pre_scales_are_finite_and_nonnegative := by
  intro m g m' g' hpre hargs
  have hs := fun (c : Dev Cert.KernelIdeal.nD) (h : Fin 16) => Cert.Precondition.scales _ _ _ _ _ _ _ (hpre c) h
  refine ⟨_, _, _, _, _, Cert.KernelIdeal.Result.run m g (fun c h => (hs c h).1.1) (fun c h => (hs c h).1.2) (fun c h => (hs c h).2.1) (fun c h => (hs c h).2.2), ?_⟩
  refine (θ_run Cert.ReferenceIdeal.defs _ _).mono (fun r H c => ?_) (Cert.ReferenceIdeal.Result.run m' g')
  obtain ⟨h0, h1, h2, h3, h4, h5, h6⟩ := hargs c
  obtain ⟨r0, r1, r2, r3, r4, r5⟩ := H c
  exact ⟨r0.trans (attended_congr h0 h1 h2 h3 h4 h5 h6), r1.trans (congrArg₂ (stored _ _) h1 h4), r2.trans h4,
    r3.trans (congrArg₂ (stored _ _) h2 h6), r4.trans h6, r5⟩

/-- Every claim. -/
theorem claim : Cert.Claim := ⟨Cert.Kernel.Gen.facts, Cert.KernelIdeal.Gen.facts, Cert.ReferenceIdeal.Gen.facts, Cert.Reference.Gen.facts,
  Cert.Precondition.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, fun m ρ _ => Cert.Reference.Gen.frame m ρ,
  preserves_kernel, preserves_reference, algebraic⟩

end Cert.Proof

end
